-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_bounded [hPre_positions_bounded : Cert.Pre_positions_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_positions_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_bounded [hPre_positions_bounded : Cert.Pre_positions_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_positions_bounded [hKernelIdeal : Cert.KernelIdeal.Facts] [hPre_positions_bounded : Cert.Pre_positions_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_positions_bounded [hReferenceIdeal : Cert.ReferenceIdeal.Facts] [hPre_positions_bounded : Cert.Pre_positions_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "dt" .f32 0x3C23D70A#32 ((1 / 100 : ℝ) : EReal)

def algebraic_KernelIdeal_ReferenceIdeal_pre_positions_bounded [hKernelIdeal : Cert.KernelIdeal.Facts] [hReferenceIdeal : Cert.ReferenceIdeal.Facts] [hPre_positions_bounded : Cert.Pre_positions_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v15_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_positions_bounded : Cert.Pre_positions_bounded.Facts),
    quiescent_Kernel (hKernel := hKernel)
    ∧ quiescent_KernelIdeal (hKernelIdeal := hKernelIdeal)
    ∧ quiescent_KernelIdeal_pre_positions_bounded (hKernelIdeal := hKernelIdeal) (hPre_positions_bounded := hPre_positions_bounded)
    ∧ quiescent_ReferenceIdeal (hReferenceIdeal := hReferenceIdeal)
    ∧ quiescent_ReferenceIdeal_pre_positions_bounded (hReferenceIdeal := hReferenceIdeal) (hPre_positions_bounded := hPre_positions_bounded)
    ∧ preserves_Kernel_KernelIdeal
    ∧ algebraic_KernelIdeal_ReferenceIdeal_pre_positions_bounded (hKernelIdeal := hKernelIdeal) (hReferenceIdeal := hReferenceIdeal) (hPre_positions_bounded := hPre_positions_bounded)
-- ==== Pre_positions_bounded.lean ====
abbrev S256 : Shape := ⟨1, ![256]⟩
abbrev S100x2 : Shape := ⟨2, ![100, 2]⟩
abbrev S64x3 : Shape := ⟨2, ![64, 3]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100x2 : S_.BroadcastsInDim S100x2 (![] : Fin 0 → Fin S100x2.rank)
  reducesTo_S100x2_S_d0_1 : S100x2.ReducesTo [0, 1] S_
  h_S_ : 0 < S_.numel

variable [Facts]

def fn {F : FTy → Type} [FloatOps F] (main_arg0 : FVec F S256 .f32) (main_arg1 : FVec F S100x2 .f32) (main_arg2 : FVec F S100x2 .f32) (main_arg3 : FVec F S64x3 .f32) (main_arg4 : FVec F S64 .f32) (main_arg5 : FVec F S32x64 .f32) (main_arg6 : FVec F S32 .f32) (main_arg7 : FVec F S32 .f32) (main_arg8 : FVec F S32 .f32) : IVec S_ 1 :=
  let main_v0 : FVec F S100x2 .f32 := Host.absf main_arg1
  let main_cst : FVec F S_ .f32 := constant S_ .f32 0x4CBEBC20#32
  let main_v1 : FVec F S100x2 .f32 := broadcastInDim S100x2 ![] bcast_S_S100x2 main_cst
  let main_v2 : IVec S100x2 1 := cmpf .ole main_v0 main_v1
  let main_c : IVec S_ 1 := constantI S_ 1 1#1
  let main_v3 : IVec S_ 1 := (fun x v => Host.reduce IntOp.andi x v reducesTo_S100x2_S_d0_1 h_S_) main_v2 main_c
  main_v3
-- ==== Kernel.lean ====
abbrev S256 : Shape := ⟨1, ![256]⟩
abbrev S100x2 : Shape := ⟨2, ![100, 2]⟩
abbrev S64x3 : Shape := ⟨2, ![64, 3]⟩
abbrev S64 : Shape := ⟨1, ![64]⟩
abbrev S32x64 : Shape := ⟨2, ![32, 64]⟩
abbrev S32 : Shape := ⟨1, ![32]⟩
abbrev S128x128 : Shape := ⟨2, ![128, 128]⟩
abbrev S_ : Shape := ⟨0, ![]⟩
abbrev S128x2 : Shape := ⟨2, ![128, 2]⟩
abbrev S1 : Shape := ⟨1, ![1]⟩
abbrev S128x64 : Shape := ⟨2, ![128, 64]⟩
abbrev S3x64 : Shape := ⟨2, ![3, 64]⟩
abbrev S1x64 : Shape := ⟨2, ![1, 64]⟩
abbrev S64x32 : Shape := ⟨2, ![64, 32]⟩
abbrev S1x32 : Shape := ⟨2, ![1, 32]⟩
abbrev S256x128 : Shape := ⟨2, ![256, 128]⟩
abbrev S256x32 : Shape := ⟨2, ![256, 32]⟩
abbrev S264x128 : Shape := ⟨2, ![264, 128]⟩
abbrev S1x128 : Shape := ⟨2, ![1, 128]⟩
abbrev S128x1 : Shape := ⟨2, ![128, 1]⟩
abbrev S128 : Shape := ⟨1, ![128]⟩
abbrev S128x4 : Shape := ⟨2, ![128, 4]⟩
abbrev S128x6 : Shape := ⟨2, ![128, 6]⟩
abbrev S16x128 : Shape := ⟨2, ![16, 128]⟩
abbrev S2x128 : Shape := ⟨2, ![2, 128]⟩
abbrev S1x1x128 : Shape := ⟨3, ![1, 1, 128]⟩
abbrev S1x1x1 : Shape := ⟨3, ![1, 1, 1]⟩
abbrev S1x128x128 : Shape := ⟨3, ![1, 128, 128]⟩
abbrev S1x128x1 : Shape := ⟨3, ![1, 128, 1]⟩
abbrev S256x64 : Shape := ⟨2, ![256, 64]⟩
abbrev S256x1 : Shape := ⟨2, ![256, 1]⟩

abbrev nBuf : Space → Nat
  | .hbm => 39
  | .vmem => 13
  | .smem => 0
  | _ => 0

abbrev bufTy : (tb : Table) → Fin (tcTables nBuf tb) → BufTy
  | .hbm, ⟨0, _⟩ => ⟨S256, .f32⟩
  | .hbm, ⟨1, _⟩ => ⟨S100x2, .f32⟩
  | .hbm, ⟨2, _⟩ => ⟨S100x2, .f32⟩
  | .hbm, ⟨3, _⟩ => ⟨S64x3, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S128x128, .f32⟩
  | .hbm, ⟨10, _⟩ => ⟨S_, .f32⟩
  | .hbm, ⟨11, _⟩ => ⟨S128x2, .f32⟩
  | .hbm, ⟨12, _⟩ => ⟨S_, .i32⟩
  | .hbm, ⟨13, _⟩ => ⟨S1, .i32⟩
  | .hbm, ⟨14, _⟩ => ⟨S128x2, .f32⟩
  | .hbm, ⟨15, _⟩ => ⟨S_, .f32⟩
  | .hbm, ⟨16, _⟩ => ⟨S128x2, .f32⟩
  | .hbm, ⟨17, _⟩ => ⟨S_, .i32⟩
  | .hbm, ⟨18, _⟩ => ⟨S1, .i32⟩
  | .hbm, ⟨19, _⟩ => ⟨S128x2, .f32⟩
  | .hbm, ⟨20, _⟩ => ⟨S_, .f32⟩
  | .hbm, ⟨21, _⟩ => ⟨S128x64, .f32⟩
  | .hbm, ⟨22, _⟩ => ⟨S3x64, .f32⟩
  | .hbm, ⟨23, _⟩ => ⟨S_, .i32⟩
  | .hbm, ⟨24, _⟩ => ⟨S1, .i32⟩
  | .hbm, ⟨25, _⟩ => ⟨S128x64, .f32⟩
  | .hbm, ⟨26, _⟩ => ⟨S1x64, .f32⟩
  | .hbm, ⟨27, _⟩ => ⟨S64x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S256x128, .f32⟩
  | .hbm, ⟨32, _⟩ => ⟨S256x32, .f32⟩
  | .hbm, ⟨33, _⟩ => ⟨S256x1, .f32⟩
  | .hbm, ⟨34, _⟩ => ⟨S256, .f32⟩
  | .hbm, ⟨35, _⟩ => ⟨S256x1, .f32⟩
  | .hbm, ⟨36, _⟩ => ⟨S256, .f32⟩
  | .hbm, ⟨37, _⟩ => ⟨S256x1, .f32⟩
  | .hbm, ⟨38, _⟩ => ⟨S256, .f32⟩
  | .local _ .vmem, ⟨0, _⟩ => ⟨S128x128, .f32⟩
  | .local _ .vmem, ⟨1, _⟩ => ⟨S128x2, .f32⟩
  | .local _ .vmem, ⟨2, _⟩ => ⟨S128x2, .f32⟩
  | .local _ .vmem, ⟨3, _⟩ => ⟨S128x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S256x128, .f32⟩
  | .local _ .vmem, ⟨10, _⟩ => ⟨S256x32, .f32⟩
  | .local _ .vmem, ⟨11, _⟩ => ⟨S264x128, .f32⟩
  | .local _ .vmem, ⟨12, _⟩ => ⟨S264x128, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_10 : BitVec 32 := 0#32
  let c256_i32 : BitVec 32 := 256#32
  let v43 : BitVec 32 := Scalar.addi c0_i32_10 c256_i32
  let c1_i32_11 : BitVec 32 := 1#32
  ⟨c0_i32_10, v43, c1_i32_11⟩
def k0_off1 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c1_i32_73 : BitVec 32 := 1#32
  let v333 : BitVec 32 := Scalar.addi arg13 c1_i32_73
  let v334 : Index := Scalar.indexCast v333
  let c0_74 : Index := 0#32
  ![v334.toNat, 0]
@[reducible] def k0_t2_loop : Scf.Loop 32 :=
  let c0_i32_13 : BitVec 32 := 0#32
  let c32_i32 : BitVec 32 := 32#32
  let v45 : BitVec 32 := Scalar.addi c0_i32_13 c32_i32
  let c1_i32_14 : BitVec 32 := 1#32
  ⟨c0_i32_13, v45, c1_i32_14⟩
def k0_off2 (k0_t2 : Fin k0_t2_loop.trips) (c0_i32_39 : BitVec 32) : Fin 2 → Nat :=
  let c0_i32_13 : BitVec 32 := 0#32
  let c1_i32_14 : BitVec 32 := 1#32
  let arg13 : BitVec 32 := Scf.iv c0_i32_13 c1_i32_14 k0_t2
  let c8_i32 : BitVec 32 := 8#32
  let v91 : BitVec 32 := Scalar.muli arg13 c8_i32
  let v92 : BitVec 32 := Scalar.addi v91 c0_i32_39
  let v93 : Index := Scalar.indexCast v92
  let c0_40 : Index := 0#32
  ![v93.toNat, 0]
def k0_off3 (k0_t2 : Fin k0_t2_loop.trips) (c0_i32_39 : BitVec 32) : Fin 2 → Nat :=
  let c0_i32_13 : BitVec 32 := 0#32
  let c1_i32_14 : BitVec 32 := 1#32
  let arg13 : BitVec 32 := Scf.iv c0_i32_13 c1_i32_14 k0_t2
  let c8_i32 : BitVec 32 := 8#32
  let v91 : BitVec 32 := Scalar.muli arg13 c8_i32
  let v92 : BitVec 32 := Scalar.addi v91 c0_i32_39
  let c1_i32_42 : BitVec 32 := 1#32
  let v97 : BitVec 32 := Scalar.addi v92 c1_i32_42
  let v98 : Index := Scalar.indexCast v97
  let c0_43 : Index := 0#32
  ![v98.toNat, 0]
def k0_off4 (k0_t2 : Fin k0_t2_loop.trips) (c0_i32_39 : BitVec 32) : Fin 2 → Nat :=
  let c0_i32_13 : BitVec 32 := 0#32
  let c1_i32_14 : BitVec 32 := 1#32
  let arg13 : BitVec 32 := Scf.iv c0_i32_13 c1_i32_14 k0_t2
  let c8_i32 : BitVec 32 := 8#32
  let v91 : BitVec 32 := Scalar.muli arg13 c8_i32
  let v92 : BitVec 32 := Scalar.addi v91 c0_i32_39
  let v205 : Index := Scalar.indexCast v92
  let c0_78 : Index := 0#32
  ![v205.toNat, 0]
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "dt" => some ((1 / 100 : ℝ) : EReal)
  | _ => none
-- ==== ReferenceIdeal.lean ====
abbrev S256 : Shape := ⟨1, ![256]⟩
abbrev S100x2 : Shape := ⟨2, ![100, 2]⟩
abbrev S64x3 : Shape := ⟨2, ![64, 3]⟩
abbrev S64 : Shape := ⟨1, ![64]⟩
abbrev S32x64 : Shape := ⟨2, ![32, 64]⟩
abbrev S32 : Shape := ⟨1, ![32]⟩
abbrev S_ : Shape := ⟨0, ![]⟩
abbrev S256x100x2 : Shape := ⟨3, ![256, 100, 2]⟩
abbrev S100x1x2 : Shape := ⟨3, ![100, 1, 2]⟩
abbrev S1x100x2 : Shape := ⟨3, ![1, 100, 2]⟩
abbrev S100x100x2 : Shape := ⟨3, ![100, 100, 2]⟩
abbrev S100x100 : Shape := ⟨2, ![100, 100]⟩
abbrev S100 : Shape := ⟨1, ![100]⟩
abbrev S100x1 : Shape := ⟨2, ![100, 1]⟩
abbrev S100x100x1 : Shape := ⟨3, ![100, 100, 1]⟩
abbrev S256x100x1x2 : Shape := ⟨4, ![256, 100, 1, 2]⟩
abbrev S256x1x100x2 : Shape := ⟨4, ![256, 1, 100, 2]⟩
abbrev S256x100x100x2 : Shape := ⟨4, ![256, 100, 100, 2]⟩
abbrev S256x100x100 : Shape := ⟨3, ![256, 100, 100]⟩
abbrev S256x2 : Shape := ⟨2, ![256, 2]⟩
abbrev S1x100 : Shape := ⟨2, ![1, 100]⟩
abbrev S256x100 : Shape := ⟨2, ![256, 100]⟩
abbrev S256x1x100 : Shape := ⟨3, ![256, 1, 100]⟩
abbrev S256x1 : Shape := ⟨2, ![256, 1]⟩
abbrev S256x3 : Shape := ⟨2, ![256, 3]⟩
abbrev S3x64 : Shape := ⟨2, ![3, 64]⟩
abbrev S256x64 : Shape := ⟨2, ![256, 64]⟩
abbrev S1x64 : Shape := ⟨2, ![1, 64]⟩
abbrev S64x32 : Shape := ⟨2, ![64, 32]⟩
abbrev S256x32 : Shape := ⟨2, ![256, 32]⟩
abbrev S1x32 : Shape := ⟨2, ![1, 32]⟩

abbrev nBuf : Space → Nat
  | .hbm => 271
  | .vmem => 0
  | .smem => 0
  | _ => 0

abbrev hbmTy0_0 (i : Nat) : BufTy := match i % 128 with
  | 0 => ⟨S256, .f32⟩
  | 1 => ⟨S100x2, .f32⟩
  | 2 => ⟨S100x2, .f32⟩
  | 3 => ⟨S64x3, .f32⟩
  | 4 => ⟨S64, .f32⟩
  | 5 => ⟨S32x64, .f32⟩
  | 6 => ⟨S32, .f32⟩
  | 7 => ⟨S32, .f32⟩
  | 8 => ⟨S32, .f32⟩
  | 9 => ⟨S_, .f32⟩
  | 10 => ⟨S256x100x2, .f32⟩
  | 11 => ⟨S_, .f32⟩
  | 12 => ⟨S256x100x2, .f32⟩
  | 13 => ⟨S_, .i32⟩
  | 14 => ⟨S_, .i32⟩
  | 15 => ⟨S100x2, .f32⟩
  | 16 => ⟨S100x2, .f32⟩
  | 17 => ⟨S256x100x2, .f32⟩
  | 18 => ⟨S256x100x2, .f32⟩
  | 19 => ⟨S_, .i32⟩
  | 20 => ⟨S_, .i1⟩
  | 21 => ⟨S100x1x2, .f32⟩
  | 22 => ⟨S1x100x2, .f32⟩
  | 23 => ⟨S100x100x2, .f32⟩
  | 24 => ⟨S100x100x2, .f32⟩
  | 25 => ⟨S100x100x2, .f32⟩
  | 26 => ⟨S100x100x2, .f32⟩
  | 27 => ⟨S_, .f32⟩
  | 28 => ⟨S100x100, .f32⟩
  | 29 => ⟨S_, .f32⟩
  | 30 => ⟨S100x100, .f32⟩
  | 31 => ⟨S100x100, .i1⟩
  | 32 => ⟨S_, .f32⟩
  | 33 => ⟨S_, .f32⟩
  | 34 => ⟨S100x100, .f32⟩
  | 35 => ⟨S100x100, .f32⟩
  | 36 => ⟨S100x100, .f32⟩
  | 37 => ⟨S100x100, .f32⟩
  | 38 => ⟨S100x100, .f32⟩
  | 39 => ⟨S_, .f32⟩
  | 40 => ⟨S100x100, .f32⟩
  | 41 => ⟨S100x100, .i1⟩
  | 42 => ⟨S_, .f32⟩
  | 43 => ⟨S100x100, .f32⟩
  | 44 => ⟨S100x100, .i1⟩
  | 45 => ⟨S100x100, .i1⟩
  | 46 => ⟨S100x100, .f32⟩
  | 47 => ⟨S_, .f32⟩
  | 48 => ⟨S100, .f32⟩
  | 49 => ⟨S_, .f32⟩
  | 50 => ⟨S100, .f32⟩
  | 51 => ⟨S100, .f32⟩
  | 52 => ⟨S100x2, .f32⟩
  | 53 => ⟨S100x1, .f32⟩
  | 54 => ⟨S100x2, .f32⟩
  | 55 => ⟨S100x2, .f32⟩
  | 56 => ⟨S100x2, .f32⟩
  | 57 => ⟨S100x1, .f32⟩
  | 58 => ⟨S100x2, .f32⟩
  | 59 => ⟨S100x2, .f32⟩
  | 60 => ⟨S_, .f32⟩
  | 61 => ⟨S100, .f32⟩
  | 62 => ⟨S100, .i1⟩
  | 63 => ⟨S100x1, .i1⟩
  | 64 => ⟨S100x2, .f32⟩
  | 65 => ⟨S_, .f32⟩
  | 66 => ⟨S_, .f32⟩
  | 67 => ⟨S100x2, .i1⟩
  | 68 => ⟨S100x2, .f32⟩
  | 69 => ⟨S100x2, .f32⟩
  | 70 => ⟨S100x2, .f32⟩
  | 71 => ⟨S_, .f32⟩
  | 72 => ⟨S_, .f32⟩
  | 73 => ⟨S100x2, .i1⟩
  | 74 => ⟨S100x2, .f32⟩
  | 75 => ⟨S100x2, .f32⟩
  | 76 => ⟨S_, .f32⟩
  | 77 => ⟨S_, .f32⟩
  | 78 => ⟨S100x100, .f32⟩
  | 79 => ⟨S100x100, .f32⟩
  | 80 => ⟨S_, .f32⟩
  | 81 => ⟨S100x100, .f32⟩
  | 82 => ⟨S100x100, .f32⟩
  | 83 => ⟨S_, .f32⟩
  | 84 => ⟨S_, .f32⟩
  | 85 => ⟨S100x100, .f32⟩
  | 86 => ⟨S100x100, .f32⟩
  | 87 => ⟨S100x100x1, .f32⟩
  | 88 => ⟨S100x100x2, .f32⟩
  | 89 => ⟨S100x100x2, .f32⟩
  | 90 => ⟨S_, .f32⟩
  | 91 => ⟨S100x2, .f32⟩
  | 92 => ⟨S100x2, .f32⟩
  | 93 => ⟨S100x2, .f32⟩
  | 94 => ⟨S_, .f32⟩
  | 95 => ⟨S100x2, .f32⟩
  | 96 => ⟨S100x2, .f32⟩
  | 97 => ⟨S100x2, .f32⟩
  | 98 => ⟨S100x2, .f32⟩
  | 99 => ⟨S_, .f32⟩
  | 100 => ⟨S100, .f32⟩
  | 101 => ⟨S_, .f32⟩
  | 102 => ⟨S100, .f32⟩
  | 103 => ⟨S100, .i1⟩
  | 104 => ⟨S_, .f32⟩
  | 105 => ⟨S_, .f32⟩
  | 106 => ⟨S100, .f32⟩
  | 107 => ⟨S100, .f32⟩
  | 108 => ⟨S100, .f32⟩
  | 109 => ⟨S100, .f32⟩
  | 110 => ⟨S100, .f32⟩
  | 111 => ⟨S_, .f32⟩
  | 112 => ⟨S100, .f32⟩
  | 113 => ⟨S100, .i1⟩
  | 114 => ⟨S100x1, .i1⟩
  | 115 => ⟨S_, .f32⟩
  | 116 => ⟨S100, .f32⟩
  | 117 => ⟨S100, .f32⟩
  | 118 => ⟨S_, .f32⟩
  | 119 => ⟨S100, .f32⟩
  | 120 => ⟨S100, .f32⟩
  | 121 => ⟨S100x1, .f32⟩
  | 122 => ⟨S100x2, .f32⟩
  | 123 => ⟨S100x2, .f32⟩
  | 124 => ⟨S100x2, .i1⟩
  | 125 => ⟨S100x2, .f32⟩
  | 126 => ⟨S_, .f32⟩
  | 127 => ⟨S100x2, .f32⟩
  | _ => ⟨S256, .f32⟩

abbrev hbmTy0_1 (i : Nat) : BufTy := match i % 128 with
  | 0 => ⟨S100x2, .f32⟩
  | 1 => ⟨S100x2, .f32⟩
  | 2 => ⟨S1x100x2, .f32⟩
  | 3 => ⟨S_, .i32⟩
  | 4 => ⟨S_, .i32⟩
  | 5 => ⟨S256x100x2, .f32⟩
  | 6 => ⟨S1x100x2, .f32⟩
  | 7 => ⟨S_, .i32⟩
  | 8 => ⟨S_, .i32⟩
  | 9 => ⟨S256x100x2, .f32⟩
  | 10 => ⟨S_, .i32⟩
  | 11 => ⟨S_, .i32⟩
  | 12 => ⟨S256x100x1x2, .f32⟩
  | 13 => ⟨S256x1x100x2, .f32⟩
  | 14 => ⟨S256x100x100x2, .f32⟩
  | 15 => ⟨S256x100x100x2, .f32⟩
  | 16 => ⟨S256x100x100x2, .f32⟩
  | 17 => ⟨S256x100x100x2, .f32⟩
  | 18 => ⟨S_, .f32⟩
  | 19 => ⟨S256x100x100, .f32⟩
  | 20 => ⟨S_, .f32⟩
  | 21 => ⟨S256x100x100, .f32⟩
  | 22 => ⟨S256x100x100, .i1⟩
  | 23 => ⟨S_, .f32⟩
  | 24 => ⟨S_, .f32⟩
  | 25 => ⟨S256x100x100, .f32⟩
  | 26 => ⟨S256x100x100, .f32⟩
  | 27 => ⟨S256x100x100, .f32⟩
  | 28 => ⟨S256x100x100, .f32⟩
  | 29 => ⟨S256x100x100, .f32⟩
  | 30 => ⟨S_, .f32⟩
  | 31 => ⟨S256x2, .f32⟩
  | 32 => ⟨S_, .f32⟩
  | 33 => ⟨S256x2, .f32⟩
  | 34 => ⟨S256x2, .f32⟩
  | 35 => ⟨S256x2, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .f32⟩
  | 48 => ⟨S256, .f32⟩
  | 49 => ⟨S256, .f32⟩
  | 50 => ⟨S_, .f32⟩
  | 51 => ⟨S256, .f32⟩
  | 52 => ⟨S256, .f32⟩
  | 53 => ⟨S_, .f32⟩
  | 54 => ⟨S256x100x100, .f32⟩
  | 55 => ⟨S256x100x100, .i1⟩
  | 56 => ⟨S100, .i32⟩
  | 57 => ⟨S1x100, .i32⟩
  | 58 => ⟨S256x100, .i32⟩
  | 59 => ⟨S_, .i32⟩
  | 60 => ⟨S_, .i32⟩
  | 61 => ⟨S256x100x100, .i1⟩
  | 62 => ⟨S_, .i32⟩
  | 63 => ⟨S_, .i32⟩
  | 64 => ⟨S256x100, .i32⟩
  | 65 => ⟨S_, .i32⟩
  | 66 => ⟨S_, .i1⟩
  | 67 => ⟨S_, .i32⟩
  | 68 => ⟨S_, .i32⟩
  | 69 => ⟨S256x1x100, .i32⟩
  | 70 => ⟨S_, .i32⟩
  | 71 => ⟨S_, .i32⟩
  | 72 => ⟨S256x100x100, .i32⟩
  | 73 => ⟨S256x100x100, .i32⟩
  | 74 => ⟨S256x100x100, .i32⟩
  | 75 => ⟨S_, .i32⟩
  | 76 => ⟨S256x100, .i32⟩
  | 77 => ⟨S256x100, .i32⟩
  | 78 => ⟨S_, .i32⟩
  | 79 => ⟨S_, .i32⟩
  | 80 => ⟨S100, .i32⟩
  | 81 => ⟨S1x100, .i32⟩
  | 82 => ⟨S256x100, .i32⟩
  | 83 => ⟨S256x100, .i1⟩
  | 84 => ⟨S256x100, .i32⟩
  | 85 => ⟨S_, .i32⟩
  | 86 => ⟨S256, .i32⟩
  | 87 => ⟨S256, .f32⟩
  | 88 => ⟨S_, .f32⟩
  | 89 => ⟨S256, .f32⟩
  | 90 => ⟨S256, .f32⟩
  | 91 => ⟨S256x1, .f32⟩
  | 92 => ⟨S256x1, .f32⟩
  | 93 => ⟨S256x1, .f32⟩
  | 94 => ⟨S256x3, .f32⟩
  | 95 => ⟨S3x64, .f32⟩
  | 96 => ⟨S256x64, .f32⟩
  | 97 => ⟨S1x64, .f32⟩
  | 98 => ⟨S256x64, .f32⟩
  | 99 => ⟨S256x64, .f32⟩
  | 100 => ⟨S_, .f32⟩
  | 101 => ⟨S256x64, .f32⟩
  | 102 => ⟨S256x64, .f32⟩
  | 103 => ⟨S64x32, .f32⟩
  | 104 => ⟨S256x32, .f32⟩
  | 105 => ⟨S1x32, .f32⟩
  | 106 => ⟨S256x32, .f32⟩
  | 107 => ⟨S256x32, .f32⟩
  | 108 => ⟨S_, .f32⟩
  | 109 => ⟨S256, .f32⟩
  | 110 => ⟨S256x1, .f32⟩
  | 111 => ⟨S_, .f32⟩
  | 112 => ⟨S256x1, .f32⟩
  | 113 => ⟨S256x1, .f32⟩
  | 114 => ⟨S256x32, .f32⟩
  | 115 => ⟨S256x32, .f32⟩
  | 116 => ⟨S256x32, .f32⟩
  | 117 => ⟨S_, .f32⟩
  | 118 => ⟨S256, .f32⟩
  | 119 => ⟨S256x1, .f32⟩
  | 120 => ⟨S_, .f32⟩
  | 121 => ⟨S256x1, .f32⟩
  | 122 => ⟨S256x1, .f32⟩
  | 123 => ⟨S256x32, .f32⟩
  | 124 => ⟨S256x32, .f32⟩
  | 125 => ⟨S_, .f32⟩
  | 126 => ⟨S256x1, .f32⟩
  | 127 => ⟨S256x1, .f32⟩
  | _ => ⟨S256, .f32⟩

abbrev hbmTy0_2 (i : Nat) : BufTy := match i % 128 with
  | 0 => ⟨S256x1, .f32⟩
  | 1 => ⟨S256x32, .f32⟩
  | 2 => ⟨S256x32, .f32⟩
  | 3 => ⟨S1x32, .f32⟩
  | 4 => ⟨S256x32, .f32⟩
  | 5 => ⟨S256x32, .f32⟩
  | 6 => ⟨S1x32, .f32⟩
  | 7 => ⟨S256x32, .f32⟩
  | 8 => ⟨S256x32, .f32⟩
  | 9 => ⟨S256x1, .f32⟩
  | 10 => ⟨S256, .f32⟩
  | 11 => ⟨S256x1, .f32⟩
  | 12 => ⟨S256, .f32⟩
  | 13 => ⟨S256x1, .f32⟩
  | 14 => ⟨S256, .f32⟩
  | _ => ⟨S256, .f32⟩

abbrev hbmTy (i : Nat) : BufTy := match i / 128 with
  | 0 => hbmTy0_0 i
  | 1 => hbmTy0_1 i
  | 2 => hbmTy0_2 i
  | _ => ⟨S256, .f32⟩

abbrev bufTy : (tb : Table) → Fin (tcTables nBuf tb) → BufTy
  | .hbm, ⟨i, _⟩ => hbmTy i
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_c : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_while0c_c_27 : Ref sig .tc := ⟨.hbm, 19, rfl⟩
abbrev main_while0c_v92 : Ref sig .tc := ⟨.hbm, 20, rfl⟩
abbrev main_while0b_v92 : Ref sig .tc := ⟨.hbm, 21, rfl⟩
abbrev main_while0b_v93 : Ref sig .tc := ⟨.hbm, 22, rfl⟩
abbrev main_while0b_v94 : Ref sig .tc := ⟨.hbm, 23, rfl⟩
abbrev main_while0b_v95 : Ref sig .tc := ⟨.hbm, 24, rfl⟩
abbrev main_while0b_v96 : Ref sig .tc := ⟨.hbm, 25, rfl⟩
abbrev main_while0b_v97 : Ref sig .tc := ⟨.hbm, 26, rfl⟩
abbrev main_while0b_cst_27 : Ref sig .tc := ⟨.hbm, 27, rfl⟩
abbrev main_while0b_v98 : Ref sig .tc := ⟨.hbm, 28, rfl⟩
abbrev main_while0b_cst_28 : Ref sig .tc := ⟨.hbm, 29, rfl⟩
abbrev main_while0b_v99 : Ref sig .tc := ⟨.hbm, 30, rfl⟩
abbrev main_while0b_v100 : Ref sig .tc := ⟨.hbm, 31, rfl⟩
abbrev main_while0b_cst_29 : Ref sig .tc := ⟨.hbm, 32, rfl⟩
abbrev main_while0b_call0_v0 : Ref sig .tc := ⟨.hbm, 33, rfl⟩
abbrev main_while0b_call0_v1 : Ref sig .tc := ⟨.hbm, 34, rfl⟩
abbrev main_while0b_v101 : Ref sig .tc := ⟨.hbm, 35, rfl⟩
abbrev main_while0b_v102 : Ref sig .tc := ⟨.hbm, 36, rfl⟩
abbrev main_while0b_v103 : Ref sig .tc := ⟨.hbm, 37, rfl⟩
abbrev main_while0b_v104 : Ref sig .tc := ⟨.hbm, 38, rfl⟩
abbrev main_while0b_cst_30 : Ref sig .tc := ⟨.hbm, 39, rfl⟩
abbrev main_while0b_v105 : Ref sig .tc := ⟨.hbm, 40, rfl⟩
abbrev main_while0b_v106 : Ref sig .tc := ⟨.hbm, 41, rfl⟩
abbrev main_while0b_cst_31 : Ref sig .tc := ⟨.hbm, 42, rfl⟩
abbrev main_while0b_v107 : Ref sig .tc := ⟨.hbm, 43, rfl⟩
abbrev main_while0b_v108 : Ref sig .tc := ⟨.hbm, 44, rfl⟩
abbrev main_while0b_v109 : Ref sig .tc := ⟨.hbm, 45, rfl⟩
abbrev main_while0b_v110 : Ref sig .tc := ⟨.hbm, 46, rfl⟩
abbrev main_while0b_cst_32 : Ref sig .tc := ⟨.hbm, 47, rfl⟩
abbrev main_while0b_v111 : Ref sig .tc := ⟨.hbm, 48, rfl⟩
abbrev main_while0b_cst_33 : Ref sig .tc := ⟨.hbm, 49, rfl⟩
abbrev main_while0b_v112 : Ref sig .tc := ⟨.hbm, 50, rfl⟩
abbrev main_while0b_v113 : Ref sig .tc := ⟨.hbm, 51, rfl⟩
abbrev main_while0b_v114 : Ref sig .tc := ⟨.hbm, 52, rfl⟩
abbrev main_while0b_v115 : Ref sig .tc := ⟨.hbm, 53, rfl⟩
abbrev main_while0b_v116 : Ref sig .tc := ⟨.hbm, 54, rfl⟩
abbrev main_while0b_v117 : Ref sig .tc := ⟨.hbm, 55, rfl⟩
abbrev main_while0b_v118 : Ref sig .tc := ⟨.hbm, 56, rfl⟩
abbrev main_while0b_v119 : Ref sig .tc := ⟨.hbm, 57, rfl⟩
abbrev main_while0b_v120 : Ref sig .tc := ⟨.hbm, 58, rfl⟩
abbrev main_while0b_v121 : Ref sig .tc := ⟨.hbm, 59, rfl⟩
abbrev main_while0b_cst_34 : Ref sig .tc := ⟨.hbm, 60, rfl⟩
abbrev main_while0b_v122 : Ref sig .tc := ⟨.hbm, 61, rfl⟩
abbrev main_while0b_v123 : Ref sig .tc := ⟨.hbm, 62, rfl⟩
abbrev main_while0b_v124 : Ref sig .tc := ⟨.hbm, 63, rfl⟩
abbrev main_while0b_v125 : Ref sig .tc := ⟨.hbm, 64, rfl⟩
abbrev main_while0b_cst_35 : Ref sig .tc := ⟨.hbm, 65, rfl⟩
abbrev main_while0b_call1_v0 : Ref sig .tc := ⟨.hbm, 66, rfl⟩
abbrev main_while0b_call1_v1 : Ref sig .tc := ⟨.hbm, 67, rfl⟩
abbrev main_while0b_call1_v2 : Ref sig .tc := ⟨.hbm, 68, rfl⟩
abbrev main_while0b_v126 : Ref sig .tc := ⟨.hbm, 69, rfl⟩
abbrev main_while0b_v127 : Ref sig .tc := ⟨.hbm, 70, rfl⟩
abbrev main_while0b_cst_36 : Ref sig .tc := ⟨.hbm, 71, rfl⟩
abbrev main_while0b_call2_v0 : Ref sig .tc := ⟨.hbm, 72, rfl⟩
abbrev main_while0b_call2_v1 : Ref sig .tc := ⟨.hbm, 73, rfl⟩
abbrev main_while0b_call2_v2 : Ref sig .tc := ⟨.hbm, 74, rfl⟩
abbrev main_while0b_v128 : Ref sig .tc := ⟨.hbm, 75, rfl⟩
abbrev main_while0b_cst_37 : Ref sig .tc := ⟨.hbm, 76, rfl⟩
abbrev main_while0b_call3_v0 : Ref sig .tc := ⟨.hbm, 77, rfl⟩
abbrev main_while0b_call3_v1 : Ref sig .tc := ⟨.hbm, 78, rfl⟩
abbrev main_while0b_v129 : Ref sig .tc := ⟨.hbm, 79, rfl⟩
abbrev main_while0b_cst_38 : Ref sig .tc := ⟨.hbm, 80, rfl⟩
abbrev main_while0b_v130 : Ref sig .tc := ⟨.hbm, 81, rfl⟩
abbrev main_while0b_v131 : Ref sig .tc := ⟨.hbm, 82, rfl⟩
abbrev main_while0b_cst_39 : Ref sig .tc := ⟨.hbm, 83, rfl⟩
abbrev main_while0b_call4_v0 : Ref sig .tc := ⟨.hbm, 84, rfl⟩
abbrev main_while0b_call4_v1 : Ref sig .tc := ⟨.hbm, 85, rfl⟩
abbrev main_while0b_v132 : Ref sig .tc := ⟨.hbm, 86, rfl⟩
abbrev main_while0b_v133 : Ref sig .tc := ⟨.hbm, 87, rfl⟩
abbrev main_while0b_v134 : Ref sig .tc := ⟨.hbm, 88, rfl⟩
abbrev main_while0b_v135 : Ref sig .tc := ⟨.hbm, 89, rfl⟩
abbrev main_while0b_cst_40 : Ref sig .tc := ⟨.hbm, 90, rfl⟩
abbrev main_while0b_v136 : Ref sig .tc := ⟨.hbm, 91, rfl⟩
abbrev main_while0b_v137 : Ref sig .tc := ⟨.hbm, 92, rfl⟩
abbrev main_while0b_v138 : Ref sig .tc := ⟨.hbm, 93, rfl⟩
abbrev main_while0b_cst_41 : Ref sig .tc := ⟨.hbm, 94, rfl⟩
abbrev main_while0b_v139 : Ref sig .tc := ⟨.hbm, 95, rfl⟩
abbrev main_while0b_v140 : Ref sig .tc := ⟨.hbm, 96, rfl⟩
abbrev main_while0b_v141 : Ref sig .tc := ⟨.hbm, 97, rfl⟩
abbrev main_while0b_v142 : Ref sig .tc := ⟨.hbm, 98, rfl⟩
abbrev main_while0b_cst_42 : Ref sig .tc := ⟨.hbm, 99, rfl⟩
abbrev main_while0b_v143 : Ref sig .tc := ⟨.hbm, 100, rfl⟩
abbrev main_while0b_cst_43 : Ref sig .tc := ⟨.hbm, 101, rfl⟩
abbrev main_while0b_v144 : Ref sig .tc := ⟨.hbm, 102, rfl⟩
abbrev main_while0b_v145 : Ref sig .tc := ⟨.hbm, 103, rfl⟩
abbrev main_while0b_cst_44 : Ref sig .tc := ⟨.hbm, 104, rfl⟩
abbrev main_while0b_call5_v0 : Ref sig .tc := ⟨.hbm, 105, rfl⟩
abbrev main_while0b_call5_v1 : Ref sig .tc := ⟨.hbm, 106, rfl⟩
abbrev main_while0b_v146 : Ref sig .tc := ⟨.hbm, 107, rfl⟩
abbrev main_while0b_v147 : Ref sig .tc := ⟨.hbm, 108, rfl⟩
abbrev main_while0b_v148 : Ref sig .tc := ⟨.hbm, 109, rfl⟩
abbrev main_while0b_v149 : Ref sig .tc := ⟨.hbm, 110, rfl⟩
abbrev main_while0b_cst_45 : Ref sig .tc := ⟨.hbm, 111, rfl⟩
abbrev main_while0b_v150 : Ref sig .tc := ⟨.hbm, 112, rfl⟩
abbrev main_while0b_v151 : Ref sig .tc := ⟨.hbm, 113, rfl⟩
abbrev main_while0b_v152 : Ref sig .tc := ⟨.hbm, 114, rfl⟩
abbrev main_while0b_cst_46 : Ref sig .tc := ⟨.hbm, 115, rfl⟩
abbrev main_while0b_v153 : Ref sig .tc := ⟨.hbm, 116, rfl⟩
abbrev main_while0b_v154 : Ref sig .tc := ⟨.hbm, 117, rfl⟩
abbrev main_while0b_cst_47 : Ref sig .tc := ⟨.hbm, 118, rfl⟩
abbrev main_while0b_v155 : Ref sig .tc := ⟨.hbm, 119, rfl⟩
abbrev main_while0b_v156 : Ref sig .tc := ⟨.hbm, 120, rfl⟩
abbrev main_while0b_v157 : Ref sig .tc := ⟨.hbm, 121, rfl⟩
abbrev main_while0b_v158 : Ref sig .tc := ⟨.hbm, 122, rfl⟩
abbrev main_while0b_v159 : Ref sig .tc := ⟨.hbm, 123, rfl⟩
abbrev main_while0b_call6_v0 : Ref sig .tc := ⟨.hbm, 124, rfl⟩
abbrev main_while0b_v160 : Ref sig .tc := ⟨.hbm, 125, rfl⟩
abbrev main_while0b_cst_48 : Ref sig .tc := ⟨.hbm, 126, rfl⟩
abbrev main_while0b_v161 : Ref sig .tc := ⟨.hbm, 127, rfl⟩
abbrev main_while0b_v162 : Ref sig .tc := ⟨.hbm, 128, rfl⟩
abbrev main_while0b_v163 : Ref sig .tc := ⟨.hbm, 129, rfl⟩
abbrev main_while0b_call7_v0 : Ref sig .tc := ⟨.hbm, 130, rfl⟩
abbrev main_while0b_call7_c : Ref sig .tc := ⟨.hbm, 131, rfl⟩
abbrev main_while0b_call7_c_0 : Ref sig .tc := ⟨.hbm, 132, rfl⟩
abbrev main_while0b_v164 : Ref sig .tc := ⟨.hbm, 133, rfl⟩
abbrev main_while0b_call8_v0 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_v165 : Ref sig .tc := ⟨.hbm, 137, rfl⟩
abbrev main_while0b_c_49 : Ref sig .tc := ⟨.hbm, 138, rfl⟩
abbrev main_while0b_v166 : Ref sig .tc := ⟨.hbm, 139, rfl⟩
abbrev main_v3 : Ref sig .tc := ⟨.hbm, 140, rfl⟩
abbrev main_v4 : Ref sig .tc := ⟨.hbm, 141, rfl⟩
abbrev main_v5 : Ref sig .tc := ⟨.hbm, 142, rfl⟩
abbrev main_v6 : Ref sig .tc := ⟨.hbm, 143, rfl⟩
abbrev main_v7 : Ref sig .tc := ⟨.hbm, 144, rfl⟩
abbrev main_v8 : Ref sig .tc := ⟨.hbm, 145, rfl⟩
abbrev main_cst_1 : Ref sig .tc := ⟨.hbm, 146, rfl⟩
abbrev main_v9 : Ref sig .tc := ⟨.hbm, 147, rfl⟩
abbrev main_cst_2 : Ref sig .tc := ⟨.hbm, 148, rfl⟩
abbrev main_v10 : Ref sig .tc := ⟨.hbm, 149, rfl⟩
abbrev main_v11 : Ref sig .tc := ⟨.hbm, 150, rfl⟩
abbrev main_cst_3 : Ref sig .tc := ⟨.hbm, 151, rfl⟩
abbrev main_call9_v0 : Ref sig .tc := ⟨.hbm, 152, rfl⟩
abbrev main_call9_v1 : Ref sig .tc := ⟨.hbm, 153, rfl⟩
abbrev main_v12 : Ref sig .tc := ⟨.hbm, 154, rfl⟩
abbrev main_v13 : Ref sig .tc := ⟨.hbm, 155, rfl⟩
abbrev main_v14 : Ref sig .tc := ⟨.hbm, 156, rfl⟩
abbrev main_v15 : Ref sig .tc := ⟨.hbm, 157, rfl⟩
abbrev main_cst_4 : Ref sig .tc := ⟨.hbm, 158, rfl⟩
abbrev main_v16 : Ref sig .tc := ⟨.hbm, 159, rfl⟩
abbrev main_cst_5 : Ref sig .tc := ⟨.hbm, 160, rfl⟩
abbrev main_v17 : Ref sig .tc := ⟨.hbm, 161, rfl⟩
abbrev main_v18 : Ref sig .tc := ⟨.hbm, 162, rfl⟩
abbrev main_v19 : Ref sig .tc := ⟨.hbm, 163, rfl⟩
abbrev main_cst_6 : Ref sig .tc := ⟨.hbm, 164, rfl⟩
abbrev main_v20 : Ref sig .tc := ⟨.hbm, 165, rfl⟩
abbrev main_v21 : Ref sig .tc := ⟨.hbm, 166, rfl⟩
abbrev main_cst_7 : Ref sig .tc := ⟨.hbm, 167, rfl⟩
abbrev main_v22 : Ref sig .tc := ⟨.hbm, 168, rfl⟩
abbrev main_v23 : Ref sig .tc := ⟨.hbm, 169, rfl⟩
abbrev main_cst_8 : Ref sig .tc := ⟨.hbm, 170, rfl⟩
abbrev main_v24 : Ref sig .tc := ⟨.hbm, 171, rfl⟩
abbrev main_cst_9 : Ref sig .tc := ⟨.hbm, 172, rfl⟩
abbrev main_v25 : Ref sig .tc := ⟨.hbm, 173, rfl⟩
abbrev main_v26 : Ref sig .tc := ⟨.hbm, 174, rfl⟩
abbrev main_cst_10 : Ref sig .tc := ⟨.hbm, 175, rfl⟩
abbrev main_v27 : Ref sig .tc := ⟨.hbm, 176, rfl⟩
abbrev main_v28 : Ref sig .tc := ⟨.hbm, 177, rfl⟩
abbrev main_cst_11 : Ref sig .tc := ⟨.hbm, 178, rfl⟩
abbrev main_v29 : Ref sig .tc := ⟨.hbm, 179, rfl⟩
abbrev main_v30 : Ref sig .tc := ⟨.hbm, 180, rfl⟩
abbrev main_cst_12 : Ref sig .tc := ⟨.hbm, 181, rfl⟩
abbrev main_v31 : Ref sig .tc := ⟨.hbm, 182, rfl⟩
abbrev main_v32 : Ref sig .tc := ⟨.hbm, 183, rfl⟩
abbrev main_v33 : Ref sig .tc := ⟨.hbm, 184, rfl⟩
abbrev main_v34 : Ref sig .tc := ⟨.hbm, 185, rfl⟩
abbrev main_v35 : Ref sig .tc := ⟨.hbm, 186, rfl⟩
abbrev main_c_13 : Ref sig .tc := ⟨.hbm, 187, rfl⟩
abbrev main_c_14 : Ref sig .tc := ⟨.hbm, 188, rfl⟩
abbrev main_v36_0 : Ref sig .tc := ⟨.hbm, 189, rfl⟩
abbrev main_v36_1 : Ref sig .tc := ⟨.hbm, 190, rfl⟩
abbrev main_v36_2 : Ref sig .tc := ⟨.hbm, 191, rfl⟩
abbrev main_v36_3 : Ref sig .tc := ⟨.hbm, 192, rfl⟩
abbrev main_while1c_c_26 : Ref sig .tc := ⟨.hbm, 193, rfl⟩
abbrev main_while1c_v92 : Ref sig .tc := ⟨.hbm, 194, rfl⟩
abbrev main_while1b_c_26 : Ref sig .tc := ⟨.hbm, 195, rfl⟩
abbrev main_while1b_v92 : Ref sig .tc := ⟨.hbm, 196, rfl⟩
abbrev main_while1b_v93 : Ref sig .tc := ⟨.hbm, 197, rfl⟩
abbrev main_while1b_c_27 : Ref sig .tc := ⟨.hbm, 198, rfl⟩
abbrev main_while1b_call10_v0 : Ref sig .tc := ⟨.hbm, 199, rfl⟩
abbrev main_while1b_call10_v1 : Ref sig .tc := ⟨.hbm, 200, rfl⟩
abbrev main_while1b_call10_v2 : Ref sig .tc := ⟨.hbm, 201, rfl⟩
abbrev main_while1b_v94 : Ref sig .tc := ⟨.hbm, 202, rfl⟩
abbrev main_while1b_c_28 : Ref sig .tc := ⟨.hbm, 203, rfl⟩
abbrev main_while1b_v95 : Ref sig .tc := ⟨.hbm, 204, rfl⟩
abbrev main_while1b_v96 : Ref sig .tc := ⟨.hbm, 205, rfl⟩
abbrev main_while1b_c_29 : Ref sig .tc := ⟨.hbm, 206, rfl⟩
abbrev main_while1b_v97 : Ref sig .tc := ⟨.hbm, 207, rfl⟩
abbrev main_v37 : Ref sig .tc := ⟨.hbm, 208, rfl⟩
abbrev main_v38 : Ref sig .tc := ⟨.hbm, 209, rfl⟩
abbrev main_v39 : Ref sig .tc := ⟨.hbm, 210, rfl⟩
abbrev main_v40 : Ref sig .tc := ⟨.hbm, 211, rfl⟩
abbrev main_v41 : Ref sig .tc := ⟨.hbm, 212, rfl⟩
abbrev main_c_15 : Ref sig .tc := ⟨.hbm, 213, rfl⟩
abbrev main_v42 : Ref sig .tc := ⟨.hbm, 214, rfl⟩
abbrev main_v43 : Ref sig .tc := ⟨.hbm, 215, rfl⟩
abbrev main_cst_16 : Ref sig .tc := ⟨.hbm, 216, rfl⟩
abbrev main_v44 : Ref sig .tc := ⟨.hbm, 217, rfl⟩
abbrev main_v45 : Ref sig .tc := ⟨.hbm, 218, rfl⟩
abbrev main_v46 : Ref sig .tc := ⟨.hbm, 219, rfl⟩
abbrev main_v47 : Ref sig .tc := ⟨.hbm, 220, rfl⟩
abbrev main_v48 : Ref sig .tc := ⟨.hbm, 221, rfl⟩
abbrev main_v49 : Ref sig .tc := ⟨.hbm, 222, rfl⟩
abbrev main_v50 : Ref sig .tc := ⟨.hbm, 223, rfl⟩
abbrev main_v51 : Ref sig .tc := ⟨.hbm, 224, rfl⟩
abbrev main_v52 : Ref sig .tc := ⟨.hbm, 225, rfl⟩
abbrev main_v53 : Ref sig .tc := ⟨.hbm, 226, rfl⟩
abbrev main_v54 : Ref sig .tc := ⟨.hbm, 227, rfl⟩
abbrev main_cst_17 : Ref sig .tc := ⟨.hbm, 228, rfl⟩
abbrev main_v55 : Ref sig .tc := ⟨.hbm, 229, rfl⟩
abbrev main_v56 : Ref sig .tc := ⟨.hbm, 230, rfl⟩
abbrev main_v57 : Ref sig .tc := ⟨.hbm, 231, rfl⟩
abbrev main_v58 : Ref sig .tc := ⟨.hbm, 232, rfl⟩
abbrev main_v59 : Ref sig .tc := ⟨.hbm, 233, rfl⟩
abbrev main_v60 : Ref sig .tc := ⟨.hbm, 234, rfl⟩
abbrev main_v61 : Ref sig .tc := ⟨.hbm, 235, rfl⟩
abbrev main_cst_18 : Ref sig .tc := ⟨.hbm, 236, rfl⟩
abbrev main_v62 : Ref sig .tc := ⟨.hbm, 237, rfl⟩
abbrev main_v63 : Ref sig .tc := ⟨.hbm, 238, rfl⟩
abbrev main_cst_19 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_cst_20 : Ref sig .tc := ⟨.hbm, 245, rfl⟩
abbrev main_v69 : Ref sig .tc := ⟨.hbm, 246, rfl⟩
abbrev main_v70 : Ref sig .tc := ⟨.hbm, 247, rfl⟩
abbrev main_cst_21 : Ref sig .tc := ⟨.hbm, 248, rfl⟩
abbrev main_v71 : Ref sig .tc := ⟨.hbm, 249, rfl⟩
abbrev main_v72 : Ref sig .tc := ⟨.hbm, 250, rfl⟩
abbrev main_v73 : Ref sig .tc := ⟨.hbm, 251, rfl⟩
abbrev main_v74 : Ref sig .tc := ⟨.hbm, 252, rfl⟩
abbrev main_cst_22 : Ref sig .tc := ⟨.hbm, 253, rfl⟩
abbrev main_v75 : Ref sig .tc := ⟨.hbm, 254, rfl⟩
abbrev main_v76 : Ref sig .tc := ⟨.hbm, 255, rfl⟩
abbrev main_v77 : Ref sig .tc := ⟨.hbm, 256, rfl⟩
abbrev main_v78 : Ref sig .tc := ⟨.hbm, 257, rfl⟩
abbrev main_v79 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_v83 : Ref sig .tc := ⟨.hbm, 262, rfl⟩
abbrev main_v84 : Ref sig .tc := ⟨.hbm, 263, rfl⟩
abbrev main_v85 : Ref sig .tc := ⟨.hbm, 264, rfl⟩
abbrev main_v86 : Ref sig .tc := ⟨.hbm, 265, rfl⟩
abbrev main_v87 : Ref sig .tc := ⟨.hbm, 266, rfl⟩
abbrev main_v88 : Ref sig .tc := ⟨.hbm, 267, rfl⟩
abbrev main_v89 : Ref sig .tc := ⟨.hbm, 268, rfl⟩
abbrev main_v90 : Ref sig .tc := ⟨.hbm, 269, rfl⟩
abbrev main_v91 : Ref sig .tc := ⟨.hbm, 270, rfl⟩

abbrev nD : Nat := 1
abbrev τ : Topo := Topo.v7x

variable {F : FTy → Type} [FloatOps F]

def κ : String → Option EReal := fun
  | "dt" => some ((1 / 100 : ℝ) : EReal)
  | _ => none

abbrev main_while0_count : Scf.Loop 32 := ⟨0#32, 256#32, 1#32⟩

abbrev main_while1_count : Scf.Loop 32 := ⟨0#32, 100#32, 1#32⟩
-- ==== Proof.KernelFrame.lean ====
/-
  The frame of `Kernel`, at any values: every run ends, nothing faults, the nine argument arrays end as they began and every
  counter ends at zero. What the two result windows hold is not tracked here (`forgets`): the two loops go by the generated
  invariants, and the buffers the body writes are handed back at some contents.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Windows 9 and 10, the results, are not tracked. -/
def forgets : Fin 11 → Bool := fun w => decide (9 ≤ w.val)

/-- The body on whole memrefs: the nine inputs as they were, the results and the scratch at some contents. -/
theorem body_safe (c : Dev nD) (E : Set ℕ)
    (a0 : Memref sig .tc .vmem S128x128 .f32) (h0 : a0.IsWhole) (a1 : Memref sig .tc .vmem S128x2 .f32) (h1 : a1.IsWhole)
    (a2 : Memref sig .tc .vmem S128x2 .f32) (h2 : a2.IsWhole) (a3 : Memref sig .tc .vmem S128x64 .f32) (h3 : a3.IsWhole)
    (a4 : Memref sig .tc .vmem S1x64 .f32) (h4 : a4.IsWhole) (a5 : Memref sig .tc .vmem S64x32 .f32) (h5 : a5.IsWhole)
    (a6 : Memref sig .tc .vmem S1x32 .f32) (h6 : a6.IsWhole) (a7 : Memref sig .tc .vmem S1x32 .f32) (h7 : a7.IsWhole)
    (a8 : Memref sig .tc .vmem S1x32 .f32) (h8 : a8.IsWhole) (a9 : Memref sig .tc .vmem S256x128 .f32) (h9 : a9.IsWhole)
    (a10 : Memref sig .tc .vmem S256x32 .f32) (h10 : a10.IsWhole) (a11 : Memref sig .tc .vmem S264x128 .f32) (h11 : a11.IsWhole)
    (a12 : Memref sig .tc .vmem S264x128 .f32) (h12 : a12.IsWhole)
    (x0 : Vec F S128x128 .f32) (x1 x2 : Vec F S128x2 .f32) (x3 : Vec F S128x64 .f32) (x4 : Vec F S1x64 .f32)
    (x5 : Vec F S64x32 .f32) (x6 x7 x8 : Vec F S1x32 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ X, owns (c : Thread nD τ) a9 fullShare X) ∗ (∃ X, owns (c : Thread nD τ) a10 fullShare X)
        ∗ (∃ X, owns (c : Thread nD τ) a11 fullShare X) ∗ (∃ X, owns (c : Thread nD τ) a12 fullShare X)
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ X, owns (c : Thread nD τ) a9 fullShare X) ∗ (∃ X, owns (c : Thread nD τ) a10 fullShare X)
        ∗ (∃ X, owns (c : Thread nD τ) a11 fullShare X) ∗ (∃ X, owns (c : Thread nD τ) a12 fullShare X)) -∗ K ⟨⟩))
      ⊢ wp frame (wpE (defs₀ (F := F)) Variants.none c none) E
          (cc0__sim_kernel a0 h0 a1 h1 a2 h2 a3 h3 a4 h4 a5 h5 a6 h6 a7 h7 a8 h8 a9 h9 a10 h10 a11 h11 a12 h12) K := by
  rw [cc0__sim_kernel_eq_skeleton]; unfold cc0__sim_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, ⟨%d10, %f10, -, H10⟩, ⟨%d11, %f11, -, H11⟩, ⟨%d12, %f12, -, H12⟩, Hk⟩
  subst e0 e1 e2 e3 e4 e5 e6 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists _; iexists _; isplitr; swap; · iexact H9
                  ipureintro; rfl
  isplitl [H10]; · iexists _; iexists _; isplitr; swap; · iexact H10
                   ipureintro; rfl
  isplitl [H11]; · iexists _; iexists _; isplitr; swap; · iexact H11
                   ipureintro; rfl
  iexists _; iexists _; isplitr; swap; · iexact H12
  ipureintro; rfl

/-- The proof data: the arrays as the region finds them; the inputs' blocks stay; nothing is said of the results' (`forgets`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- The body's scratch and the generator's register, as owned memrefs. -/
theorem scratch_owned (c : Dev nD) : (Pipeline.ΦA spec0 c : sProp 𝕄)
    = iprop(((∃ X, owns (c : Thread nD τ) (Memref.whole cc0_scratch0) fullShare X)
      ∗ (∃ X, owns (c : Thread nD τ) (Memref.whole cc0_scratch1) fullShare X)) ∗ ∃ r, prngReg c r) := by
  unfold Pipeline.ΦA; rw [scopedRest0_eq]; simp only [owns_whole]

theorem defs₀_row (t : Fin cfg0.N) : defs₀ (F := F) .tc cfg0.body (cfg0.bodyArgs t (cfg0.slots t)) = bodyAt0 t := by
  unfold defs₀; rw [Defs.onTc_tc]

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X) ∗ (∃ X, owns (c : Thread nD τ) (st0_10 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c),
    before0_6_of m (dats m 0 c) (A_eq m c 6) (after0_6 m c), before0_7_of m (dats m 0 c) (A_eq m c 7) (after0_7 m c),
    before0_8_of m (dats m 0 c) (A_eq m c 8) (after0_8 m c)]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  simp only [after0_0, after0_1, after0_2, after0_3, after0_4, after0_5, after0_6, after0_7, after0_8]
  rw [scratch_owned]
  iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply (body_safe c Set.univ _ _ _ _ _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [HP S0 S1]
  · isplitl [S0 S1]
    · isplitl [S0]; · iexact S0
      iexact S1
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the host lines after the region write. -/
def tailWrites : Finset (Ref sig .tc) := {main_v16, main_v17, main_v18, main_v19, main_v20, main_v21}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  obtain rfl := List.mem_singleton.mp hops
  simp only [hostOps1, List.mem_cons, List.mem_nil_iff, or_false] at hop
  rcases hop with rfl | rfl | rfl | rfl | rfl | rfl <;>
    · simp only [StableHlo.nullary_writes, StableHlo.unary_writes, StableHlo.binary_writes, StableHlo.reshape_writes,
        Finset.mem_singleton] at hb
      obtain rfl := Proc.devRef_injective _ hb
      decide

set_option backward.isDefEq.respectTransparency.types false in
theorem run_main : θ_run defs (onTc (τ := τ) (main (F := F))) (s₀ m ρ)
    (fun r => Pipeline.RDat.FramePostR (cfgs 0) (fun c => (dats m 0 c).toRForget forgets) tailWrites (fun c b => V0 m c (Proc.devRef .tc b)) r
      ∧ r.2.sem = fun _ => 0) :=
  Pipeline.θ_run_frame_around_T_forget (Q' := _) cfgs (dats m) (0 : Fin 1) launch0 defs₀ Variants.none forgets tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => by
    have rest := fun b hb => (h.1 c).2 b (Finset.mem_sdiff.mpr hb)
    exact ⟨(rest main_arg0 ⟨Pipeline.mem_restRefs_of main_arg0 (by decide) (by decide), by decide⟩).trans (V_main_arg0 m c),
      (rest main_arg1 ⟨Pipeline.mem_restRefs_of main_arg1 (by decide) (by decide), by decide⟩).trans (V_main_arg1 m c),
      (rest main_arg2 ⟨Pipeline.mem_restRefs_of main_arg2 (by decide) (by decide), by decide⟩).trans (V_main_arg2 m c),
      (rest main_arg3 ⟨Pipeline.mem_restRefs_of main_arg3 (by decide) (by decide), by decide⟩).trans (V_main_arg3 m c),
      (rest main_arg4 ⟨Pipeline.mem_restRefs_of main_arg4 (by decide) (by decide), by decide⟩).trans (V_main_arg4 m c),
      (rest main_arg5 ⟨Pipeline.mem_restRefs_of main_arg5 (by decide) (by decide), by decide⟩).trans (V_main_arg5 m c),
      (rest main_arg6 ⟨Pipeline.mem_restRefs_of main_arg6 (by decide) (by decide), by decide⟩).trans (V_main_arg6 m c),
      (rest main_arg7 ⟨Pipeline.mem_restRefs_of main_arg7 (by decide) (by decide), by decide⟩).trans (V_main_arg7 m c),
      (rest main_arg8 ⟨Pipeline.mem_restRefs_of main_arg8 (by decide) (by decide), by decide⟩).trans (V_main_arg8 m c)⟩, h.2⟩) (run_main m ρ)

end Cert.Proof.KernelFrame

end
-- ==== Proof.Body.lean ====
module

public import proofs.«01_k».proof.Proof.Gen.KernelIdeal.Frame
public import proofs.«01_k».proof.Proof.Gen.KernelIdeal.Skeleton
public import Idealize.ShloMosaic.Lib.Claim
public import Idealize.ShloMosaic.Lib.WritesUnit
public import Idealize.ShloMosaic.Lib.VecWindow

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- What the simulation carries: the positions as columns, the velocities as columns, the positions as rows. -/
abbrev St (F : FTy → Type) [FloatOps F] := FVec F S128x1 .f32 × FVec F S128x1 .f32 × FVec F S128x1 .f32 × FVec F S128x1 .f32 × FVec F S1x128 .f32 × FVec F S1x128 .f32

/-- The summed neighbour quantities of one step before the speed limit: new velocities as columns, and half of the squared speed. -/
def drift (v0 : Vec F S128x128 .f32) (s : St F) : FVec F S128x1 .f32 × FVec F S128x1 .f32 × FVec F S128x1 .f32 :=
  match s with
  | (px, py, vx, vy, pxr, pyr) =>
    let v123 := k0_pay5 px py pxr pyr
    let v127 := k0_pay6 px py vx vy pxr pyr
    let v131 := k0_pay7 px py vx vy pxr pyr
    let v135 := k0_pay8 px py vx vy pxr pyr
    let v137 := k0_pay9 px py vx vy pxr pyr
    let v139 := k0_pay10 v123 v137
    let v166 := k0_pay12 v0 px py pxr
    let v169 := k0_pay13 v0 px py pyr
    let v184 := k0_pay16 v0 px py pxr pyr
    let v188 := k0_pay17 v0 px py pxr pyr
    let v239 := k0_pay19 v166 v184 v188
    let v242 := k0_pay20 v169 v184 v188
    let v245 := k0_pay21 v169 v184 v188
    (k0_pay23 vx v127 v135 v239 v242 v245, k0_pay24 vy v131 v139 v239 v242 v245, k0_pay25 vx v127 v135 v239 v242 v245)

/-- One step of the simulation. -/
def step (v0 : Vec F S128x128 .f32) (s : St F) : St F :=
  match drift v0 s, s with
  | (v299, v302, v303), (px, py, vx, vy, pxr, pyr) =>
    (k0_pay106 px v299 v302 v303, k0_pay107 py v302 v303, k0_pay104 v299 v302 v303, k0_pay105 v302 v303,
      k0_pay109 px py v299 v302 v303, k0_pay110 px py v299 v302 v303)

/-- The row of positions a step stores, first and second coordinate. -/
def rowX (v0 : Vec F S128x128 .f32) (s : St F) : Vec F S1x128 .f32 :=
  k0_pay111 s.1 s.2.1 (drift v0 s).1 (drift v0 s).2.1 (drift v0 s).2.2
def rowY (v0 : Vec F S128x128 .f32) (s : St F) : Vec F S1x128 .f32 :=
  k0_pay112 s.1 s.2.1 (drift v0 s).1 (drift v0 s).2.1 (drift v0 s).2.2

/-- One row of the metrics from a row of positions and the next. -/
def featRow (v3 : IVec S128x128 1) (v4 : IVec S1x128 32) (v5 : IVec S128x1 32) (v7 : IVec S1x128 1) (v9 : IVec S128x1 1)
    (v12 : IVec S128x128 1) (v16 v20 v24 : FVec F S1x128 .f32) (x y x' y' : Vec F S1x128 .f32) : FVec F S1x128 .f32 :=
  k0_pay32 v4 v5 v9 v16 v20 v24 (k0_pay26 v7 x y x' y') (k0_pay30 v12 y' (k0_pay27 y') (k0_pay28 x'))
    (k0_pay31 v3 v12 y' (k0_pay27 y') (k0_pay28 x')) (Scalar.ofBits .f32 0x00000000#32)

/-- One trip of the simulation loop: the step's state, and the step's rows written at row `k + 1` of the two histories. -/
theorem trip1 (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole) (v0 : Vec F S128x128 .f32) (v3 : IVec S128x128 1) (v4 : IVec S1x128 32) (v5 : IVec S128x1 32) (v7 : IVec S1x128 1) (v9 : IVec S128x1 1) (v12 : IVec S128x128 1) (v16 v20 v24 v30 v32 : FVec F S1x128 .f32) (v39 v40 v41 v42 : FVec F S128x1 .f32)
    (k : Fin k0_t1_loop.trips) (s : St F) (f11 : a11.view.ty.Contents (Elt F)) (f12 : a12.view.ty.Contents (Elt F)) :
    (iprop((a11.view.loc (c : Thread nD τ) ↦[a11.view.set]{fullShare} f11) ∗ (a12.view.loc (c : Thread nD τ) ↦[a12.view.set]{fullShare} f12)) : sProp 𝕄)
      ⊢ wp frame (wpE (defs₀ (F := F)) Variants.none c none) E (k0_t1_body a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k s)
        (fun s' => iprop(⌜s' = step v0 s⌝
          ∗ (a11.view.loc (c : Thread nD τ) ↦[a11.view.set]{fullShare} a11.view.writes (Elt F) f11
              [⟨Rect.unit (s := S264x128) (k0_off1 k) S1x128.size (k0_off1_inb k), rowX v0 s⟩])
          ∗ (a12.view.loc (c : Thread nD τ) ↦[a12.view.set]{fullShare} a12.view.writes (Elt F) f12
              [⟨Rect.unit (s := S264x128) (k0_off1 k) S1x128.size (k0_off1_inb k), rowY v0 s⟩]))) := by
  have hk : k.val < 256 := Nat.lt_of_lt_of_le k.isLt k0_t1_abs.2.1
  obtain ⟨px, py, vx, vy, pxr, pyr⟩ := s
  unfold k0_t1_body
  iintro ⟨H11, H12⟩
  sl_exec
  sl_step
  isplitr; · ipureintro; rfl
  isplitl [H11]; · iexact H11
  iexact H12

/-- The row at `o` of a history. -/
abbrev histRow (a : Memref sig .tc .vmem S264x128 .f32) (f : a.view.ty.Contents (Elt F)) (off : Fin 2 → ℕ)
    (inb : ∀ i, off i + S1x128.size i ≤ S264x128.size i) : Vec F S1x128 .f32 :=
  a.view.readAt (Elt F) (Rect.unit (s := S264x128) off S1x128.size inb).toLoadRect f

theorem trip2 (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole) (v0 : Vec F S128x128 .f32) (v3 : IVec S128x128 1) (v4 : IVec S1x128 32) (v5 : IVec S128x1 32) (v7 : IVec S1x128 1) (v9 : IVec S128x1 1) (v12 : IVec S128x128 1) (v16 v20 v24 v30 v32 : FVec F S1x128 .f32) (v39 v40 v41 v42 : FVec F S128x1 .f32)
    (k : Fin k0_t2_loop.trips) (s : Unit) (f9 : a9.view.ty.Contents (Elt F)) (f11 : a11.view.ty.Contents (Elt F)) (f12 : a12.view.ty.Contents (Elt F)) :
    (iprop((a9.view.loc (c : Thread nD τ) ↦[a9.view.set]{fullShare} f9) ∗ (a11.view.loc (c : Thread nD τ) ↦[a11.view.set]{fullShare} f11) ∗ (a12.view.loc (c : Thread nD τ) ↦[a12.view.set]{fullShare} f12)) : sProp 𝕄)
      ⊢ wp frame (wpE (defs₀ (F := F)) Variants.none c none) E (k0_t2_body a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k s)
        (fun _ => iprop((a9.view.loc (c : Thread nD τ) ↦[a9.view.set]{fullShare} a9.view.writes (Elt F) f9
              [⟨Rect.unit (s := S256x128) (k0_off4 k 7#32) S1x128.size (k0_off4_inb k 7), featRow v3 v4 v5 v7 v9 v12 v16 v20 v24 (histRow a11 f11 _ (k0_off2_inb k 7)) (histRow a12 f12 _ (k0_off2_inb k 7)) (histRow a11 f11 _ (k0_off3_inb k 7)) (histRow a12 f12 _ (k0_off3_inb k 7))⟩,
               ⟨Rect.unit (s := S256x128) (k0_off4 k 6#32) S1x128.size (k0_off4_inb k 6), featRow v3 v4 v5 v7 v9 v12 v16 v20 v24 (histRow a11 f11 _ (k0_off2_inb k 6)) (histRow a12 f12 _ (k0_off2_inb k 6)) (histRow a11 f11 _ (k0_off3_inb k 6)) (histRow a12 f12 _ (k0_off3_inb k 6))⟩,
               ⟨Rect.unit (s := S256x128) (k0_off4 k 5#32) S1x128.size (k0_off4_inb k 5), featRow v3 v4 v5 v7 v9 v12 v16 v20 v24 (histRow a11 f11 _ (k0_off2_inb k 5)) (histRow a12 f12 _ (k0_off2_inb k 5)) (histRow a11 f11 _ (k0_off3_inb k 5)) (histRow a12 f12 _ (k0_off3_inb k 5))⟩,
               ⟨Rect.unit (s := S256x128) (k0_off4 k 4#32) S1x128.size (k0_off4_inb k 4), featRow v3 v4 v5 v7 v9 v12 v16 v20 v24 (histRow a11 f11 _ (k0_off2_inb k 4)) (histRow a12 f12 _ (k0_off2_inb k 4)) (histRow a11 f11 _ (k0_off3_inb k 4)) (histRow a12 f12 _ (k0_off3_inb k 4))⟩,
               ⟨Rect.unit (s := S256x128) (k0_off4 k 3#32) S1x128.size (k0_off4_inb k 3), featRow v3 v4 v5 v7 v9 v12 v16 v20 v24 (histRow a11 f11 _ (k0_off2_inb k 3)) (histRow a12 f12 _ (k0_off2_inb k 3)) (histRow a11 f11 _ (k0_off3_inb k 3)) (histRow a12 f12 _ (k0_off3_inb k 3))⟩,
               ⟨Rect.unit (s := S256x128) (k0_off4 k 2#32) S1x128.size (k0_off4_inb k 2), featRow v3 v4 v5 v7 v9 v12 v16 v20 v24 (histRow a11 f11 _ (k0_off2_inb k 2)) (histRow a12 f12 _ (k0_off2_inb k 2)) (histRow a11 f11 _ (k0_off3_inb k 2)) (histRow a12 f12 _ (k0_off3_inb k 2))⟩,
               ⟨Rect.unit (s := S256x128) (k0_off4 k 1#32) S1x128.size (k0_off4_inb k 1), featRow v3 v4 v5 v7 v9 v12 v16 v20 v24 (histRow a11 f11 _ (k0_off2_inb k 1)) (histRow a12 f12 _ (k0_off2_inb k 1)) (histRow a11 f11 _ (k0_off3_inb k 1)) (histRow a12 f12 _ (k0_off3_inb k 1))⟩,
               ⟨Rect.unit (s := S256x128) (k0_off4 k 0#32) S1x128.size (k0_off4_inb k 0), featRow v3 v4 v5 v7 v9 v12 v16 v20 v24 (histRow a11 f11 _ (k0_off2_inb k 0)) (histRow a12 f12 _ (k0_off2_inb k 0)) (histRow a11 f11 _ (k0_off3_inb k 0)) (histRow a12 f12 _ (k0_off3_inb k 0))⟩])
          ∗ (a11.view.loc (c : Thread nD τ) ↦[a11.view.set]{fullShare} f11) ∗ (a12.view.loc (c : Thread nD τ) ↦[a12.view.set]{fullShare} f12))) := by
  have hk : k.val < 32 := Nat.lt_of_lt_of_le k.isLt k0_t2_abs.2.1
  unfold k0_t2_body
  iintro ⟨H9, H11, H12⟩
  sl_exec
  sl_step
  isplitl [H9]; · iexact H9
  isplitl [H11]; · iexact H11
  iexact H12

/-- The state after `k` steps. -/
def orbit (v0 : Vec F S128x128 .f32) (s : St F) : ℕ → St F
  | 0 => s
  | k + 1 => step v0 (orbit v0 s k)

/-- The state the simulation starts from. -/
def start (pos vel : Vec F S128x2 .f32) : St F :=
  (k0_pay97 pos, k0_pay98 pos, k0_pay99 vel, k0_pay100 vel, k0_pay93 pos, k0_pay94 pos)

/-- The stored histories of positions, row by row. -/
def histX (v0 : Vec F S128x128 .f32) (pos vel : Vec F S128x2 .f32) : ℕ → Vec F S1x128 .f32
  | 0 => k0_pay95 pos
  | k + 1 => rowX v0 (orbit v0 (start pos vel) k)
def histY (v0 : Vec F S128x128 .f32) (pos vel : Vec F S128x2 .f32) : ℕ → Vec F S1x128 .f32
  | 0 => k0_pay96 pos
  | k + 1 => rowY v0 (orbit v0 (start pos vel) k)

/-- The rows up to `n` of a history's buffer are `h`'s. -/
def Rows (a : Memref sig .tc .vmem S264x128 .f32) (f : a.view.ty.Contents (Elt F)) (h : ℕ → Vec F S1x128 .f32) (n : ℕ) : Prop :=
  ∀ (y : S264x128.Idx) (x : S1x128.Idx), (y (0 : Fin 2)).val ≤ n → (x (1 : Fin 2)).val = (y (1 : Fin 2)).val →
    a.view.read (Elt F) f y = h (y (0 : Fin 2)).val x

/-- The first `n` rows of the metrics' buffer are `h`'s. -/
def FeatRows (a : Memref sig .tc .vmem S256x128 .f32) (f : a.view.ty.Contents (Elt F)) (h : ℕ → FVec F S1x128 .f32) (n : ℕ) : Prop :=
  ∀ (y : S256x128.Idx) (x : S1x128.Idx), (y (0 : Fin 2)).val < n → (x (1 : Fin 2)).val = (y (1 : Fin 2)).val →
    a.view.read (Elt F) f y = h (y (0 : Fin 2)).val x

theorem idx_row_zero (x : S1x128.Idx) : (x (0 : Fin 2)).val = 0 := by
  have h : (x (0 : Fin 2)).val < 1 := (x (0 : Fin 2)).isLt
  omega

/-- Storing row `n + 1`. -/
theorem Rows.store {a : Memref sig .tc .vmem S264x128 .f32} {f : a.view.ty.Contents (Elt F)} {h : ℕ → Vec F S1x128 .f32} {n : ℕ}
    (H : Rows a f h n) {off : Fin 2 → ℕ} (hoff : off = ![n + 1, 0]) (inb : ∀ i, off i + S1x128.size i ≤ S264x128.size i) :
    Rows a (a.view.writes (Elt F) f [⟨Rect.unit (s := S264x128) off S1x128.size inb, h (n + 1)⟩]) h (n + 1) := by
  intro y x hy hx
  rcases Nat.lt_or_ge n (y (0 : Fin 2)).val with hlt | hge
  · have e : (y (0 : Fin 2)).val = n + 1 := by omega
    refine (View.read_writes_cons_rows_of_mem a.view f inb (h (n + 1)) [] y x hoff ?_ hx.symm).trans ?_
    · rw [idx_row_zero x]; exact e
    · rw [e]
  · refine (View.read_writes_cons_rows_of_not_mem a.view f inb (h (n + 1)) [] y hoff rfl (.inl (by omega))).trans ?_
    exact H y x hge hx

/-- The first row stored. -/
theorem Rows.first (a : Memref sig .tc .vmem S264x128 .f32) (f : a.view.ty.Contents (Elt F)) (h : ℕ → Vec F S1x128 .f32)
    {off : Fin 2 → ℕ} (hoff : off = ![0, 0]) (inb : ∀ i, off i + S1x128.size i ≤ S264x128.size i) :
    Rows a (a.view.writes (Elt F) f [⟨Rect.unit (s := S264x128) off S1x128.size inb, h 0⟩]) h 0 := by
  intro y x hy hx
  have e : (y (0 : Fin 2)).val = 0 := by omega
  refine (View.read_writes_cons_rows_of_mem a.view f inb (h 0) [] y x hoff ?_ hx.symm).trans ?_
  · rw [idx_row_zero x]; exact e
  · rw [e]

/-- Reading a row. -/
theorem Rows.row {a : Memref sig .tc .vmem S264x128 .f32} {f : a.view.ty.Contents (Elt F)} {h : ℕ → Vec F S1x128 .f32} {n : ℕ}
    (H : Rows a f h n) {off : Fin 2 → ℕ} {o : ℕ} (hoff : off = ![o, 0]) (ho : o ≤ n)
    (inb : ∀ i, off i + S1x128.size i ≤ S264x128.size i) : histRow a f off inb = h o := by
  subst hoff
  funext x
  have e : (((Rect.unit (s := S264x128) ![o, 0] S1x128.size inb).idx x) (0 : Fin 2)).val = o := by
    have := idx_row_zero x
    show o + 1 * (x (0 : Fin 2)).val = o
    omega
  refine (H ((Rect.unit (s := S264x128) ![o, 0] S1x128.size inb).idx x) x (by rw [e]; exact ho) ?_).trans (by rw [e])
  show (x (1 : Fin 2)).val = 0 + 1 * (x (1 : Fin 2)).val
  omega

/-- Storing the next row of the metrics. -/
theorem FeatRows.store {a : Memref sig .tc .vmem S256x128 .f32} {f : a.view.ty.Contents (Elt F)} {h : ℕ → FVec F S1x128 .f32} {n : ℕ}
    {L : List (View.Piece (Elt F) S256x128 .f32)} (H : FeatRows a (a.view.writes (Elt F) f L) h n) {off : Fin 2 → ℕ} (hoff : off = ![n, 0])
    (inb : ∀ i, off i + S1x128.size i ≤ S256x128.size i) {w : FVec F S1x128 .f32} (hw : w = h n) :
    FeatRows a (a.view.writes (Elt F) f (⟨Rect.unit (s := S256x128) off S1x128.size inb, w⟩ :: L)) h (n + 1) := by
  subst hw
  intro y x hy hx
  rcases Nat.lt_or_ge (y (0 : Fin 2)).val n with hlt | hge
  · refine (View.read_writes_cons_rows_of_not_mem a.view f inb (h n) L y hoff rfl (.inl hlt)).trans ?_
    exact H y x hlt hx
  · have e : (y (0 : Fin 2)).val = n := by omega
    refine (View.read_writes_cons_rows_of_mem a.view f inb (h n) L y x hoff ?_ hx.symm).trans ?_
    · rw [idx_row_zero x]; exact e
    · rw [e]

/-- Row `r` of the metrics over the histories. -/
def metricRow (v3 : IVec S128x128 1) (v4 : IVec S1x128 32) (v5 : IVec S128x1 32) (v7 : IVec S1x128 1) (v9 : IVec S128x1 1)
    (v12 : IVec S128x128 1) (v16 v20 v24 : FVec F S1x128 .f32) (hx hy : ℕ → Vec F S1x128 .f32) (r : ℕ) : FVec F S1x128 .f32 :=
  featRow v3 v4 v5 v7 v9 v12 v16 v20 v24 (hx r) (hy r) (hx (r + 1)) (hy (r + 1))

/-- The first loop's invariant. -/
def inv1 (c : Dev nD) (a11 a12 : Memref sig .tc .vmem S264x128 .f32) (v0 : Vec F S128x128 .f32) (pos vel : Vec F S128x2 .f32)
    (k : ℕ) (s : St F) : sProp 𝕄 :=
  iprop(∃ f11 f12, ⌜s = orbit v0 (start pos vel) k ∧ Rows a11 f11 (histX v0 pos vel) k ∧ Rows a12 f12 (histY v0 pos vel) k⌝
    ∗ (a11.view.loc (c : Thread nD τ) ↦[a11.view.set]{fullShare} f11) ∗ (a12.view.loc (c : Thread nD τ) ↦[a12.view.set]{fullShare} f12))

/-- The second loop's invariant. -/
def inv2 (c : Dev nD) (a9 : Memref sig .tc .vmem S256x128 .f32) (a11 a12 : Memref sig .tc .vmem S264x128 .f32)
    (f11 : a11.view.ty.Contents (Elt F)) (f12 : a12.view.ty.Contents (Elt F)) (h : ℕ → FVec F S1x128 .f32) (k : ℕ) (_ : Unit) : sProp 𝕄 :=
  iprop(∃ f9, ⌜FeatRows a9 f9 h (8 * k)⌝ ∗ (a9.view.loc (c : Thread nD τ) ↦[a9.view.set]{fullShare} f9)
    ∗ (a11.view.loc (c : Thread nD τ) ↦[a11.view.set]{fullShare} f11) ∗ (a12.view.loc (c : Thread nD τ) ↦[a12.view.set]{fullShare} f12))

theorem step1 (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole) (v0 : Vec F S128x128 .f32) (v3 : IVec S128x128 1) (v4 : IVec S1x128 32) (v5 : IVec S128x1 32) (v7 : IVec S1x128 1) (v9 : IVec S128x1 1) (v12 : IVec S128x128 1) (v16 v20 v24 v30 v32 : FVec F S1x128 .f32) (v39 v40 v41 v42 : FVec F S128x1 .f32) (pos vel : Vec F S128x2 .f32)
    (k : Fin k0_t1_loop.trips) (s : St F) :
    inv1 c a11 a12 v0 pos vel k.val s ⊢ wp frame (wpE (defs₀ (F := F)) Variants.none c none) E (k0_t1_body a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k s)
      (inv1 c a11 a12 v0 pos vel (k.val + 1)) := by
  unfold inv1
  iintro ⟨%f11, %f12, %h, H11, H12⟩
  obtain ⟨rfl, hX, hY⟩ := h
  iapply (wp_wand_r frame (wpE (defs₀ (F := F)) Variants.none c none) E)
  isplitl [H11 H12]
  · iapply (trip1 c E a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k (orbit v0 (start pos vel) k.val) f11 f12)
    isplitl [H11]; · iexact H11
    iexact H12
  · iintro %s' ⟨%e, H11, H12⟩
    iexists _; iexists _
    isplitr
    swap
    · isplitl [H11]; · iexact H11
      iexact H12
    ipureintro
    exact ⟨e, hX.store (k0_off1_eq k) _, hY.store (k0_off1_eq k) _⟩

theorem step2 (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole) (v0 : Vec F S128x128 .f32) (v3 : IVec S128x128 1) (v4 : IVec S1x128 32) (v5 : IVec S128x1 32) (v7 : IVec S1x128 1) (v9 : IVec S128x1 1) (v12 : IVec S128x128 1) (v16 v20 v24 v30 v32 : FVec F S1x128 .f32) (v39 v40 v41 v42 : FVec F S128x1 .f32) (hx hy : ℕ → Vec F S1x128 .f32)
    (f11 : a11.view.ty.Contents (Elt F)) (f12 : a12.view.ty.Contents (Elt F)) (hX : Rows a11 f11 hx 256) (hY : Rows a12 f12 hy 256)
    (k : Fin k0_t2_loop.trips) (s : Unit) :
    inv2 c a9 a11 a12 f11 f12 (metricRow v3 v4 v5 v7 v9 v12 v16 v20 v24 hx hy) k.val s
      ⊢ wp frame (wpE (defs₀ (F := F)) Variants.none c none) E (k0_t2_body a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k s)
      (inv2 c a9 a11 a12 f11 f12 (metricRow v3 v4 v5 v7 v9 v12 v16 v20 v24 hx hy) (k.val + 1)) := by
  have hk : k.val < 32 := Nat.lt_of_lt_of_le k.isLt k0_t2_abs.2.1
  unfold inv2
  iintro ⟨%f9, %h, H9, H11, H12⟩
  iapply (wp_wand_r frame (wpE (defs₀ (F := F)) Variants.none c none) E)
  isplitl [H9 H11 H12]
  · iapply (trip2 c E a0 h0 a1 h1 a2 h2 a3 h3 a4 h4 a5 h5 a6 h6 a7 h7 a8 h8 a9 h9 a10 h10 a11 h11 a12 h12 v0 v3 v4 v5 v7 v9 v12 v16 v20 v24 v30 v32 v39 v40 v41 v42 k s f9 f11 f12)
    isplitl [H9]; · iexact H9
    isplitl [H11]; · iexact H11
    iexact H12
  · iintro %_ ⟨H9, H11, H12⟩
    iexists _
    isplitr
    swap
    · isplitl [H9]; · iexact H9
      isplitl [H11]; · iexact H11
      iexact H12
    ipureintro
    have row : ∀ u : Fin 8, featRow v3 v4 v5 v7 v9 v12 v16 v20 v24 (histRow a11 f11 _ (k0_off2_inb k u)) (histRow a12 f12 _ (k0_off2_inb k u))
        (histRow a11 f11 _ (k0_off3_inb k u)) (histRow a12 f12 _ (k0_off3_inb k u))
        = metricRow v3 v4 v5 v7 v9 v12 v16 v20 v24 hx hy (8 * k.val + u.val) := fun u => by
      have hu := u.isLt
      rw [hX.row (k0_off2_eq k u) (by omega), hY.row (k0_off2_eq k u) (by omega), hX.row (k0_off3_eq k u) (by omega),
        hY.row (k0_off3_eq k u) (by omega)]
      rfl
    exact ((((((((FeatRows.store (L := []) h (k0_off4_eq k 0) _ (row 0)).store (k0_off4_eq k 1) _ (row 1)).store (k0_off4_eq k 2) _ (row 2)).store
      (k0_off4_eq k 3) _ (row 3)).store (k0_off4_eq k 4) _ (row 4)).store (k0_off4_eq k 5) _ (row 5)).store (k0_off4_eq k 6) _ (row 6)).store
      (k0_off4_eq k 7) _ (row 7))

/-- The metrics' rows the kernel computes from its inputs' blocks. -/
def kmetric (v0 : Vec F S128x128 .f32) (pos vel : Vec F S128x2 .f32) : ℕ → FVec F S1x128 .f32 :=
  metricRow k0_pay84 (iota .tc S1x128 32 [1] iota_S1x128_d1_w32) (iota .tc S128x1 32 [0] iota_S128x1_d0_w32) k0_pay85 k0_pay86 k0_pay87
    (k0_pay88 (F := F)) (k0_pay89 (F := F)) (k0_pay90 (F := F)) (histX v0 pos vel) (histY v0 pos vel)

/-- The column `j` of a row. -/
def colIdx (j : Fin 128) : S1x128.Idx := fun a => ⟨if a.val = 1 then j.val else 0, by
  have := j.isLt
  fin_cases a
  · show 0 < 1; omega
  · show j.val < 128; omega⟩

/-- The metrics array. -/
def kfeats (v0 : Vec F S128x128 .f32) (pos vel : Vec F S128x2 .f32) : Vec F S256x128 .f32 :=
  fun y => kmetric v0 pos vel (y (0 : Fin 2)).val (colIdx (y (1 : Fin 2)))

/-- The encoding from the metrics array and the encoder's parameters. -/
def kenc (f : Vec F S256x128 .f32) (w1 : Vec F S128x64 .f32) (b1 : Vec F S1x64 .f32) (w2 : Vec F S64x32 .f32) (b2 g b : Vec F S1x32 .f32) :
    FVec F S256x32 .f32 :=
  k0_pay1 (k0_pay116 f w1 b1 w2 b2) (k0_pay117 f w1 b1 w2 b2) g b

theorem FeatRows.read_eq {a : Memref sig .tc .vmem S256x128 .f32} {f : a.view.ty.Contents (Elt F)} {v0 : Vec F S128x128 .f32}
    {pos vel : Vec F S128x2 .f32} (H : FeatRows a f (kmetric v0 pos vel) 256) : a.view.read (Elt F) f = kfeats v0 pos vel := by
  funext y
  have hy : (y (0 : Fin 2)).val < 256 := (y (0 : Fin 2)).isLt
  exact H y (colIdx (y (1 : Fin 2))) hy rfl

theorem trips1 : k0_t1_loop.trips = 256 := by decide +kernel
theorem trips2 : k0_t2_loop.trips = 32 := by decide +kernel

/-- The kernel's first part: the loads and the first row of the histories. -/
theorem part26_runs (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole)
    (f0 : a0.view.ty.Contents (Elt F)) (f1 : a1.view.ty.Contents (Elt F)) (f2 : a2.view.ty.Contents (Elt F))
    (f11 : a11.view.ty.Contents (Elt F)) (f12 : a12.view.ty.Contents (Elt F)) :
    (iprop((a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a11.view.loc (c : Thread nD τ) ↦[a11.view.set]{fullShare} f11) ∗ (a12.view.loc (c : Thread nD τ) ↦[a12.view.set]{fullShare} f12)) : sProp 𝕄)
      ⊢ wp frame (wpE (defs₀ (F := F)) Variants.none c none) E (k0_part26 a0 h0 a1 h1 a2 h2 a3 h3 a4 h4 a5 h5 a6 h6 a7 h7 a8 h8 a9 h9 a10 h10 a11 h11 a12 h12)
        (fun r => iprop(⌜r = ⟨a0.view.read (Elt F) f0, k0_pay84, iota .tc S1x128 32 [1] iota_S1x128_d1_w32, iota .tc S128x1 32 [0] iota_S128x1_d0_w32,
            k0_pay85, k0_pay86, k0_pay87, k0_pay88 (F := F), k0_pay89 (F := F), k0_pay90 (F := F), k0_pay93 (a1.view.read (Elt F) f1),
            k0_pay94 (a1.view.read (Elt F) f1), k0_pay97 (a1.view.read (Elt F) f1), k0_pay98 (a1.view.read (Elt F) f1),
            k0_pay99 (a2.view.read (Elt F) f2), k0_pay100 (a2.view.read (Elt F) f2)⟩⌝
          ∗ (a0.view.loc (c : Thread nD τ) ↦[a0.view.set]{fullShare} f0) ∗ (a1.view.loc (c : Thread nD τ) ↦[a1.view.set]{fullShare} f1) ∗ (a2.view.loc (c : Thread nD τ) ↦[a2.view.set]{fullShare} f2)
          ∗ (a11.view.loc (c : Thread nD τ) ↦[a11.view.set]{fullShare} a11.view.writes (Elt F) f11 [⟨Rect.unit (s := S264x128) ![0, 0] S1x128.size inb_S264x128_S1x128_0_0, k0_pay95 (a1.view.read (Elt F) f1)⟩])
          ∗ (a12.view.loc (c : Thread nD τ) ↦[a12.view.set]{fullShare} a12.view.writes (Elt F) f12 [⟨Rect.unit (s := S264x128) ![0, 0] S1x128.size inb_S264x128_S1x128_0_0, k0_pay96 (a1.view.read (Elt F) f1)⟩]))) := by
  rw [← View.readAt_full a0.view f0 inb_S128x128_S128x128_0_0, ← View.readAt_full a1.view f1 inb_S128x2_S128x2_0_0,
    ← View.readAt_full a2.view f2 inb_S128x2_S128x2_0_0, k0_part26_eq_skeleton]
  unfold k0_part26_skel
  iintro ⟨H0, H1, H2, H11, H12⟩
  sl_exec
  sl_step
  isplitr; · ipureintro; rfl
  isplitl [H0]; · iexact H0
  isplitl [H1]; · iexact H1
  isplitl [H2]; · iexact H2
  isplitl [H11]; · iexact H11
  iexact H12

/-- The kernel's second part: the two loops and the encoder's loads. -/
theorem part27_runs (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole) (v0 : Vec F S128x128 .f32) (v3 : IVec S128x128 1) (v4 : IVec S1x128 32) (v5 : IVec S128x1 32) (v7 : IVec S1x128 1) (v9 : IVec S128x1 1) (v12 : IVec S128x128 1) (v16 v20 v24 : FVec F S1x128 .f32)
    (pos vel : Vec F S128x2 .f32) (f3 : a3.view.ty.Contents (Elt F)) (f4 : a4.view.ty.Contents (Elt F)) (f5 : a5.view.ty.Contents (Elt F))
    (f6 : a6.view.ty.Contents (Elt F)) (f9 : a9.view.ty.Contents (Elt F)) (f11 : a11.view.ty.Contents (Elt F)) (f12 : a12.view.ty.Contents (Elt F))
    (hX : Rows a11 f11 (histX v0 pos vel) 0) (hY : Rows a12 f12 (histY v0 pos vel) 0) (m : Vec F S256x128 .f32)
    (hm : ∀ f, FeatRows a9 f (metricRow v3 v4 v5 v7 v9 v12 v16 v20 v24 (histX v0 pos vel) (histY v0 pos vel)) 256 → a9.view.read (Elt F) f = m) :
    (iprop((a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a9.view.loc (c : Thread nD τ) ↦[a9.view.set]{fullShare} f9) ∗ (a11.view.loc (c : Thread nD τ) ↦[a11.view.set]{fullShare} f11) ∗ (a12.view.loc (c : Thread nD τ) ↦[a12.view.set]{fullShare} f12)) : sProp 𝕄)
      ⊢ wp frame (wpE (defs₀ (F := F)) Variants.none c none) E (k0_part27 a0 h0 a1 h1 a2 h2 a3 h3 a4 h4 a5 h5 a6 h6 a7 h7 a8 h8 a9 h9 a10 h10 a11 h11 a12 h12 v0 v3 v4 v5 v7 v9 v12 v16 v20 v24 (k0_pay93 pos) (k0_pay94 pos)
          (k0_pay97 pos) (k0_pay98 pos) (k0_pay99 vel) (k0_pay100 vel))
        (fun r => iprop(⌜r = ⟨k0_pay116 m (a3.view.read (Elt F) f3) (a4.view.read (Elt F) f4) (a5.view.read (Elt F) f5) (a6.view.read (Elt F) f6),
            k0_pay117 m (a3.view.read (Elt F) f3) (a4.view.read (Elt F) f4) (a5.view.read (Elt F) f5) (a6.view.read (Elt F) f6)⟩⌝
          ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (∃ g, ⌜a9.view.read (Elt F) g = m⌝ ∗ (a9.view.loc (c : Thread nD τ) ↦[a9.view.set]{fullShare} g)) ∗ (∃ g, (a11.view.loc (c : Thread nD τ) ↦[a11.view.set]{fullShare} g)) ∗ (∃ g, (a12.view.loc (c : Thread nD τ) ↦[a12.view.set]{fullShare} g)))) := by
  rw [← View.readAt_full a3.view f3 inb_S128x64_S128x64_0_0, ← View.readAt_full a4.view f4 inb_S1x64_S1x64_0_0,
    ← View.readAt_full a5.view f5 inb_S64x32_S64x32_0_0, ← View.readAt_full a6.view f6 inb_S1x32_S1x32_0_0, k0_part27_eq_skeleton]
  unfold k0_part27_skel
  iintro ⟨H3, H4, H5, H6, H9, H11, H12⟩
  sl_for (inv1 c a11 a12 v0 pos vel) $$ [H11 H12]
  case region =>
    intro k s
    exact step1 c E a0 h0 a1 h1 a2 h2 a3 h3 a4 h4 a5 h5 a6 h6 a7 h7 a8 h8 a9 h9 a10 h10 a11 h11 a12 h12 v0 v3 v4 v5 v7 v9 v12 v16 v20 v24 _ _ _ _ _ _ pos vel k s
  · unfold inv1
    iexists f11; iexists f12
    isplitr
    · ipureintro; exact ⟨rfl, hX, hY⟩
    isplitl [H11]; · iexact H11
    iexact H12
  iintro %s HI
  unfold inv1
  icases HI with ⟨%g11, %g12, %h, H11, H12⟩
  obtain ⟨-, hX', hY'⟩ := h
  obtain ⟨s1, s2, s3, s4, s5, s6⟩ := s
  sl_exec
  rw [show Scf.trips k0_t1_loop.lb k0_t1_loop.ub k0_t1_loop.st = 256 from trips1] at hX' hY'
  sl_for (inv2 c a9 a11 a12 g11 g12 (metricRow v3 v4 v5 v7 v9 v12 v16 v20 v24 (histX v0 pos vel) (histY v0 pos vel))) $$ [H9 H11 H12]
  case region =>
    intro k s
    exact step2 c E a0 h0 a1 h1 a2 h2 a3 h3 a4 h4 a5 h5 a6 h6 a7 h7 a8 h8 a9 h9 a10 h10 a11 h11 a12 h12 v0 v3 v4 v5 v7 v9 v12 v16 v20 v24 _ _ _ _ _ _ _ _ g11 g12 hX' hY' k s
  · unfold inv2
    iexists f9
    isplitr
    · ipureintro; intro y x hy; exact absurd hy (by omega)
    isplitl [H9]; · iexact H9
    isplitl [H11]; · iexact H11
    iexact H12
  iintro %_ HI
  unfold inv2
  icases HI with ⟨%g9, %h9, H9, H11, H12⟩
  rw [show Scf.trips k0_t2_loop.lb k0_t2_loop.ub k0_t2_loop.st = 32 from trips2] at h9
  obtain rfl := hm g9 h9
  sl_exec
  sl_step
  isplitr
  · ipureintro
    rw [← View.readAt_full a9.view g9 inb_S256x128_S256x128_0_0]
  isplitl [H3]; · iexact H3
  isplitl [H4]; · iexact H4
  isplitl [H5]; · iexact H5
  isplitl [H6]; · iexact H6
  isplitl [H9]
  · iexists g9; isplitr; · ipureintro; rfl
    iexact H9
  isplitl [H11]; · iexists g11; iexact H11
  iexists g12; iexact H12
/-- The body on whole memrefs: the inputs as they were, the metrics in window 9, the encoding in window 10. -/
theorem body_runs (c : Dev nD) (E : Set ℕ) (a0 : Memref sig .tc .vmem S128x128 .f32) (h0 : a0.IsWhole) (a1 : Memref sig .tc .vmem S128x2 .f32) (h1 : a1.IsWhole) (a2 : Memref sig .tc .vmem S128x2 .f32) (h2 : a2.IsWhole) (a3 : Memref sig .tc .vmem S128x64 .f32) (h3 : a3.IsWhole) (a4 : Memref sig .tc .vmem S1x64 .f32) (h4 : a4.IsWhole) (a5 : Memref sig .tc .vmem S64x32 .f32) (h5 : a5.IsWhole) (a6 : Memref sig .tc .vmem S1x32 .f32) (h6 : a6.IsWhole) (a7 : Memref sig .tc .vmem S1x32 .f32) (h7 : a7.IsWhole) (a8 : Memref sig .tc .vmem S1x32 .f32) (h8 : a8.IsWhole) (a9 : Memref sig .tc .vmem S256x128 .f32) (h9 : a9.IsWhole) (a10 : Memref sig .tc .vmem S256x32 .f32) (h10 : a10.IsWhole) (a11 : Memref sig .tc .vmem S264x128 .f32) (h11 : a11.IsWhole) (a12 : Memref sig .tc .vmem S264x128 .f32) (h12 : a12.IsWhole)
    (x0 : Vec F S128x128 .f32) (x1 x2 : Vec F S128x2 .f32) (x3 : Vec F S128x64 .f32) (x4 : Vec F S1x64 .f32)
    (x5 : Vec F S64x32 .f32) (x6 x7 x8 : Vec F S1x32 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ X, owns (c : Thread nD τ) a9 fullShare X) ∗ (∃ X, owns (c : Thread nD τ) a10 fullShare X)
        ∗ (∃ X, owns (c : Thread nD τ) a11 fullShare X) ∗ (∃ X, owns (c : Thread nD τ) a12 fullShare X)
        ∗ (iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare (kfeats x0 x1 x2) ∗ owns (c : Thread nD τ) a10 fullShare (kenc (kfeats x0 x1 x2) x3 x4 x5 x6 x7 x8)
        ∗ (∃ X, owns (c : Thread nD τ) a11 fullShare X) ∗ (∃ X, owns (c : Thread nD τ) a12 fullShare X)) -∗ K ⟨⟩))
      ⊢ wp frame (wpE (defs₀ (F := F)) Variants.none c none) E (cc0__sim_kernel a0 h0 a1 h1 a2 h2 a3 h3 a4 h4 a5 h5 a6 h6 a7 h7 a8 h8 a9 h9 a10 h10 a11 h11 a12 h12) K := by
  rw [cc0__sim_kernel_eq_skeleton]; unfold cc0__sim_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, ⟨%d10, %f10, -, H10⟩, ⟨%d11, %f11, -, H11⟩, ⟨%d12, %f12, -, H12⟩, Hk⟩
  subst e0 e1 e2 e3 e4 e5 e6 e7 e8
  rw [wp_bind]
  iapply (wp_wand_r frame (wpE (defs₀ (F := F)) Variants.none c none) E)
  isplitl [H0 H1 H2 H11 H12]
  · iapply (part26_runs c E a0 h0 a1 h1 a2 h2 a3 h3 a4 h4 a5 h5 a6 h6 a7 h7 a8 h8 a9 h9 a10 h10 a11 h11 a12 h12 f0 f1 f2 f11 f12)
    isplitl [H0]; · iexact H0
    isplitl [H1]; · iexact H1
    isplitl [H2]; · iexact H2
    isplitl [H11]; · iexact H11
    iexact H12
  iintro %r ⟨%er, H0, H1, H2, H11, H12⟩
  subst er
  dsimp only
  rw [wp_bind]
  iapply (wp_wand_r frame (wpE (defs₀ (F := F)) Variants.none c none) E)
  isplitl [H3 H4 H5 H6 H9 H11 H12]
  · iapply (part27_runs c E a0 h0 a1 h1 a2 h2 a3 h3 a4 h4 a5 h5 a6 h6 a7 h7 a8 h8 a9 h9 a10 h10 a11 h11 a12 h12 (a0.view.read (Elt F) f0) k0_pay84 (iota .tc S1x128 32 [1] iota_S1x128_d1_w32) (iota .tc S128x1 32 [0] iota_S128x1_d0_w32) k0_pay85 k0_pay86 k0_pay87 (k0_pay88 (F := F)) (k0_pay89 (F := F)) (k0_pay90 (F := F)) (a1.view.read (Elt F) f1) (a2.view.read (Elt F) f2) f3 f4 f5 f6 f9 _ _
      (Rows.first a11 f11 (histX (a0.view.read (Elt F) f0) (a1.view.read (Elt F) f1) (a2.view.read (Elt F) f2)) rfl inb_S264x128_S1x128_0_0)
      (Rows.first a12 f12 (histY (a0.view.read (Elt F) f0) (a1.view.read (Elt F) f1) (a2.view.read (Elt F) f2)) rfl inb_S264x128_S1x128_0_0)
      (kfeats (a0.view.read (Elt F) f0) (a1.view.read (Elt F) f1) (a2.view.read (Elt F) f2)) (fun f hf => FeatRows.read_eq hf))
    isplitl [H3]; · iexact H3
    isplitl [H4]; · iexact H4
    isplitl [H5]; · iexact H5
    isplitl [H6]; · iexact H6
    isplitl [H9]; · iexact H9
    isplitl [H11]; · iexact H11
    iexact H12
  iintro %r ⟨%er, H3, H4, H5, H6, ⟨%g9, %e9, H9⟩, ⟨%g11, H11⟩, ⟨%g12, H12⟩⟩
  subst er
  dsimp only
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists g9; isplitr; · ipureintro; exact e9
                  iexact H9
  isplitl [H10]
  · iexists _; isplitr; swap; · iexact H10
    ipureintro
    refine (View.read_writes_full a10.view f10 inb_S256x32_S256x32_0_0 _ []).trans ?_
    rw [← View.readAt_full a7.view f7 inb_S1x32_S1x32_0_0, ← View.readAt_full a8.view f8 inb_S1x32_S1x32_0_0]
    rfl
  isplitl [H11]; · iexists _; iexists g11; isplitr; swap; · iexact H11
                   ipureintro; rfl
  iexists _; iexists g12; isplitr; swap; · iexact H12
  ipureintro; rfl

end Cert.Proof.Body

end
-- ==== Proof.KernelRun.lean ====
/-
  The run of `KernelIdeal`, at any values: the
  result windows hold the named functions of `Body` at the blocks of the nine inputs.
-/
module

public import proofs.«01_k».proof.Proof.Body
public import Idealize.ShloMosaic.Lib.Pipeline.ValueKit

@[expose] public section

set_option maxRecDepth 16384

noncomputable section

namespace Cert.Proof.KernelRun

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the arrays as the region finds them; the inputs' blocks stay, the results' hold the metrics and the encoding. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => kfeats (iblk m c 0 t) (iblk m c 1 t) (iblk m c 2 t)
    | ⟨10, _⟩ => kenc (kfeats (iblk m c 0 t) (iblk m c 1 t) (iblk m c 2 t)) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem after0_9 (c : Dev nD) (t : Fin cfg0.N) : (dats m 0 c).after 9 t = kfeats (iblk m c 0 t) (iblk m c 1 t) (iblk m c 2 t) := by
  dsimp only [dats]
theorem after0_10 (c : Dev nD) (t : Fin cfg0.N) : (dats m 0 c).after 10 t = kenc (kfeats (iblk m c 0 t) (iblk m c 1 t) (iblk m c 2 t))
    (iblk m c 3 t) (iblk m c 4 t) (iblk m c 5 t) (iblk m c 6 t) (iblk m c 7 t) (iblk m c 8 t) := by dsimp only [dats]

/-- The body's scratch and the generator's register, as owned memrefs. -/
theorem scratch_owned (c : Dev nD) : (Pipeline.ΦA spec0 c : sProp 𝕄)
    = iprop(((∃ X, owns (c : Thread nD τ) (Memref.whole cc0_scratch0) fullShare X)
      ∗ (∃ X, owns (c : Thread nD τ) (Memref.whole cc0_scratch1) fullShare X)) ∗ ∃ r, prngReg c r) := by
  unfold Pipeline.ΦA; rw [scopedRest0_eq]; simp only [owns_whole]

theorem defs₀_row (t : Fin cfg0.N) : defs₀ (F := F) .tc cfg0.body (cfg0.bodyArgs t (cfg0.slots t)) = bodyAt0 t := by
  unfold defs₀; rw [Defs.onTc_tc]

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c),
    before0_6_of m (dats m 0 c) (A_eq m c 6) (after0_6 m c), before0_7_of m (dats m 0 c) (A_eq m c 7) (after0_7 m c),
    before0_8_of m (dats m 0 c) (A_eq m c 8) (after0_8 m c)]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  simp only [after0_0, after0_1, after0_2, after0_3, after0_4, after0_5, after0_6, after0_7, after0_8, after0_9, after0_10]
  rw [scratch_owned]
  iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  iintro ⟨H0, H1, H2, H3, H4, H5, H6, H7, H8, H9, H10, S0, S1⟩
  isplitl [HP S0 S1]
  · isplitl [S0 S1]
    · isplitl [S0]; · iexact S0
      iexact S1
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.KernelRun

end
-- ==== Proof.KernelEntry.lean ====
/-
  The run of `KernelIdeal`, at any values: what the nine arguments and the four results hold at the end, and every counter at
  zero. The results are the named functions of `Body` at the arrays the host lines before the launch compute.
-/
module

public import proofs.«01_k».proof.Proof.KernelRun
public import Idealize.ShloMosaic.Lib.Pipeline.ValueKit

@[expose] public section

set_option maxRecDepth 16384

noncomputable section

namespace Cert.Proof.KernelRun

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! What the host lines before the launch leave in the nine input arrays. -/

/-- The table of the permutation sums. -/
def psig : Vec F S128x128 .f32 := fun i => FloatOps.ofBits .f32 (lit0 (S128x128.rowMajor i))
/-- The positions, and the velocities, over 128 agents. -/
def posPad (p : Vec F S100x2 .f32) : Vec F S128x2 .f32 :=
  Host.scatter scatter_S128x2_S1_S100x2_01_n_0_0 (fun _ b => b) (broadcastInDim S128x2 ![] bcast_S_S128x2 (constant S_ .f32 0x4E6E6B28#32))
    (broadcastInDim S1 ![] bcast_S_S1 (constantI S_ 32 0#32)) p
def velPad (p : Vec F S100x2 .f32) : Vec F S128x2 .f32 :=
  Host.scatter scatter_S128x2_S1_S100x2_01_n_0_0 (fun _ b => b) (broadcastInDim S128x2 ![] bcast_S_S128x2 (constant S_ .f32 0x00000000#32))
    (broadcastInDim S1 ![] bcast_S_S1 (constantI S_ 32 0#32)) p
/-- The first weights, transposed, over 128 rows. -/
def w1Pad (w : Vec F S64x3 .f32) : Vec F S128x64 .f32 :=
  Host.scatter scatter_S128x64_S1_S3x64_01_n_0_0 (fun _ b => b) (broadcastInDim S128x64 ![] bcast_S_S128x64 (constant S_ .f32 0x00000000#32))
    (broadcastInDim S1 ![] bcast_S_S1 (constantI S_ 32 0#32)) (transpose S3x64 [1, 0] w transposes_S64x3_S3x64_1_0)

theorem entry_0 (c : Dev nD) : V m c main_cst = psig (F := F) := by
  unfold V V0 hostOps0
  simp only [List.flatten_cons, List.flatten_nil, List.append_nil]
  after_results
  rfl
theorem block_0 (c : Dev nD) (t : Fin cfg0.N) : iblk m c 0 t = psig (F := F) := by
  have idx : ∀ a, win0_0.index t a = 0 := by intro a; fin_cases a <;> rfl
  rw [← entry_0 m c]
  funext j
  blk_ext! [iblk, idx]
theorem entry_1 (c : Dev nD) : V m c main_v2 = posPad (m ((c : Thread nD τ).loc main_arg1)) := by
  unfold V V0 hostOps0 posPad
  simp only [List.flatten_cons, List.flatten_nil, List.append_nil]
  after_results
theorem block_1 (c : Dev nD) (t : Fin cfg0.N) : iblk m c 1 t = posPad (m ((c : Thread nD τ).loc main_arg1)) := by
  have idx : ∀ a, win0_1.index t a = 0 := by intro a; fin_cases a <;> rfl
  rw [← entry_1 m c]
  funext j
  blk_ext! [iblk, idx]
theorem entry_2 (c : Dev nD) : V m c main_v5 = velPad (m ((c : Thread nD τ).loc main_arg2)) := by
  unfold V V0 hostOps0 velPad
  simp only [List.flatten_cons, List.flatten_nil, List.append_nil]
  after_results
theorem block_2 (c : Dev nD) (t : Fin cfg0.N) : iblk m c 2 t = velPad (m ((c : Thread nD τ).loc main_arg2)) := by
  have idx : ∀ a, win0_2.index t a = 0 := by intro a; fin_cases a <;> rfl
  rw [← entry_2 m c]
  funext j
  blk_ext! [iblk, idx]
theorem entry_3 (c : Dev nD) : V m c main_v9 = w1Pad (m ((c : Thread nD τ).loc main_arg3)) := by
  unfold V V0 hostOps0 w1Pad
  simp only [List.flatten_cons, List.flatten_nil, List.append_nil]
  after_results
theorem block_3 (c : Dev nD) (t : Fin cfg0.N) : iblk m c 3 t = w1Pad (m ((c : Thread nD τ).loc main_arg3)) := by
  have idx : ∀ a, win0_3.index t a = 0 := by intro a; fin_cases a <;> rfl
  rw [← entry_3 m c]
  funext j
  blk_ext! [iblk, idx]
theorem entry_4 (c : Dev nD) : V m c main_v10 = shapeCast S1x64 (m ((c : Thread nD τ).loc main_arg4)) shapeCasts_S64_S1x64 := by
  unfold V V0 hostOps0
  simp only [List.flatten_cons, List.flatten_nil, List.append_nil]
  after_results
  rfl
theorem block_4 (c : Dev nD) (t : Fin cfg0.N) : iblk m c 4 t = shapeCast S1x64 (m ((c : Thread nD τ).loc main_arg4)) shapeCasts_S64_S1x64 := by
  have idx : ∀ a, win0_4.index t a = 0 := by intro a; fin_cases a <;> rfl
  rw [← entry_4 m c]
  funext j
  blk_ext! [iblk, idx]
theorem entry_5 (c : Dev nD) : V m c main_v11 = transpose S64x32 [1, 0] (m ((c : Thread nD τ).loc main_arg5)) transposes_S32x64_S64x32_1_0 := by
  unfold V V0 hostOps0
  simp only [List.flatten_cons, List.flatten_nil, List.append_nil]
  after_results
theorem block_5 (c : Dev nD) (t : Fin cfg0.N) : iblk m c 5 t = transpose S64x32 [1, 0] (m ((c : Thread nD τ).loc main_arg5)) transposes_S32x64_S64x32_1_0 := by
  have idx : ∀ a, win0_5.index t a = 0 := by intro a; fin_cases a <;> rfl
  rw [← entry_5 m c]
  funext j
  blk_ext! [iblk, idx]
theorem entry_6 (c : Dev nD) : V m c main_v12 = shapeCast S1x32 (m ((c : Thread nD τ).loc main_arg6)) shapeCasts_S32_S1x32 := by
  unfold V V0 hostOps0
  simp only [List.flatten_cons, List.flatten_nil, List.append_nil]
  after_results
  rfl
theorem block_6 (c : Dev nD) (t : Fin cfg0.N) : iblk m c 6 t = shapeCast S1x32 (m ((c : Thread nD τ).loc main_arg6)) shapeCasts_S32_S1x32 := by
  have idx : ∀ a, win0_6.index t a = 0 := by intro a; fin_cases a <;> rfl
  rw [← entry_6 m c]
  funext j
  blk_ext! [iblk, idx]
theorem entry_7 (c : Dev nD) : V m c main_v13 = shapeCast S1x32 (m ((c : Thread nD τ).loc main_arg7)) shapeCasts_S32_S1x32 := by
  unfold V V0 hostOps0
  simp only [List.flatten_cons, List.flatten_nil, List.append_nil]
  after_results
  rfl
theorem block_7 (c : Dev nD) (t : Fin cfg0.N) : iblk m c 7 t = shapeCast S1x32 (m ((c : Thread nD τ).loc main_arg7)) shapeCasts_S32_S1x32 := by
  have idx : ∀ a, win0_7.index t a = 0 := by intro a; fin_cases a <;> rfl
  rw [← entry_7 m c]
  funext j
  blk_ext! [iblk, idx]
theorem entry_8 (c : Dev nD) : V m c main_v14 = shapeCast S1x32 (m ((c : Thread nD τ).loc main_arg8)) shapeCasts_S32_S1x32 := by
  unfold V V0 hostOps0
  simp only [List.flatten_cons, List.flatten_nil, List.append_nil]
  after_results
  rfl
theorem block_8 (c : Dev nD) (t : Fin cfg0.N) : iblk m c 8 t = shapeCast S1x32 (m ((c : Thread nD τ).loc main_arg8)) shapeCasts_S32_S1x32 := by
  have idx : ∀ a, win0_8.index t a = 0 := by intro a; fin_cases a <;> rfl
  rw [← entry_8 m c]
  funext j
  blk_ext! [iblk, idx]

theorem final_9 (c : Dev nD) : (dats m 0 c).arrAt 9 cfg0.N
    = kfeats (psig (F := F)) (posPad (m ((c : Thread nD τ).loc main_arg1))) (velPad (m ((c : Thread nD τ).loc main_arg2))) := by
  refine (dats m 0 c).arrAt_eq_of_after_last 9 t0_0 (by decide +kernel) _ fun j => ?_
  rw [after0_9, block_0, block_1, block_2]
  blk_simp
theorem final_10 (c : Dev nD) : (dats m 0 c).arrAt 10 cfg0.N
    = kenc (kfeats (psig (F := F)) (posPad (m ((c : Thread nD τ).loc main_arg1))) (velPad (m ((c : Thread nD τ).loc main_arg2))))
      (w1Pad (m ((c : Thread nD τ).loc main_arg3))) (shapeCast S1x64 (m ((c : Thread nD τ).loc main_arg4)) shapeCasts_S64_S1x64)
      (transpose S64x32 [1, 0] (m ((c : Thread nD τ).loc main_arg5)) transposes_S32x64_S64x32_1_0)
      (shapeCast S1x32 (m ((c : Thread nD τ).loc main_arg6)) shapeCasts_S32_S1x32)
      (shapeCast S1x32 (m ((c : Thread nD τ).loc main_arg7)) shapeCasts_S32_S1x32)
      (shapeCast S1x32 (m ((c : Thread nD τ).loc main_arg8)) shapeCasts_S32_S1x32) := by
  refine (dats m 0 c).arrAt_eq_of_after_last 10 t0_0 (by decide +kernel) _ fun j => ?_
  rw [after0_10, block_0, block_1, block_2, block_3, block_4, block_5, block_6, block_7, block_8]
  blk_simp

/-- The metrics array of device `c`, from the arguments. -/
def featsOf (m : (ℓ : Loc nD τ sig) → Buf (Elt F) ℓ) (c : Dev nD) : Vec F S256x128 .f32 :=
  kfeats (psig (F := F)) (posPad (m ((c : Thread nD τ).loc main_arg1))) (velPad (m ((c : Thread nD τ).loc main_arg2)))

/-- The encoding of device `c`, from the arguments. -/
def encOf (m : (ℓ : Loc nD τ sig) → Buf (Elt F) ℓ) (c : Dev nD) : FVec F S256x32 .f32 :=
  kenc (featsOf m c)
      (w1Pad (m ((c : Thread nD τ).loc main_arg3))) (shapeCast S1x64 (m ((c : Thread nD τ).loc main_arg4)) shapeCasts_S64_S1x64)
      (transpose S64x32 [1, 0] (m ((c : Thread nD τ).loc main_arg5)) transposes_S32x64_S64x32_1_0)
      (shapeCast S1x32 (m ((c : Thread nD τ).loc main_arg6)) shapeCasts_S32_S1x32)
      (shapeCast S1x32 (m ((c : Thread nD τ).loc main_arg7)) shapeCasts_S32_S1x32)
      (shapeCast S1x32 (m ((c : Thread nD τ).loc main_arg8)) shapeCasts_S32_S1x32)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := θ_run_with_sems (frame_of m ρ (dats m) (A_eq m)) (run_main m ρ)

/-- The metrics array, read after the region. -/
theorem metrics_read (c : Dev nD) : Pipeline.withArrays spec0 c (V0 m c) (fun w => (dats m 0 c).arrAt w cfg0.N) (Proc.devRef .tc main_v15_0) = featsOf m c :=
  (Pipeline.withArrays_arr spec0 launch0.win.arr_inj c (V0 m c) (fun w => (dats m 0 c).arrAt w cfg0.N) 9).trans (final_9 m c)

/-- The results at the end of a run. -/
theorem run : θ_run defs (onTc (τ := τ) (main (F := F))) ⟨m, fun _ => 0, ρ⟩ (fun r => ∀ c : Dev nD,
      r.2.mem ((c.tc : Thread nD τ).loc main_v17) = shapeCast S256 (extractStridedSlice S256x1 ![0, 0] (featsOf m c) slices_S256x128_S256x1_0_0) shapeCasts_S256x1_S256
      ∧ r.2.mem ((c.tc : Thread nD τ).loc main_v19) = shapeCast S256 (extractStridedSlice S256x1 ![0, 1] (featsOf m c) slices_S256x128_S256x1_0_1) shapeCasts_S256x1_S256
      ∧ r.2.mem ((c.tc : Thread nD τ).loc main_v21) = shapeCast S256 (extractStridedSlice S256x1 ![0, 2] (featsOf m c) slices_S256x128_S256x1_0_2) shapeCasts_S256x1_S256
      ∧ r.2.mem ((c.tc : Thread nD τ).loc main_v15_1) = encOf m c) := by
  have h9 := final_9 (F := F) m
  have h10 := final_10 (F := F) m
  run_from ((θ_run defs _ _).mono (fun _ h => h.1) (run_main m ρ))
  · show StableHlo.after (List.flatten [hostOps1]) (Pipeline.withArrays spec0 c (V0 m c) (fun w => (dats m 0 c).arrAt w cfg0.N)) (Proc.devRef .tc main_v17) = _
    rw [← metrics_read m c]; simp only [List.flatten_cons, List.flatten_nil, List.append_nil]; after_results; rfl
  · show StableHlo.after (List.flatten [hostOps1]) (Pipeline.withArrays spec0 c (V0 m c) (fun w => (dats m 0 c).arrAt w cfg0.N)) (Proc.devRef .tc main_v19) = _
    rw [← metrics_read m c]; simp only [List.flatten_cons, List.flatten_nil, List.append_nil]; after_results; rfl
  · show StableHlo.after (List.flatten [hostOps1]) (Pipeline.withArrays spec0 c (V0 m c) (fun w => (dats m 0 c).arrAt w cfg0.N)) (Proc.devRef .tc main_v21) = _
    rw [← metrics_read m c]; simp only [List.flatten_cons, List.flatten_nil, List.append_nil]; after_results; rfl
  · exact h10 c

end Cert.Proof.KernelRun

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4000

noncomputable section

/-! The reference's host operations as lists, cut where a value the later operations share is complete. -/

namespace Cert.Proof.RefOps

open Idealize.ShloMosaic Idealize.ShloMosaic.TcCoe
open Cert.ReferenceIdeal Cert.ReferenceIdeal.Gen
open Idealize.SL Idealize.SL.RA Idealize.SL.BI
open scoped Idealize.SL.BI
open Idealize.SL.BI.BIBase Idealize.SL.Sem

variable {F : FTy → Type} [FloatOps F]

/-- The differences and the squared distances. -/
abbrev stepPairs : List (HloOp τ sig (Elt F)) :=
  [ StableHlo.unary main_v2_1 main_while0b_v92 (broadcastInDim S100x1x2 ![0, 2] bcast_S100x2_S100x1x2_0_2 : (⟨S100x2, .f32⟩ : BufTy).Contents (Elt F) → (⟨S100x1x2, .f32⟩ : BufTy).Contents (Elt F)),
    StableHlo.unary main_v2_1 main_while0b_v93 (broadcastInDim S1x100x2 ![1, 2] bcast_S100x2_S1x100x2_1_2 : (⟨S100x2, .f32⟩ : BufTy).Contents (Elt F) → (⟨S1x100x2, .f32⟩ : BufTy).Contents (Elt F)),
    StableHlo.unary main_while0b_v92 main_while0b_v94 (broadcastInDim S100x100x2 ![0, 1, 2] bcast_S100x1x2_S100x100x2_0_1_2 : (⟨S100x1x2, .f32⟩ : BufTy).Contents (Elt F) → (⟨S100x100x2, .f32⟩ : BufTy).Contents (Elt F)),
    StableHlo.unary main_while0b_v93 main_while0b_v95 (broadcastInDim S100x100x2 ![0, 1, 2] bcast_S1x100x2_S100x100x2_0_1_2 : (⟨S1x100x2, .f32⟩ : BufTy).Contents (Elt F) → (⟨S100x100x2, .f32⟩ : BufTy).Contents (Elt F)),
    StableHlo.binary main_while0b_v94 main_while0b_v95 main_while0b_v96 (subf : (⟨S100x100x2, .f32⟩ : BufTy).Contents (Elt F) → (⟨S100x100x2, .f32⟩ : BufTy).Contents (Elt F) → (⟨S100x100x2, .f32⟩ : BufTy).Contents (Elt F)),
    StableHlo.binary main_while0b_v96 main_while0b_v96 main_while0b_v97 (mulf : (⟨S100x100x2, .f32⟩ : BufTy).Contents (Elt F) → (⟨S100x100x2, .f32⟩ : BufTy).Contents (Elt F) → (⟨S100x100x2, .f32⟩ : BufTy).Contents (Elt F)),
    StableHlo.nullary main_while0b_cst_27 (constant S_ .f32 0x00000000#32),
    StableHlo.binary main_while0b_v97 main_while0b_cst_27 main_while0b_v98 ((fun x v => Host.reduceAdd x v reducesTo_S100x100x2_S100x100_d2 h_S_) : (⟨S100x100x2, .f32⟩ : BufTy).Contents (Elt F) → (⟨S_, .f32⟩ : BufTy).Contents (Elt F) → (⟨S100x100, .f32⟩ : BufTy).Contents (Elt F)) ]
theorem stepPairs_sub : (stepPairs : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩
theorem stepPairs_fresh : (stepPairs : List (HloOp τ sig (Elt F))).Forall fun op => op.fresh = ∅ :=
  StableHlo.forall_fresh_of_map rfl
abbrev stepPairs_W : List (Ref sig .tc) := [main_while0b_v92, main_while0b_v93, main_while0b_v94, main_while0b_v95, main_while0b_v96, main_while0b_v97, main_while0b_cst_27, main_while0b_v98]
theorem stepPairs_writes : (stepPairs : List (HloOp τ sig (Elt F))).Forall fun op => op.writes ⊆ (stepPairs_W.map (Proc.devRef (τ := τ) .tc)).toFinset :=
  StableHlo.forall_writes_sub_of_map rfl

/-- The distances. -/
abbrev stepDist : List (HloOp τ sig (Elt F)) :=
  [ StableHlo.nullary main_while0b_cst_28 (constant S_ .f32 0x00000000#32),
    StableHlo.unary main_while0b_cst_28 main_while0b_v99 (broadcastInDim S100x100 ![] bcast_S_S100x100 : (⟨S_, .f32⟩ : BufTy).Contents (Elt F) → (⟨S100x100, .f32⟩ : BufTy).Contents (Elt F)),
    StableHlo.binary main_while0b_v98 main_while0b_v99 main_while0b_v100 (cmpf .ogt : (⟨S100x100, .f32⟩ : BufTy).Contents (Elt F) → (⟨S100x100, .f32⟩ : BufTy).Contents (Elt F) → (⟨S100x100, .i1⟩ : BufTy).Contents (Elt F)),
    StableHlo.nullary main_while0b_cst_29 (constant S_ .f32 0x3F800000#32),
    StableHlo.TRef.unary (.of main_while0b_cst_29 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S100x100, .f32⟩) (broadcastInDim S100x100 ![] bcast_S_S100x100),
    StableHlo.TRef.ternary (.of main_while0b_v100 : StableHlo.TRef sig ⟨S100x100, .i1⟩) (.of main_while0b_v98 : StableHlo.TRef sig ⟨S100x100, .f32⟩) (.of main_while0b_call0_v1 : StableHlo.TRef sig ⟨S100x100, .f32⟩) (.of main_while0b_v101 : StableHlo.TRef sig ⟨S100x100, .f32⟩) select,
    StableHlo.unary main_while0b_v101 main_while0b_v102 (Host.sqrt : (⟨S100x100, .f32⟩ : BufTy).Contents (Elt F) → (⟨S100x100, .f32⟩ : BufTy).Contents (Elt F)),
    StableHlo.unary main_while0b_v100 main_while0b_v103 (uitofp .f32 : (⟨S100x100, .i1⟩ : BufTy).Contents (Elt F) → (⟨S100x100, .f32⟩ : BufTy).Contents (Elt F)),
    StableHlo.binary main_while0b_v102 main_while0b_v103 main_while0b_v104 (mulf : (⟨S100x100, .f32⟩ : BufTy).Contents (Elt F) → (⟨S100x100, .f32⟩ : BufTy).Contents (Elt F) → (⟨S100x100, .f32⟩ : BufTy).Contents (Elt F)) ]
theorem stepDist_sub : (stepDist : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem stepDist_fresh : (stepDist : List (HloOp τ sig (Elt F))).Forall fun op => op.fresh = ∅ :=
  StableHlo.forall_fresh_of_map rfl
abbrev stepDist_W : List (Ref sig .tc) := [main_while0b_cst_28, main_while0b_v99, main_while0b_v100, main_while0b_cst_29, main_while0b_call0_v0, main_while0b_call0_v1, main_while0b_v101, main_while0b_v102, main_while0b_v103, main_while0b_v104]
theorem stepDist_writes : (stepDist : List (HloOp τ sig (Elt F))).Forall fun op => op.writes ⊆ (stepDist_W.map (Proc.devRef (τ := τ) .tc)).toFinset :=
  StableHlo.forall_writes_sub_of_map rfl

/-- The neighbour masks. -/
abbrev stepMask : List (HloOp τ sig (Elt F)) :=
  [ StableHlo.nullary main_while0b_cst_30 (constant S_ .f32 0x3DCCCCCD#32),
    StableHlo.unary main_while0b_cst_30 main_while0b_v105 (broadcastInDim S100x100 ![] bcast_S_S100x100 : (⟨S_, .f32⟩ : BufTy).Contents (Elt F) → (⟨S100x100, .f32⟩ : BufTy).Contents (Elt F)),
    StableHlo.binary main_while0b_v104 main_while0b_v105 main_while0b_v106 (cmpf .olt : (⟨S100x100, .f32⟩ : BufTy).Contents (Elt F) → (⟨S100x100, .f32⟩ : BufTy).Contents (Elt F) → (⟨S100x100, .i1⟩ : BufTy).Contents (Elt F)),
    StableHlo.nullary main_while0b_cst_31 (constant S_ .f32 0x00000000#32),
    StableHlo.unary main_while0b_cst_31 main_while0b_v107 (broadcastInDim S100x100 ![] bcast_S_S100x100 : (⟨S_, .f32⟩ : BufTy).Contents (Elt F) → (⟨S100x100, .f32⟩ : BufTy).Contents (Elt F)),
    StableHlo.binary main_while0b_v104 main_while0b_v107 main_while0b_v108 (cmpf .ogt : (⟨S100x100, .f32⟩ : BufTy).Contents (Elt F) → (⟨S100x100, .f32⟩ : BufTy).Contents (Elt F) → (⟨S100x100, .i1⟩ : BufTy).Contents (Elt F)),
    StableHlo.binary main_while0b_v106 main_while0b_v108 main_while0b_v109 (andi : (⟨S100x100, .i1⟩ : BufTy).Contents (Elt F) → (⟨S100x100, .i1⟩ : BufTy).Contents (Elt F) → (⟨S100x100, .i1⟩ : BufTy).Contents (Elt F)),
    StableHlo.unary main_while0b_v109 main_while0b_v110 (uitofp .f32 : (⟨S100x100, .i1⟩ : BufTy).Contents (Elt F) → (⟨S100x100, .f32⟩ : BufTy).Contents (Elt F)) ]
theorem stepMask_sub : (stepMask : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub ..⟩
theorem stepMask_fresh : (stepMask : List (HloOp τ sig (Elt F))).Forall fun op => op.fresh = ∅ :=
  StableHlo.forall_fresh_of_map rfl
abbrev stepMask_W : List (Ref sig .tc) := [main_while0b_cst_30, main_while0b_v105, main_while0b_v106, main_while0b_cst_31, main_while0b_v107, main_while0b_v108, main_while0b_v109, main_while0b_v110]
theorem stepMask_writes : (stepMask : List (HloOp τ sig (Elt F))).Forall fun op => op.writes ⊆ (stepMask_W.map (Proc.devRef (τ := τ) .tc)).toFinset :=
  StableHlo.forall_writes_sub_of_map rfl

/-- The neighbour counts. -/
abbrev stepCount : List (HloOp τ sig (Elt F)) :=
  [ StableHlo.nullary main_while0b_cst_32 (constant S_ .f32 0x00000000#32),
    StableHlo.binary main_while0b_v110 main_while0b_cst_32 main_while0b_v111 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_while0b_cst_33 (constant S_ .f32 0x3F800000#32),
    StableHlo.unary main_while0b_cst_33 main_while0b_v112 (broadcastInDim S100 ![] bcast_S_S100 : (⟨S_, .f32⟩ : BufTy).Contents (Elt F) → (⟨S100, .f32⟩ : BufTy).Contents (Elt F)),
    StableHlo.binary main_while0b_v111 main_while0b_v112 main_while0b_v113 (maximumf : (⟨S100, .f32⟩ : BufTy).Contents (Elt F) → (⟨S100, .f32⟩ : BufTy).Contents (Elt F) → (⟨S100, .f32⟩ : BufTy).Contents (Elt F)) ]
theorem stepCount_sub : (stepCount : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩
theorem stepCount_fresh : (stepCount : List (HloOp τ sig (Elt F))).Forall fun op => op.fresh = ∅ :=
  StableHlo.forall_fresh_of_map rfl
abbrev stepCount_W : List (Ref sig .tc) := [main_while0b_cst_32, main_while0b_v111, main_while0b_cst_33, main_while0b_v112, main_while0b_v113]
theorem stepCount_writes : (stepCount : List (HloOp τ sig (Elt F))).Forall fun op => op.writes ⊆ (stepCount_W.map (Proc.devRef (τ := τ) .tc)).toFinset :=
  StableHlo.forall_writes_sub_of_map rfl

/-- The neighbours' means. -/
abbrev stepMeans : List (HloOp τ sig (Elt F)) :=
  [ StableHlo.binary main_while0b_v110 main_v2_2 main_while0b_v114 ((fun l r => Host.dotGeneral dot_S100x100_S100x2_S100x2_1_0_0_1_n_n none l r) : (⟨S100x100, .f32⟩ : BufTy).Contents (Elt F) → (⟨S100x2, .f32⟩ : BufTy).Contents (Elt F) → (⟨S100x2, .f32⟩ : BufTy).Contents (Elt F)),
    StableHlo.unary main_while0b_v113 main_while0b_v115 (broadcastInDim S100x1 ![0] bcast_S100_S100x1_0 : (⟨S100, .f32⟩ : BufTy).Contents (Elt F) → (⟨S100x1, .f32⟩ : BufTy).Contents (Elt F)),
    StableHlo.unary main_while0b_v115 main_while0b_v116 (broadcastInDim S100x2 ![0, 1] bcast_S100x1_S100x2_0_1 : (⟨S100x1, .f32⟩ : BufTy).Contents (Elt F) → (⟨S100x2, .f32⟩ : BufTy).Contents (Elt F)),
    StableHlo.binary main_while0b_v114 main_while0b_v116 main_while0b_v117 (Host.divf : (⟨S100x2, .f32⟩ : BufTy).Contents (Elt F) → (⟨S100x2, .f32⟩ : BufTy).Contents (Elt F) → (⟨S100x2, .f32⟩ : BufTy).Contents (Elt F)),
    StableHlo.binary main_while0b_v110 main_v2_1 main_while0b_v118 ((fun l r => Host.dotGeneral dot_S100x100_S100x2_S100x2_1_0_0_1_n_n none l r) : (⟨S100x100, .f32⟩ : BufTy).Contents (Elt F) → (⟨S100x2, .f32⟩ : BufTy).Contents (Elt F) → (⟨S100x2, .f32⟩ : BufTy).Contents (Elt F)),
    StableHlo.unary main_while0b_v113 main_while0b_v119 (broadcastInDim S100x1 ![0] bcast_S100_S100x1_0 : (⟨S100, .f32⟩ : BufTy).Contents (Elt F) → (⟨S100x1, .f32⟩ : BufTy).Contents (Elt F)),
    StableHlo.unary main_while0b_v119 main_while0b_v120 (broadcastInDim S100x2 ![0, 1] bcast_S100x1_S100x2_0_1 : (⟨S100x1, .f32⟩ : BufTy).Contents (Elt F) → (⟨S100x2, .f32⟩ : BufTy).Contents (Elt F)),
    StableHlo.binary main_while0b_v118 main_while0b_v120 main_while0b_v121 (Host.divf : (⟨S100x2, .f32⟩ : BufTy).Contents (Elt F) → (⟨S100x2, .f32⟩ : BufTy).Contents (Elt F) → (⟨S100x2, .f32⟩ : BufTy).Contents (Elt F)) ]
theorem stepMeans_sub : (stepMeans : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem stepMeans_fresh : (stepMeans : List (HloOp τ sig (Elt F))).Forall fun op => op.fresh = ∅ :=
  StableHlo.forall_fresh_of_map rfl
abbrev stepMeans_W : List (Ref sig .tc) := [main_while0b_v114, main_while0b_v115, main_while0b_v116, main_while0b_v117, main_while0b_v118, main_while0b_v119, main_while0b_v120, main_while0b_v121]
theorem stepMeans_writes : (stepMeans : List (HloOp τ sig (Elt F))).Forall fun op => op.writes ⊆ (stepMeans_W.map (Proc.devRef (τ := τ) .tc)).toFinset :=
  StableHlo.forall_writes_sub_of_map rfl

/-- Alignment and cohesion. -/
abbrev stepPulls : List (HloOp τ sig (Elt F)) :=
  [ StableHlo.nullary main_while0b_cst_34 (constant S_ .f32 0x00000000#32),
    StableHlo.unary main_while0b_cst_34 main_while0b_v122 (broadcastInDim S100 ![] bcast_S_S100 : (⟨S_, .f32⟩ : BufTy).Contents (Elt F) → (⟨S100, .f32⟩ : BufTy).Contents (Elt F)),
    StableHlo.binary main_while0b_v111 main_while0b_v122 main_while0b_v123 (cmpf .ogt : (⟨S100, .f32⟩ : BufTy).Contents (Elt F) → (⟨S100, .f32⟩ : BufTy).Contents (Elt F) → (⟨S100, .i1⟩ : BufTy).Contents (Elt F)),
    StableHlo.unary main_while0b_v123 main_while0b_v124 (broadcastInDim S100x1 ![0] bcast_S100_S100x1_0 : (⟨S100, .i1⟩ : BufTy).Contents (Elt F) → (⟨S100x1, .i1⟩ : BufTy).Contents (Elt F)),
    StableHlo.binary main_while0b_v117 main_v2_2 main_while0b_v125 (subf : (⟨S100x2, .f32⟩ : BufTy).Contents (Elt F) → (⟨S100x2, .f32⟩ : BufTy).Contents (Elt F) → (⟨S100x2, .f32⟩ : BufTy).Contents (Elt F)),
    StableHlo.nullary main_while0b_cst_35 (constant S_ .f32 0x00000000#32),
    StableHlo.TRef.unary (.of main_while0b_cst_35 : StableHlo.TRef sig ⟨S_, .f32⟩) (.of main_while0b_call1_v0 : StableHlo.TRef sig ⟨S_, .f32⟩) id,
    StableHlo.TRef.unary (.of main_while0b_v124 : StableHlo.TRef sig ⟨S100x1, .i1⟩) (.of main_while0b_call1_v1 : StableHlo.TRef sig ⟨S100x2, .i1⟩) (broadcastInDim S100x2 ![0, 1] bcast_S100x1_S100x2_0_1),
    StableHlo.TRef.unary (.of main_while0b_call1_v0 : StableHlo.TRef sig ⟨S_, .f32⟩) (.of main_while0b_call1_v2 : StableHlo.TRef sig ⟨S100x2, .f32⟩) (broadcastInDim S100x2 ![] bcast_S_S100x2),
    StableHlo.TRef.ternary (.of main_while0b_call1_v1 : StableHlo.TRef sig ⟨S100x2, .i1⟩) (.of main_while0b_v125 : StableHlo.TRef sig ⟨S100x2, .f32⟩) (.of main_while0b_call1_v2 : StableHlo.TRef sig ⟨S100x2, .f32⟩) (.of main_while0b_v126 : StableHlo.TRef sig ⟨S100x2, .f32⟩) select,
    StableHlo.binary main_while0b_v121 main_v2_1 main_while0b_v127 (subf : (⟨S100x2, .f32⟩ : BufTy).Contents (Elt F) → (⟨S100x2, .f32⟩ : BufTy).Contents (Elt F) → (⟨S100x2, .f32⟩ : BufTy).Contents (Elt F)),
    StableHlo.nullary main_while0b_cst_36 (constant S_ .f32 0x00000000#32),
    StableHlo.TRef.unary (.of main_while0b_cst_36 : StableHlo.TRef sig ⟨S_, .f32⟩) (.of main_while0b_call2_v0 : StableHlo.TRef sig ⟨S_, .f32⟩) id,
    StableHlo.TRef.unary (.of main_while0b_v124 : StableHlo.TRef sig ⟨S100x1, .i1⟩) (.of main_while0b_call2_v1 : StableHlo.TRef sig ⟨S100x2, .i1⟩) (broadcastInDim S100x2 ![0, 1] bcast_S100x1_S100x2_0_1),
    StableHlo.TRef.unary (.of main_while0b_call2_v0 : StableHlo.TRef sig ⟨S_, .f32⟩) (.of main_while0b_call2_v2 : StableHlo.TRef sig ⟨S100x2, .f32⟩) (broadcastInDim S100x2 ![] bcast_S_S100x2),
    StableHlo.TRef.ternary (.of main_while0b_call2_v1 : StableHlo.TRef sig ⟨S100x2, .i1⟩) (.of main_while0b_v127 : StableHlo.TRef sig ⟨S100x2, .f32⟩) (.of main_while0b_call2_v2 : StableHlo.TRef sig ⟨S100x2, .f32⟩) (.of main_while0b_v128 : StableHlo.TRef sig ⟨S100x2, .f32⟩) select ]
theorem stepPulls_sub : (stepPulls : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.unary_bufs_sub .., StableHlo.ternary_bufs_sub ..⟩
theorem stepPulls_fresh : (stepPulls : List (HloOp τ sig (Elt F))).Forall fun op => op.fresh = ∅ :=
  StableHlo.forall_fresh_of_map rfl
abbrev stepPulls_W : List (Ref sig .tc) := [main_while0b_cst_34, main_while0b_v122, main_while0b_v123, main_while0b_v124, main_while0b_v125, main_while0b_cst_35, main_while0b_call1_v0, main_while0b_call1_v1, main_while0b_call1_v2, main_while0b_v126, main_while0b_v127, main_while0b_cst_36, main_while0b_call2_v0, main_while0b_call2_v1, main_while0b_call2_v2, main_while0b_v128]
theorem stepPulls_writes : (stepPulls : List (HloOp τ sig (Elt F))).Forall fun op => op.writes ⊆ (stepPulls_W.map (Proc.devRef (τ := τ) .tc)).toFinset :=
  StableHlo.forall_writes_sub_of_map rfl

/-- The reciprocal squared distances of neighbours. -/
abbrev stepInv : List (HloOp τ sig (Elt F)) :=
  [ StableHlo.nullary main_while0b_cst_37 (constant S_ .f32 0x3F800000#32),
    StableHlo.TRef.unary (.of main_while0b_cst_37 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S100x100, .f32⟩) (broadcastInDim S100x100 ![] bcast_S_S100x100),
    StableHlo.TRef.ternary (.of main_while0b_v100 : StableHlo.TRef sig ⟨S100x100, .i1⟩) (.of main_while0b_v98 : StableHlo.TRef sig ⟨S100x100, .f32⟩) (.of main_while0b_call3_v1 : StableHlo.TRef sig ⟨S100x100, .f32⟩) (.of main_while0b_v129 : StableHlo.TRef sig ⟨S100x100, .f32⟩) select,
    StableHlo.nullary main_while0b_cst_38 (constant S_ .f32 0x3F800000#32),
    StableHlo.unary main_while0b_cst_38 main_while0b_v130 (broadcastInDim S100x100 ![] bcast_S_S100x100 : (⟨S_, .f32⟩ : BufTy).Contents (Elt F) → (⟨S100x100, .f32⟩ : BufTy).Contents (Elt F)),
    StableHlo.binary main_while0b_v130 main_while0b_v129 main_while0b_v131 (Host.divf : (⟨S100x100, .f32⟩ : BufTy).Contents (Elt F) → (⟨S100x100, .f32⟩ : BufTy).Contents (Elt F) → (⟨S100x100, .f32⟩ : BufTy).Contents (Elt F)),
    StableHlo.nullary main_while0b_cst_39 (constant S_ .f32 0x00000000#32),
    StableHlo.TRef.unary (.of main_while0b_cst_39 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S100x100, .f32⟩) (broadcastInDim S100x100 ![] bcast_S_S100x100),
    StableHlo.TRef.ternary (.of main_while0b_v109 : StableHlo.TRef sig ⟨S100x100, .i1⟩) (.of main_while0b_v131 : StableHlo.TRef sig ⟨S100x100, .f32⟩) (.of main_while0b_call4_v1 : StableHlo.TRef sig ⟨S100x100, .f32⟩) (.of main_while0b_v132 : StableHlo.TRef sig ⟨S100x100, .f32⟩) select ]
theorem stepInv_sub : (stepInv : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩
theorem stepInv_fresh : (stepInv : List (HloOp τ sig (Elt F))).Forall fun op => op.fresh = ∅ :=
  StableHlo.forall_fresh_of_map rfl
abbrev stepInv_W : List (Ref sig .tc) := [main_while0b_cst_37, main_while0b_call3_v0, main_while0b_call3_v1, main_while0b_v129, main_while0b_cst_38, main_while0b_v130, main_while0b_v131, main_while0b_cst_39, main_while0b_call4_v0, main_while0b_call4_v1, main_while0b_v132]
theorem stepInv_writes : (stepInv : List (HloOp τ sig (Elt F))).Forall fun op => op.writes ⊆ (stepInv_W.map (Proc.devRef (τ := τ) .tc)).toFinset :=
  StableHlo.forall_writes_sub_of_map rfl

/-- Separation. -/
abbrev stepPush : List (HloOp τ sig (Elt F)) :=
  [ StableHlo.unary main_while0b_v132 main_while0b_v133 (broadcastInDim S100x100x1 ![0, 1] bcast_S100x100_S100x100x1_0_1 : (⟨S100x100, .f32⟩ : BufTy).Contents (Elt F) → (⟨S100x100x1, .f32⟩ : BufTy).Contents (Elt F)),
    StableHlo.unary main_while0b_v133 main_while0b_v134 (broadcastInDim S100x100x2 ![0, 1, 2] bcast_S100x100x1_S100x100x2_0_1_2 : (⟨S100x100x1, .f32⟩ : BufTy).Contents (Elt F) → (⟨S100x100x2, .f32⟩ : BufTy).Contents (Elt F)),
    StableHlo.binary main_while0b_v96 main_while0b_v134 main_while0b_v135 (mulf : (⟨S100x100x2, .f32⟩ : BufTy).Contents (Elt F) → (⟨S100x100x2, .f32⟩ : BufTy).Contents (Elt F) → (⟨S100x100x2, .f32⟩ : BufTy).Contents (Elt F)),
    StableHlo.nullary main_while0b_cst_40 (constant S_ .f32 0x00000000#32),
    StableHlo.binary main_while0b_v135 main_while0b_cst_40 main_while0b_v136 ((fun x v => Host.reduceAdd x v reducesTo_S100x100x2_S100x2_d1 h_S_) : (⟨S100x100x2, .f32⟩ : BufTy).Contents (Elt F) → (⟨S_, .f32⟩ : BufTy).Contents (Elt F) → (⟨S100x2, .f32⟩ : BufTy).Contents (Elt F)),
    StableHlo.binary main_while0b_v126 main_while0b_v128 main_while0b_v137 (addf : (⟨S100x2, .f32⟩ : BufTy).Contents (Elt F) → (⟨S100x2, .f32⟩ : BufTy).Contents (Elt F) → (⟨S100x2, .f32⟩ : BufTy).Contents (Elt F)) ]
theorem stepPush_sub : (stepPush : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.binary_bufs_sub ..⟩
theorem stepPush_fresh : (stepPush : List (HloOp τ sig (Elt F))).Forall fun op => op.fresh = ∅ :=
  StableHlo.forall_fresh_of_map rfl
abbrev stepPush_W : List (Ref sig .tc) := [main_while0b_v133, main_while0b_v134, main_while0b_v135, main_while0b_cst_40, main_while0b_v136, main_while0b_v137]
theorem stepPush_writes : (stepPush : List (HloOp τ sig (Elt F))).Forall fun op => op.writes ⊆ (stepPush_W.map (Proc.devRef (τ := τ) .tc)).toFinset :=
  StableHlo.forall_writes_sub_of_map rfl

/-- The velocities before the cap. -/
abbrev stepDrift : List (HloOp τ sig (Elt F)) :=
  [ StableHlo.binary main_while0b_v137 main_while0b_v136 main_while0b_v138 (addf : (⟨S100x2, .f32⟩ : BufTy).Contents (Elt F) → (⟨S100x2, .f32⟩ : BufTy).Contents (Elt F) → (⟨S100x2, .f32⟩ : BufTy).Contents (Elt F)),
    StableHlo.nullary main_while0b_cst_41 (constant S_ .f32 0x42C80000#32),
    StableHlo.unary main_while0b_cst_41 main_while0b_v139 (broadcastInDim S100x2 ![] bcast_S_S100x2 : (⟨S_, .f32⟩ : BufTy).Contents (Elt F) → (⟨S100x2, .f32⟩ : BufTy).Contents (Elt F)),
    StableHlo.binary main_while0b_v138 main_while0b_v139 main_while0b_v140 (Host.divf : (⟨S100x2, .f32⟩ : BufTy).Contents (Elt F) → (⟨S100x2, .f32⟩ : BufTy).Contents (Elt F) → (⟨S100x2, .f32⟩ : BufTy).Contents (Elt F)),
    StableHlo.binary main_v2_2 main_while0b_v140 main_while0b_v141 (addf : (⟨S100x2, .f32⟩ : BufTy).Contents (Elt F) → (⟨S100x2, .f32⟩ : BufTy).Contents (Elt F) → (⟨S100x2, .f32⟩ : BufTy).Contents (Elt F)) ]
theorem stepDrift_sub : (stepDrift : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub ..⟩
theorem stepDrift_fresh : (stepDrift : List (HloOp τ sig (Elt F))).Forall fun op => op.fresh = ∅ :=
  StableHlo.forall_fresh_of_map rfl
abbrev stepDrift_W : List (Ref sig .tc) := [main_while0b_v138, main_while0b_cst_41, main_while0b_v139, main_while0b_v140, main_while0b_v141]
theorem stepDrift_writes : (stepDrift : List (HloOp τ sig (Elt F))).Forall fun op => op.writes ⊆ (stepDrift_W.map (Proc.devRef (τ := τ) .tc)).toFinset :=
  StableHlo.forall_writes_sub_of_map rfl

/-- The speeds. -/
abbrev stepSpeed : List (HloOp τ sig (Elt F)) :=
  [ StableHlo.binary main_while0b_v141 main_while0b_v141 main_while0b_v142 (mulf : (⟨S100x2, .f32⟩ : BufTy).Contents (Elt F) → (⟨S100x2, .f32⟩ : BufTy).Contents (Elt F) → (⟨S100x2, .f32⟩ : BufTy).Contents (Elt F)),
    StableHlo.nullary main_while0b_cst_42 (constant S_ .f32 0x00000000#32),
    StableHlo.binary main_while0b_v142 main_while0b_cst_42 main_while0b_v143 ((fun x v => Host.reduceAdd x v reducesTo_S100x2_S100_d1 h_S_) : (⟨S100x2, .f32⟩ : BufTy).Contents (Elt F) → (⟨S_, .f32⟩ : BufTy).Contents (Elt F) → (⟨S100, .f32⟩ : BufTy).Contents (Elt F)),
    StableHlo.nullary main_while0b_cst_43 (constant S_ .f32 0x00000000#32),
    StableHlo.unary main_while0b_cst_43 main_while0b_v144 (broadcastInDim S100 ![] bcast_S_S100 : (⟨S_, .f32⟩ : BufTy).Contents (Elt F) → (⟨S100, .f32⟩ : BufTy).Contents (Elt F)),
    StableHlo.binary main_while0b_v143 main_while0b_v144 main_while0b_v145 (cmpf .ogt : (⟨S100, .f32⟩ : BufTy).Contents (Elt F) → (⟨S100, .f32⟩ : BufTy).Contents (Elt F) → (⟨S100, .i1⟩ : BufTy).Contents (Elt F)),
    StableHlo.nullary main_while0b_cst_44 (constant S_ .f32 0x3F800000#32),
    StableHlo.TRef.unary (.of main_while0b_cst_44 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S100, .f32⟩) (broadcastInDim S100 ![] bcast_S_S100),
    StableHlo.TRef.ternary (.of main_while0b_v145 : StableHlo.TRef sig ⟨S100, .i1⟩) (.of main_while0b_v143 : StableHlo.TRef sig ⟨S100, .f32⟩) (.of main_while0b_call5_v1 : StableHlo.TRef sig ⟨S100, .f32⟩) (.of main_while0b_v146 : StableHlo.TRef sig ⟨S100, .f32⟩) select,
    StableHlo.unary main_while0b_v146 main_while0b_v147 (Host.sqrt : (⟨S100, .f32⟩ : BufTy).Contents (Elt F) → (⟨S100, .f32⟩ : BufTy).Contents (Elt F)),
    StableHlo.unary main_while0b_v145 main_while0b_v148 (uitofp .f32 : (⟨S100, .i1⟩ : BufTy).Contents (Elt F) → (⟨S100, .f32⟩ : BufTy).Contents (Elt F)),
    StableHlo.binary main_while0b_v147 main_while0b_v148 main_while0b_v149 (mulf : (⟨S100, .f32⟩ : BufTy).Contents (Elt F) → (⟨S100, .f32⟩ : BufTy).Contents (Elt F) → (⟨S100, .f32⟩ : BufTy).Contents (Elt F)) ]
theorem stepSpeed_sub : (stepSpeed : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem stepSpeed_fresh : (stepSpeed : List (HloOp τ sig (Elt F))).Forall fun op => op.fresh = ∅ :=
  StableHlo.forall_fresh_of_map rfl
abbrev stepSpeed_W : List (Ref sig .tc) := [main_while0b_v142, main_while0b_cst_42, main_while0b_v143, main_while0b_cst_43, main_while0b_v144, main_while0b_v145, main_while0b_cst_44, main_while0b_call5_v0, main_while0b_call5_v1, main_while0b_v146, main_while0b_v147, main_while0b_v148, main_while0b_v149]
theorem stepSpeed_writes : (stepSpeed : List (HloOp τ sig (Elt F))).Forall fun op => op.writes ⊆ (stepSpeed_W.map (Proc.devRef (τ := τ) .tc)).toFinset :=
  StableHlo.forall_writes_sub_of_map rfl

/-- The capped velocities. -/
abbrev stepCap : List (HloOp τ sig (Elt F)) :=
  [ StableHlo.nullary main_while0b_cst_45 (constant S_ .f32 0x3DCCCCCD#32),
    StableHlo.unary main_while0b_cst_45 main_while0b_v150 (broadcastInDim S100 ![] bcast_S_S100 : (⟨S_, .f32⟩ : BufTy).Contents (Elt F) → (⟨S100, .f32⟩ : BufTy).Contents (Elt F)),
    StableHlo.binary main_while0b_v149 main_while0b_v150 main_while0b_v151 (cmpf .ogt : (⟨S100, .f32⟩ : BufTy).Contents (Elt F) → (⟨S100, .f32⟩ : BufTy).Contents (Elt F) → (⟨S100, .i1⟩ : BufTy).Contents (Elt F)),
    StableHlo.unary main_while0b_v151 main_while0b_v152 (broadcastInDim S100x1 ![0] bcast_S100_S100x1_0 : (⟨S100, .i1⟩ : BufTy).Contents (Elt F) → (⟨S100x1, .i1⟩ : BufTy).Contents (Elt F)),
    StableHlo.nullary main_while0b_cst_46 (constant S_ .f32 0x2B8CBCCC#32),
    StableHlo.unary main_while0b_cst_46 main_while0b_v153 (broadcastInDim S100 ![] bcast_S_S100 : (⟨S_, .f32⟩ : BufTy).Contents (Elt F) → (⟨S100, .f32⟩ : BufTy).Contents (Elt F)),
    StableHlo.binary main_while0b_v149 main_while0b_v153 main_while0b_v154 (maximumf : (⟨S100, .f32⟩ : BufTy).Contents (Elt F) → (⟨S100, .f32⟩ : BufTy).Contents (Elt F) → (⟨S100, .f32⟩ : BufTy).Contents (Elt F)),
    StableHlo.nullary main_while0b_cst_47 (constant S_ .f32 0x3DCCCCCD#32),
    StableHlo.unary main_while0b_cst_47 main_while0b_v155 (broadcastInDim S100 ![] bcast_S_S100 : (⟨S_, .f32⟩ : BufTy).Contents (Elt F) → (⟨S100, .f32⟩ : BufTy).Contents (Elt F)),
    StableHlo.binary main_while0b_v155 main_while0b_v154 main_while0b_v156 (Host.divf : (⟨S100, .f32⟩ : BufTy).Contents (Elt F) → (⟨S100, .f32⟩ : BufTy).Contents (Elt F) → (⟨S100, .f32⟩ : BufTy).Contents (Elt F)),
    StableHlo.unary main_while0b_v156 main_while0b_v157 (broadcastInDim S100x1 ![0] bcast_S100_S100x1_0 : (⟨S100, .f32⟩ : BufTy).Contents (Elt F) → (⟨S100x1, .f32⟩ : BufTy).Contents (Elt F)),
    StableHlo.unary main_while0b_v157 main_while0b_v158 (broadcastInDim S100x2 ![0, 1] bcast_S100x1_S100x2_0_1 : (⟨S100x1, .f32⟩ : BufTy).Contents (Elt F) → (⟨S100x2, .f32⟩ : BufTy).Contents (Elt F)),
    StableHlo.binary main_while0b_v141 main_while0b_v158 main_while0b_v159 (mulf : (⟨S100x2, .f32⟩ : BufTy).Contents (Elt F) → (⟨S100x2, .f32⟩ : BufTy).Contents (Elt F) → (⟨S100x2, .f32⟩ : BufTy).Contents (Elt F)),
    StableHlo.TRef.unary (.of main_while0b_v152 : StableHlo.TRef sig ⟨S100x1, .i1⟩) (.of main_while0b_call6_v0 : StableHlo.TRef sig ⟨S100x2, .i1⟩) (broadcastInDim S100x2 ![0, 1] bcast_S100x1_S100x2_0_1),
    StableHlo.TRef.ternary (.of main_while0b_call6_v0 : StableHlo.TRef sig ⟨S100x2, .i1⟩) (.of main_while0b_v159 : StableHlo.TRef sig ⟨S100x2, .f32⟩) (.of main_while0b_v141 : StableHlo.TRef sig ⟨S100x2, .f32⟩) (.of main_while0b_v160 : StableHlo.TRef sig ⟨S100x2, .f32⟩) select ]
theorem stepCap_sub : (stepCap : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.ternary_bufs_sub ..⟩
theorem stepCap_fresh : (stepCap : List (HloOp τ sig (Elt F))).Forall fun op => op.fresh = ∅ :=
  StableHlo.forall_fresh_of_map rfl
abbrev stepCap_W : List (Ref sig .tc) := [main_while0b_cst_45, main_while0b_v150, main_while0b_v151, main_while0b_v152, main_while0b_cst_46, main_while0b_v153, main_while0b_v154, main_while0b_cst_47, main_while0b_v155, main_while0b_v156, main_while0b_v157, main_while0b_v158, main_while0b_v159, main_while0b_call6_v0, main_while0b_v160]
theorem stepCap_writes : (stepCap : List (HloOp τ sig (Elt F))).Forall fun op => op.writes ⊆ (stepCap_W.map (Proc.devRef (τ := τ) .tc)).toFinset :=
  StableHlo.forall_writes_sub_of_map rfl

/-- The positions and the histories. -/
abbrev stepMove : List (HloOp τ sig (Elt F)) :=
  [ StableHlo.nullary main_while0b_cst_48 (constant S_ .f32 0x42C80000#32),
    StableHlo.unary main_while0b_cst_48 main_while0b_v161 (broadcastInDim S100x2 ![] bcast_S_S100x2 : (⟨S_, .f32⟩ : BufTy).Contents (Elt F) → (⟨S100x2, .f32⟩ : BufTy).Contents (Elt F)),
    StableHlo.binary main_while0b_v160 main_while0b_v161 main_while0b_v162 (Host.divf : (⟨S100x2, .f32⟩ : BufTy).Contents (Elt F) → (⟨S100x2, .f32⟩ : BufTy).Contents (Elt F) → (⟨S100x2, .f32⟩ : BufTy).Contents (Elt F)),
    StableHlo.binary main_v2_1 main_while0b_v162 main_while0b_v163 (addf : (⟨S100x2, .f32⟩ : BufTy).Contents (Elt F) → (⟨S100x2, .f32⟩ : BufTy).Contents (Elt F) → (⟨S100x2, .f32⟩ : BufTy).Contents (Elt F)),
    StableHlo.TRef.unary (.of main_while0b_v163 : StableHlo.TRef sig ⟨S100x2, .f32⟩) (.of main_while0b_call7_v0 : StableHlo.TRef sig ⟨S1x100x2, .f32⟩) (broadcastInDim S1x100x2 ![1, 2] bcast_S100x2_S1x100x2_1_2),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.binaryIndexed (.of main_v2_3 : StableHlo.TRef sig ⟨S256x100x2, .f32⟩) (.of main_while0b_call7_v0 : StableHlo.TRef sig ⟨S1x100x2, .f32⟩) ![(.of main_v2_0 : StableHlo.TRef sig ⟨S_, .i32⟩), (.of main_while0b_call7_c : StableHlo.TRef sig ⟨S_, .i32⟩), (.of main_while0b_call7_c_0 : StableHlo.TRef sig ⟨S_, .i32⟩)] (.of main_while0b_v164 : StableHlo.TRef sig ⟨S256x100x2, .f32⟩) (fun x u i => Host.dynamicUpdateSlice x u (fun k => (i k (Shape.Idx.first h_S_)).toInt) updateFits_S256x100x2_S1x100x2),
    StableHlo.TRef.unary (.of main_while0b_v160 : StableHlo.TRef sig ⟨S100x2, .f32⟩) (.of main_while0b_call8_v0 : StableHlo.TRef sig ⟨S1x100x2, .f32⟩) (broadcastInDim S1x100x2 ![1, 2] bcast_S100x2_S1x100x2_1_2),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.binaryIndexed (.of main_v2_4 : StableHlo.TRef sig ⟨S256x100x2, .f32⟩) (.of main_while0b_call8_v0 : StableHlo.TRef sig ⟨S1x100x2, .f32⟩) ![(.of main_v2_0 : StableHlo.TRef sig ⟨S_, .i32⟩), (.of main_while0b_call8_c : StableHlo.TRef sig ⟨S_, .i32⟩), (.of main_while0b_call8_c_0 : StableHlo.TRef sig ⟨S_, .i32⟩)] (.of main_while0b_v165 : StableHlo.TRef sig ⟨S256x100x2, .f32⟩) (fun x u i => Host.dynamicUpdateSlice x u (fun k => (i k (Shape.Idx.first h_S_)).toInt) updateFits_S256x100x2_S1x100x2) ]
theorem stepMove_sub : (stepMove : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub ..⟩
theorem stepMove_fresh : (stepMove : List (HloOp τ sig (Elt F))).Forall fun op => op.fresh = ∅ :=
  StableHlo.forall_fresh_of_map rfl
abbrev stepMove_W : List (Ref sig .tc) := [main_while0b_cst_48, main_while0b_v161, main_while0b_v162, main_while0b_v163, main_while0b_call7_v0, main_while0b_call7_c, main_while0b_call7_c_0, main_while0b_v164, main_while0b_call8_v0, main_while0b_call8_c, main_while0b_call8_c_0, main_while0b_v165]
theorem stepMove_writes : (stepMove : List (HloOp τ sig (Elt F))).Forall fun op => op.writes ⊆ (stepMove_W.map (Proc.devRef (τ := τ) .tc)).toFinset :=
  StableHlo.forall_writes_sub_of_map rfl

/-- The carried values. -/
abbrev stepNext : List (HloOp τ sig (Elt F)) :=
  [ StableHlo.nullary main_while0b_c_49 (constantI S_ 32 1#32),
    StableHlo.binary main_v2_0 main_while0b_c_49 main_while0b_v166 (addi : (⟨S_, .i32⟩ : BufTy).Contents (Elt F) → (⟨S_, .i32⟩ : BufTy).Contents (Elt F) → (⟨S_, .i32⟩ : BufTy).Contents (Elt F)),
    StableHlo.unary main_while0b_v166 main_v2_0 id,
    StableHlo.unary main_while0b_v163 main_v2_1 id,
    StableHlo.unary main_while0b_v160 main_v2_2 id,
    StableHlo.unary main_while0b_v164 main_v2_3 id,
    StableHlo.unary main_while0b_v165 main_v2_4 id ]
theorem stepNext_sub : (stepNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem stepNext_fresh : (stepNext : List (HloOp τ sig (Elt F))).Forall fun op => op.fresh = ∅ :=
  StableHlo.forall_fresh_of_map rfl
abbrev stepNext_W : List (Ref sig .tc) := [main_while0b_c_49, main_while0b_v166, main_v2_0, main_v2_1, main_v2_2, main_v2_3, main_v2_4]
theorem stepNext_writes : (stepNext : List (HloOp τ sig (Elt F))).Forall fun op => op.writes ⊆ (stepNext_W.map (Proc.devRef (τ := τ) .tc)).toFinset :=
  StableHlo.forall_writes_sub_of_map rfl

/-- One round of labels. -/
abbrev round : List (HloOp τ sig (Elt F)) :=
  [ StableHlo.nullary main_while1b_c_26 (constantI S_ 32 1#32),
    StableHlo.binary main_v36_2 main_while1b_c_26 main_while1b_v92 (addi : (⟨S_, .i32⟩ : BufTy).Contents (Elt F) → (⟨S_, .i32⟩ : BufTy).Contents (Elt F) → (⟨S_, .i32⟩ : BufTy).Contents (Elt F)),
    StableHlo.unary main_v36_3 main_while1b_v93 (broadcastInDim S256x1x100 ![0, 2] bcast_S256x100_S256x1x100_0_2 : (⟨S256x100, .i32⟩ : BufTy).Contents (Elt F) → (⟨S256x1x100, .i32⟩ : BufTy).Contents (Elt F)),
    StableHlo.nullary main_while1b_c_27 (constantI S_ 32 100#32),
    StableHlo.TRef.unary (.of main_while1b_c_27 : StableHlo.TRef sig ⟨S_, .i32⟩) (.of main_while1b_call10_v0 : StableHlo.TRef sig ⟨S_, .i32⟩) id,
    StableHlo.TRef.unary (.of main_while1b_v93 : StableHlo.TRef sig ⟨S256x1x100, .i32⟩) (.of main_while1b_call10_v1 : StableHlo.TRef sig ⟨S256x100x100, .i32⟩) (broadcastInDim S256x100x100 ![0, 1, 2] bcast_S256x1x100_S256x100x100_0_1_2),
    StableHlo.TRef.unary (.of main_while1b_call10_v0 : StableHlo.TRef sig ⟨S_, .i32⟩) (.of main_while1b_call10_v2 : StableHlo.TRef sig ⟨S256x100x100, .i32⟩) (broadcastInDim S256x100x100 ![] bcast_S_S256x100x100),
    StableHlo.TRef.ternary (.of main_v36_0 : StableHlo.TRef sig ⟨S256x100x100, .i1⟩) (.of main_while1b_call10_v1 : StableHlo.TRef sig ⟨S256x100x100, .i32⟩) (.of main_while1b_call10_v2 : StableHlo.TRef sig ⟨S256x100x100, .i32⟩) (.of main_while1b_v94 : StableHlo.TRef sig ⟨S256x100x100, .i32⟩) select,
    StableHlo.nullary main_while1b_c_28 (constantI S_ 32 2147483647#32),
    StableHlo.binary main_while1b_v94 main_while1b_c_28 main_while1b_v95 ((fun x v => Host.reduce IntOp.minsi x v reducesTo_S256x100x100_S256x100_d2 h_S_) : (⟨S256x100x100, .i32⟩ : BufTy).Contents (Elt F) → (⟨S_, .i32⟩ : BufTy).Contents (Elt F) → (⟨S256x100, .i32⟩ : BufTy).Contents (Elt F)),
    StableHlo.binary main_v36_3 main_while1b_v95 main_while1b_v96 (minsi : (⟨S256x100, .i32⟩ : BufTy).Contents (Elt F) → (⟨S256x100, .i32⟩ : BufTy).Contents (Elt F) → (⟨S256x100, .i32⟩ : BufTy).Contents (Elt F)),
    StableHlo.nullary main_while1b_c_29 (constantI S_ 32 1#32),
    StableHlo.binary main_v36_1 main_while1b_c_29 main_while1b_v97 (addi : (⟨S_, .i32⟩ : BufTy).Contents (Elt F) → (⟨S_, .i32⟩ : BufTy).Contents (Elt F) → (⟨S_, .i32⟩ : BufTy).Contents (Elt F)),
    StableHlo.unary main_while1b_v97 main_v36_1 id,
    StableHlo.unary main_while1b_v92 main_v36_2 id,
    StableHlo.unary main_while1b_v96 main_v36_3 id ]
theorem round_sub : (round : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩
theorem round_fresh : (round : List (HloOp τ sig (Elt F))).Forall fun op => op.fresh = ∅ :=
  StableHlo.forall_fresh_of_map rfl
abbrev round_W : List (Ref sig .tc) := [main_while1b_c_26, main_while1b_v92, main_while1b_v93, main_while1b_c_27, main_while1b_call10_v0, main_while1b_call10_v1, main_while1b_call10_v2, main_while1b_v94, main_while1b_c_28, main_while1b_v95, main_while1b_v96, main_while1b_c_29, main_while1b_v97, main_v36_1, main_v36_2, main_v36_3]
theorem round_writes : (round : List (HloOp τ sig (Elt F))).Forall fun op => op.writes ⊆ (round_W.map (Proc.devRef (τ := τ) .tc)).toFinset :=
  StableHlo.forall_writes_sub_of_map rfl

/-- The scan's first values. -/
abbrev before : List (HloOp τ sig (Elt F)) :=
  [ StableHlo.nullary main_cst (constant S_ .f32 0x00000000#32),
    StableHlo.unary main_cst main_v0 (broadcastInDim S256x100x2 ![] bcast_S_S256x100x2 : (⟨S_, .f32⟩ : BufTy).Contents (Elt F) → (⟨S256x100x2, .f32⟩ : BufTy).Contents (Elt F)),
    StableHlo.nullary main_cst_0 (constant S_ .f32 0x00000000#32),
    StableHlo.unary main_cst_0 main_v1 (broadcastInDim S256x100x2 ![] bcast_S_S256x100x2 : (⟨S_, .f32⟩ : BufTy).Contents (Elt F) → (⟨S256x100x2, .f32⟩ : BufTy).Contents (Elt F)),
    StableHlo.nullary main_c (constantI S_ 32 0#32),
    StableHlo.unary main_c main_v2_0 id,
    StableHlo.unary main_arg1 main_v2_1 id,
    StableHlo.unary main_arg2 main_v2_2 id,
    StableHlo.unary main_v0 main_v2_3 id,
    StableHlo.unary main_v1 main_v2_4 id ]
theorem before_sub : (before : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem before_fresh : (before : List (HloOp τ sig (Elt F))).Forall fun op => op.fresh = ∅ :=
  StableHlo.forall_fresh_of_map rfl
abbrev before_W : List (Ref sig .tc) := [main_cst, main_v0, main_cst_0, main_v1, main_c, main_v2_0, main_v2_1, main_v2_2, main_v2_3, main_v2_4]
theorem before_writes : (before : List (HloOp τ sig (Elt F))).Forall fun op => op.writes ⊆ (before_W.map (Proc.devRef (τ := τ) .tc)).toFinset :=
  StableHlo.forall_writes_sub_of_map rfl

/-- Every step's squared distances. -/
abbrev gaps : List (HloOp τ sig (Elt F)) :=
  [ StableHlo.unary main_v2_3 main_v3 (broadcastInDim S256x100x1x2 ![0, 1, 3] bcast_S256x100x2_S256x100x1x2_0_1_3 : (⟨S256x100x2, .f32⟩ : BufTy).Contents (Elt F) → (⟨S256x100x1x2, .f32⟩ : BufTy).Contents (Elt F)),
    StableHlo.unary main_v2_3 main_v4 (broadcastInDim S256x1x100x2 ![0, 2, 3] bcast_S256x100x2_S256x1x100x2_0_2_3 : (⟨S256x100x2, .f32⟩ : BufTy).Contents (Elt F) → (⟨S256x1x100x2, .f32⟩ : BufTy).Contents (Elt F)),
    StableHlo.unary main_v3 main_v5 (broadcastInDim S256x100x100x2 ![0, 1, 2, 3] bcast_S256x100x1x2_S256x100x100x2_0_1_2_3 : (⟨S256x100x1x2, .f32⟩ : BufTy).Contents (Elt F) → (⟨S256x100x100x2, .f32⟩ : BufTy).Contents (Elt F)),
    StableHlo.unary main_v4 main_v6 (broadcastInDim S256x100x100x2 ![0, 1, 2, 3] bcast_S256x1x100x2_S256x100x100x2_0_1_2_3 : (⟨S256x1x100x2, .f32⟩ : BufTy).Contents (Elt F) → (⟨S256x100x100x2, .f32⟩ : BufTy).Contents (Elt F)),
    StableHlo.binary main_v5 main_v6 main_v7 (subf : (⟨S256x100x100x2, .f32⟩ : BufTy).Contents (Elt F) → (⟨S256x100x100x2, .f32⟩ : BufTy).Contents (Elt F) → (⟨S256x100x100x2, .f32⟩ : BufTy).Contents (Elt F)),
    StableHlo.binary main_v7 main_v7 main_v8 (mulf : (⟨S256x100x100x2, .f32⟩ : BufTy).Contents (Elt F) → (⟨S256x100x100x2, .f32⟩ : BufTy).Contents (Elt F) → (⟨S256x100x100x2, .f32⟩ : BufTy).Contents (Elt F)),
    StableHlo.nullary main_cst_1 (constant S_ .f32 0x00000000#32),
    StableHlo.binary main_v8 main_cst_1 main_v9 ((fun x v => Host.reduceAdd x v reducesTo_S256x100x100x2_S256x100x100_d3 h_S_) : (⟨S256x100x100x2, .f32⟩ : BufTy).Contents (Elt F) → (⟨S_, .f32⟩ : BufTy).Contents (Elt F) → (⟨S256x100x100, .f32⟩ : BufTy).Contents (Elt F)) ]
theorem gaps_sub : (gaps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩
theorem gaps_fresh : (gaps : List (HloOp τ sig (Elt F))).Forall fun op => op.fresh = ∅ :=
  StableHlo.forall_fresh_of_map rfl
abbrev gaps_W : List (Ref sig .tc) := [main_v3, main_v4, main_v5, main_v6, main_v7, main_v8, main_cst_1, main_v9]
theorem gaps_writes : (gaps : List (HloOp τ sig (Elt F))).Forall fun op => op.writes ⊆ (gaps_W.map (Proc.devRef (τ := τ) .tc)).toFinset :=
  StableHlo.forall_writes_sub_of_map rfl

/-- Every step's distances. -/
abbrev gapDist : List (HloOp τ sig (Elt F)) :=
  [ StableHlo.nullary main_cst_2 (constant S_ .f32 0x00000000#32),
    StableHlo.unary main_cst_2 main_v10 (broadcastInDim S256x100x100 ![] bcast_S_S256x100x100 : (⟨S_, .f32⟩ : BufTy).Contents (Elt F) → (⟨S256x100x100, .f32⟩ : BufTy).Contents (Elt F)),
    StableHlo.binary main_v9 main_v10 main_v11 (cmpf .ogt : (⟨S256x100x100, .f32⟩ : BufTy).Contents (Elt F) → (⟨S256x100x100, .f32⟩ : BufTy).Contents (Elt F) → (⟨S256x100x100, .i1⟩ : BufTy).Contents (Elt F)),
    StableHlo.nullary main_cst_3 (constant S_ .f32 0x3F800000#32),
    StableHlo.TRef.unary (.of main_cst_3 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S256x100x100, .f32⟩) (broadcastInDim S256x100x100 ![] bcast_S_S256x100x100),
    StableHlo.TRef.ternary (.of main_v11 : StableHlo.TRef sig ⟨S256x100x100, .i1⟩) (.of main_v9 : StableHlo.TRef sig ⟨S256x100x100, .f32⟩) (.of main_call9_v1 : StableHlo.TRef sig ⟨S256x100x100, .f32⟩) (.of main_v12 : StableHlo.TRef sig ⟨S256x100x100, .f32⟩) select,
    StableHlo.unary main_v12 main_v13 (Host.sqrt : (⟨S256x100x100, .f32⟩ : BufTy).Contents (Elt F) → (⟨S256x100x100, .f32⟩ : BufTy).Contents (Elt F)),
    StableHlo.unary main_v11 main_v14 (uitofp .f32 : (⟨S256x100x100, .i1⟩ : BufTy).Contents (Elt F) → (⟨S256x100x100, .f32⟩ : BufTy).Contents (Elt F)),
    StableHlo.binary main_v13 main_v14 main_v15 (mulf : (⟨S256x100x100, .f32⟩ : BufTy).Contents (Elt F) → (⟨S256x100x100, .f32⟩ : BufTy).Contents (Elt F) → (⟨S256x100x100, .f32⟩ : BufTy).Contents (Elt F)) ]
theorem gapDist_sub : (gapDist : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem gapDist_fresh : (gapDist : List (HloOp τ sig (Elt F))).Forall fun op => op.fresh = ∅ :=
  StableHlo.forall_fresh_of_map rfl
abbrev gapDist_W : List (Ref sig .tc) := [main_cst_2, main_v10, main_v11, main_cst_3, main_call9_v0, main_call9_v1, main_v12, main_v13, main_v14, main_v15]
theorem gapDist_writes : (gapDist : List (HloOp τ sig (Elt F))).Forall fun op => op.writes ⊆ (gapDist_W.map (Proc.devRef (τ := τ) .tc)).toFinset :=
  StableHlo.forall_writes_sub_of_map rfl

/-- Polarisation. -/
abbrev polar : List (HloOp τ sig (Elt F)) :=
  [ StableHlo.nullary main_cst_4 (constant S_ .f32 0x00000000#32),
    StableHlo.binary main_v2_4 main_cst_4 main_v16 ((fun x v => Host.reduceAdd x v reducesTo_S256x100x2_S256x2_d1 h_S_) : (⟨S256x100x2, .f32⟩ : BufTy).Contents (Elt F) → (⟨S_, .f32⟩ : BufTy).Contents (Elt F) → (⟨S256x2, .f32⟩ : BufTy).Contents (Elt F)),
    StableHlo.nullary main_cst_5 (constant S_ .f32 0x42C80000#32),
    StableHlo.unary main_cst_5 main_v17 (broadcastInDim S256x2 ![] bcast_S_S256x2 : (⟨S_, .f32⟩ : BufTy).Contents (Elt F) → (⟨S256x2, .f32⟩ : BufTy).Contents (Elt F)),
    StableHlo.binary main_v16 main_v17 main_v18 (Host.divf : (⟨S256x2, .f32⟩ : BufTy).Contents (Elt F) → (⟨S256x2, .f32⟩ : BufTy).Contents (Elt F) → (⟨S256x2, .f32⟩ : BufTy).Contents (Elt F)),
    StableHlo.binary main_v18 main_v18 main_v19 (mulf : (⟨S256x2, .f32⟩ : BufTy).Contents (Elt F) → (⟨S256x2, .f32⟩ : BufTy).Contents (Elt F) → (⟨S256x2, .f32⟩ : BufTy).Contents (Elt F)),
    StableHlo.nullary main_cst_6 (constant S_ .f32 0x00000000#32),
    StableHlo.binary main_v19 main_cst_6 main_v20 ((fun x v => Host.reduceAdd x v reducesTo_S256x2_S256_d1 h_S_) : (⟨S256x2, .f32⟩ : BufTy).Contents (Elt F) → (⟨S_, .f32⟩ : BufTy).Contents (Elt F) → (⟨S256, .f32⟩ : BufTy).Contents (Elt F)),
    StableHlo.unary main_v20 main_v21 (Host.sqrt : (⟨S256, .f32⟩ : BufTy).Contents (Elt F) → (⟨S256, .f32⟩ : BufTy).Contents (Elt F)),
    StableHlo.nullary main_cst_7 (constant S_ .f32 0x3DCCCCCD#32),
    StableHlo.unary main_cst_7 main_v22 (broadcastInDim S256 ![] bcast_S_S256 : (⟨S_, .f32⟩ : BufTy).Contents (Elt F) → (⟨S256, .f32⟩ : BufTy).Contents (Elt F)),
    StableHlo.binary main_v21 main_v22 main_v23 (Host.divf : (⟨S256, .f32⟩ : BufTy).Contents (Elt F) → (⟨S256, .f32⟩ : BufTy).Contents (Elt F) → (⟨S256, .f32⟩ : BufTy).Contents (Elt F)) ]
theorem polar_sub : (polar : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub ..⟩
theorem polar_fresh : (polar : List (HloOp τ sig (Elt F))).Forall fun op => op.fresh = ∅ :=
  StableHlo.forall_fresh_of_map rfl
abbrev polar_W : List (Ref sig .tc) := [main_cst_4, main_v16, main_cst_5, main_v17, main_v18, main_v19, main_cst_6, main_v20, main_v21, main_cst_7, main_v22, main_v23]
theorem polar_writes : (polar : List (HloOp τ sig (Elt F))).Forall fun op => op.writes ⊆ (polar_W.map (Proc.devRef (τ := τ) .tc)).toFinset :=
  StableHlo.forall_writes_sub_of_map rfl

/-- Clustering. -/
abbrev cluster : List (HloOp τ sig (Elt F)) :=
  [ StableHlo.nullary main_cst_8 (constant S_ .f32 0x00000000#32),
    StableHlo.binary main_v15 main_cst_8 main_v24 ((fun x v => Host.reduceAdd x v reducesTo_S256x100x100_S256_d1_2 h_S_) : (⟨S256x100x100, .f32⟩ : BufTy).Contents (Elt F) → (⟨S_, .f32⟩ : BufTy).Contents (Elt F) → (⟨S256, .f32⟩ : BufTy).Contents (Elt F)),
    StableHlo.nullary main_cst_9 (constant S_ .f32 0x461C4000#32),
    StableHlo.unary main_cst_9 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_cst_10 (constant S_ .f32 0x3F800000#32),
    StableHlo.unary main_cst_10 main_v27 (broadcastInDim S256 ![] bcast_S_S256 : (⟨S_, .f32⟩ : BufTy).Contents (Elt F) → (⟨S256, .f32⟩ : BufTy).Contents (Elt F)),
    StableHlo.binary main_v27 main_v26 main_v28 (addf : (⟨S256, .f32⟩ : BufTy).Contents (Elt F) → (⟨S256, .f32⟩ : BufTy).Contents (Elt F) → (⟨S256, .f32⟩ : BufTy).Contents (Elt F)),
    StableHlo.nullary main_cst_11 (constant S_ .f32 0x3F800000#32),
    StableHlo.unary main_cst_11 main_v29 (broadcastInDim S256 ![] bcast_S_S256 : (⟨S_, .f32⟩ : BufTy).Contents (Elt F) → (⟨S256, .f32⟩ : BufTy).Contents (Elt F)),
    StableHlo.binary main_v29 main_v28 main_v30 (Host.divf : (⟨S256, .f32⟩ : BufTy).Contents (Elt F) → (⟨S256, .f32⟩ : BufTy).Contents (Elt F) → (⟨S256, .f32⟩ : BufTy).Contents (Elt F)) ]
theorem cluster_sub : (cluster : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
theorem cluster_fresh : (cluster : List (HloOp τ sig (Elt F))).Forall fun op => op.fresh = ∅ :=
  StableHlo.forall_fresh_of_map rfl
abbrev cluster_W : List (Ref sig .tc) := [main_cst_8, main_v24, main_cst_9, main_v25, main_v26, main_cst_10, main_v27, main_v28, main_cst_11, main_v29, main_v30]
theorem cluster_writes : (cluster : List (HloOp τ sig (Elt F))).Forall fun op => op.writes ⊆ (cluster_W.map (Proc.devRef (τ := τ) .tc)).toFinset :=
  StableHlo.forall_writes_sub_of_map rfl

/-- The adjacency and the first labels. -/
abbrev links : List (HloOp τ sig (Elt F)) :=
  [ StableHlo.nullary main_cst_12 (constant S_ .f32 0x3DCCCCCD#32),
    StableHlo.unary main_cst_12 main_v31 (broadcastInDim S256x100x100 ![] bcast_S_S256x100x100 : (⟨S_, .f32⟩ : BufTy).Contents (Elt F) → (⟨S256x100x100, .f32⟩ : BufTy).Contents (Elt F)),
    StableHlo.binary main_v15 main_v31 main_v32 (cmpf .olt : (⟨S256x100x100, .f32⟩ : BufTy).Contents (Elt F) → (⟨S256x100x100, .f32⟩ : BufTy).Contents (Elt F) → (⟨S256x100x100, .i1⟩ : BufTy).Contents (Elt F)),
    StableHlo.nullary main_v33 (iotaInDim S100 32 0),
    StableHlo.unary main_v33 main_v34 (broadcastInDim S1x100 ![1] bcast_S100_S1x100_1 : (⟨S100, .i32⟩ : BufTy).Contents (Elt F) → (⟨S1x100, .i32⟩ : BufTy).Contents (Elt F)),
    StableHlo.unary main_v34 main_v35 (broadcastInDim S256x100 ![0, 1] bcast_S1x100_S256x100_0_1 : (⟨S1x100, .i32⟩ : BufTy).Contents (Elt F) → (⟨S256x100, .i32⟩ : BufTy).Contents (Elt F)),
    StableHlo.nullary main_c_13 (constantI S_ 32 0#32),
    StableHlo.nullary main_c_14 (constantI S_ 32 0#32),
    StableHlo.unary main_v32 main_v36_0 id,
    StableHlo.unary main_c_14 main_v36_1 id ]
theorem links_sub : (links : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.nullary_bufs_sub .., StableHlo.nullary_bufs_sub .., StableHlo.unary_bufs_sub .., StableHlo.unary_bufs_sub ..⟩
theorem links_fresh : (links : List (HloOp τ sig (Elt F))).Forall fun op => op.fresh = ∅ :=
  StableHlo.forall_fresh_of_map rfl
abbrev links_W : List (Ref sig .tc) := [main_cst_12, main_v31, main_v32, main_v33, main_v34, main_v35, main_c_13, main_c_14, main_v36_0, main_v36_1]
theorem links_writes : (links : List (HloOp τ sig (Elt F))).Forall fun op => op.writes ⊆ (links_W.map (Proc.devRef (τ := τ) .tc)).toFinset :=
  StableHlo.forall_writes_sub_of_map rfl

/-- The last of the first values. -/
abbrev labels0 : List (HloOp τ sig (Elt F)) :=
  [ StableHlo.unary main_c_13 main_v36_2 id,
    StableHlo.unary main_v35 main_v36_3 id ]
theorem labels0_sub : (labels0 : List (HloOp τ sig (Elt F))).Forall fun op => op.bufs ⊆ StableHlo.tcRefs τ sig :=
  ⟨StableHlo.unary_bufs_sub .., StableHlo.unary_bufs_sub ..⟩
theorem labels0_fresh : (labels0 : List (HloOp τ sig (Elt F))).Forall fun op => op.fresh = ∅ :=
  StableHlo.forall_fresh_of_map rfl
abbrev labels0_W : List (Ref sig .tc) := [main_v36_2, main_v36_3]
theorem labels0_writes : (labels0 : List (HloOp τ sig (Elt F))).Forall fun op => op.writes ⊆ (labels0_W.map (Proc.devRef (τ := τ) .tc)).toFinset :=
  StableHlo.forall_writes_sub_of_map rfl

/-- Fragmentation. -/
abbrev fragment : List (HloOp τ sig (Elt F)) :=
  [ StableHlo.nullary main_v37 (iotaInDim S100 32 0),
    StableHlo.unary main_v37 main_v38 (broadcastInDim S1x100 ![1] bcast_S100_S1x100_1 : (⟨S100, .i32⟩ : BufTy).Contents (Elt F) → (⟨S1x100, .i32⟩ : BufTy).Contents (Elt F)),
    StableHlo.unary main_v38 main_v39 (broadcastInDim S256x100 ![0, 1] bcast_S1x100_S256x100_0_1 : (⟨S1x100, .i32⟩ : BufTy).Contents (Elt F) → (⟨S256x100, .i32⟩ : BufTy).Contents (Elt F)),
    StableHlo.binary main_v36_3 main_v39 main_v40 (cmpi .eq : (⟨S256x100, .i32⟩ : BufTy).Contents (Elt F) → (⟨S256x100, .i32⟩ : BufTy).Contents (Elt F) → (⟨S256x100, .i1⟩ : BufTy).Contents (Elt F)),
    StableHlo.unary main_v40 main_v41 ((extui 32 · natLt_1_32) : (⟨S256x100, .i1⟩ : BufTy).Contents (Elt F) → (⟨S256x100, .i32⟩ : BufTy).Contents (Elt F)),
    StableHlo.nullary main_c_15 (constantI S_ 32 0#32),
    StableHlo.binary main_v41 main_c_15 main_v42 ((fun x v => Host.reduce IntOp.addi x v reducesTo_S256x100_S256_d1 h_S_) : (⟨S256x100, .i32⟩ : BufTy).Contents (Elt F) → (⟨S_, .i32⟩ : BufTy).Contents (Elt F) → (⟨S256, .i32⟩ : BufTy).Contents (Elt F)),
    StableHlo.unary main_v42 main_v43 (sitofp .f32 : (⟨S256, .i32⟩ : BufTy).Contents (Elt F) → (⟨S256, .f32⟩ : BufTy).Contents (Elt F)),
    StableHlo.nullary main_cst_16 (constant S_ .f32 0x42C80000#32),
    StableHlo.unary main_cst_16 main_v44 (broadcastInDim S256 ![] bcast_S_S256 : (⟨S_, .f32⟩ : BufTy).Contents (Elt F) → (⟨S256, .f32⟩ : BufTy).Contents (Elt F)),
    StableHlo.binary main_v43 main_v44 main_v45 (Host.divf : (⟨S256, .f32⟩ : BufTy).Contents (Elt F) → (⟨S256, .f32⟩ : BufTy).Contents (Elt F) → (⟨S256, .f32⟩ : BufTy).Contents (Elt F)) ]
theorem fragment_sub : (fragment : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub ..⟩
theorem fragment_fresh : (fragment : List (HloOp τ sig (Elt F))).Forall fun op => op.fresh = ∅ :=
  StableHlo.forall_fresh_of_map rfl
abbrev fragment_W : List (Ref sig .tc) := [main_v37, main_v38, main_v39, main_v40, main_v41, main_c_15, main_v42, main_v43, main_cst_16, main_v44, main_v45]
theorem fragment_writes : (fragment : List (HloOp τ sig (Elt F))).Forall fun op => op.writes ⊆ (fragment_W.map (Proc.devRef (τ := τ) .tc)).toFinset :=
  StableHlo.forall_writes_sub_of_map rfl

/-- The metrics, stacked. -/
abbrev metrics : List (HloOp τ sig (Elt F)) :=
  [ StableHlo.unary main_v23 main_v46 (broadcastInDim S256x1 ![0] bcast_S256_S256x1_0 : (⟨S256, .f32⟩ : BufTy).Contents (Elt F) → (⟨S256x1, .f32⟩ : BufTy).Contents (Elt F)),
    StableHlo.unary main_v30 main_v47 (broadcastInDim S256x1 ![0] bcast_S256_S256x1_0 : (⟨S256, .f32⟩ : BufTy).Contents (Elt F) → (⟨S256x1, .f32⟩ : BufTy).Contents (Elt F)),
    StableHlo.unary main_v45 main_v48 (broadcastInDim S256x1 ![0] bcast_S256_S256x1_0 : (⟨S256, .f32⟩ : BufTy).Contents (Elt F) → (⟨S256x1, .f32⟩ : BufTy).Contents (Elt F)),
    StableHlo.nary ![main_v46, main_v47, main_v48] main_v49 (fun u => (concatenate S256x3 1 [⟨S256x1, (u 0 : (⟨S256x1, .f32⟩ : BufTy).Contents (Elt F))⟩, ⟨S256x1, (u 1 : (⟨S256x1, .f32⟩ : BufTy).Contents (Elt F))⟩, ⟨S256x1, (u 2 : (⟨S256x1, .f32⟩ : BufTy).Contents (Elt F))⟩] concatenates_S256x1_S256x1_S256x1_S256x3_d1 : (⟨S256x3, .f32⟩ : BufTy).Contents (Elt F))) ]
theorem metrics_sub : (metrics : List (HloOp τ sig (Elt F))).Forall fun op => op.bufs ⊆ StableHlo.tcRefs τ sig :=
  ⟨StableHlo.unary_bufs_sub .., StableHlo.unary_bufs_sub .., StableHlo.unary_bufs_sub .., StableHlo.nary_bufs_sub ..⟩
theorem metrics_fresh : (metrics : List (HloOp τ sig (Elt F))).Forall fun op => op.fresh = ∅ :=
  StableHlo.forall_fresh_of_map rfl
abbrev metrics_W : List (Ref sig .tc) := [main_v46, main_v47, main_v48, main_v49]
theorem metrics_writes : (metrics : List (HloOp τ sig (Elt F))).Forall fun op => op.writes ⊆ (metrics_W.map (Proc.devRef (τ := τ) .tc)).toFinset :=
  StableHlo.forall_writes_sub_of_map rfl

/-- The encoder's layers. -/
abbrev layers : List (HloOp τ sig (Elt F)) :=
  [ StableHlo.unary main_arg3 main_v50 ((transpose S3x64 [1, 0] · transposes_S64x3_S3x64_1_0) : (⟨S64x3, .f32⟩ : BufTy).Contents (Elt F) → (⟨S3x64, .f32⟩ : BufTy).Contents (Elt F)),
    StableHlo.binary main_v49 main_v50 main_v51 ((fun l r => Host.dotGeneral dot_S256x3_S3x64_S256x64_1_0_0_1_n_n none l r) : (⟨S256x3, .f32⟩ : BufTy).Contents (Elt F) → (⟨S3x64, .f32⟩ : BufTy).Contents (Elt F) → (⟨S256x64, .f32⟩ : BufTy).Contents (Elt F)),
    StableHlo.unary main_arg4 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S256x64 ![0, 1] bcast_S1x64_S256x64_0_1 : (⟨S1x64, .f32⟩ : BufTy).Contents (Elt F) → (⟨S256x64, .f32⟩ : BufTy).Contents (Elt F)),
    StableHlo.binary main_v51 main_v53 main_v54 (addf : (⟨S256x64, .f32⟩ : BufTy).Contents (Elt F) → (⟨S256x64, .f32⟩ : BufTy).Contents (Elt F) → (⟨S256x64, .f32⟩ : BufTy).Contents (Elt F)),
    StableHlo.nullary main_cst_17 (constant S_ .f32 0x00000000#32),
    StableHlo.unary main_cst_17 main_v55 (broadcastInDim S256x64 ![] bcast_S_S256x64 : (⟨S_, .f32⟩ : BufTy).Contents (Elt F) → (⟨S256x64, .f32⟩ : BufTy).Contents (Elt F)),
    StableHlo.binary main_v54 main_v55 main_v56 (maximumf : (⟨S256x64, .f32⟩ : BufTy).Contents (Elt F) → (⟨S256x64, .f32⟩ : BufTy).Contents (Elt F) → (⟨S256x64, .f32⟩ : BufTy).Contents (Elt F)),
    StableHlo.unary main_arg5 main_v57 ((transpose S64x32 [1, 0] · transposes_S32x64_S64x32_1_0) : (⟨S32x64, .f32⟩ : BufTy).Contents (Elt F) → (⟨S64x32, .f32⟩ : BufTy).Contents (Elt F)),
    StableHlo.binary main_v56 main_v57 main_v58 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    StableHlo.unary main_arg6 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S256x32 ![0, 1] bcast_S1x32_S256x32_0_1 : (⟨S1x32, .f32⟩ : BufTy).Contents (Elt F) → (⟨S256x32, .f32⟩ : BufTy).Contents (Elt F)),
    StableHlo.binary main_v58 main_v60 main_v61 (addf : (⟨S256x32, .f32⟩ : BufTy).Contents (Elt F) → (⟨S256x32, .f32⟩ : BufTy).Contents (Elt F) → (⟨S256x32, .f32⟩ : BufTy).Contents (Elt F)) ]
theorem layers_sub : (layers : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
theorem layers_fresh : (layers : List (HloOp τ sig (Elt F))).Forall fun op => op.fresh = ∅ :=
  StableHlo.forall_fresh_of_map rfl
abbrev layers_W : List (Ref sig .tc) := [main_v50, main_v51, main_v52, main_v53, main_v54, main_cst_17, main_v55, main_v56, main_v57, main_v58, main_v59, main_v60, main_v61]
theorem layers_writes : (layers : List (HloOp τ sig (Elt F))).Forall fun op => op.writes ⊆ (layers_W.map (Proc.devRef (τ := τ) .tc)).toFinset :=
  StableHlo.forall_writes_sub_of_map rfl

/-- The layer's mean and deviation. -/
abbrev norm : List (HloOp τ sig (Elt F)) :=
  [ StableHlo.nullary main_cst_18 (constant S_ .f32 0x00000000#32),
    StableHlo.binary main_v61 main_cst_18 main_v62 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    StableHlo.unary main_v62 main_v63 (broadcastInDim S256x1 ![0] bcast_S256_S256x1_0 : (⟨S256, .f32⟩ : BufTy).Contents (Elt F) → (⟨S256x1, .f32⟩ : BufTy).Contents (Elt F)),
    StableHlo.nullary main_cst_19 (constant S_ .f32 0x42000000#32),
    StableHlo.unary main_cst_19 main_v64 (broadcastInDim S256x1 ![] bcast_S_S256x1 : (⟨S_, .f32⟩ : BufTy).Contents (Elt F) → (⟨S256x1, .f32⟩ : BufTy).Contents (Elt F)),
    StableHlo.binary main_v63 main_v64 main_v65 (Host.divf : (⟨S256x1, .f32⟩ : BufTy).Contents (Elt F) → (⟨S256x1, .f32⟩ : BufTy).Contents (Elt F) → (⟨S256x1, .f32⟩ : BufTy).Contents (Elt F)),
    StableHlo.unary main_v65 main_v66 (broadcastInDim S256x32 ![0, 1] bcast_S256x1_S256x32_0_1 : (⟨S256x1, .f32⟩ : BufTy).Contents (Elt F) → (⟨S256x32, .f32⟩ : BufTy).Contents (Elt F)),
    StableHlo.binary main_v61 main_v66 main_v67 (subf : (⟨S256x32, .f32⟩ : BufTy).Contents (Elt F) → (⟨S256x32, .f32⟩ : BufTy).Contents (Elt F) → (⟨S256x32, .f32⟩ : BufTy).Contents (Elt F)),
    StableHlo.binary main_v67 main_v67 main_v68 (mulf : (⟨S256x32, .f32⟩ : BufTy).Contents (Elt F) → (⟨S256x32, .f32⟩ : BufTy).Contents (Elt F) → (⟨S256x32, .f32⟩ : BufTy).Contents (Elt F)),
    StableHlo.nullary main_cst_20 (constant S_ .f32 0x00000000#32),
    StableHlo.binary main_v68 main_cst_20 main_v69 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    StableHlo.unary main_v69 main_v70 (broadcastInDim S256x1 ![0] bcast_S256_S256x1_0 : (⟨S256, .f32⟩ : BufTy).Contents (Elt F) → (⟨S256x1, .f32⟩ : BufTy).Contents (Elt F)),
    StableHlo.nullary main_cst_21 (constant S_ .f32 0x42000000#32),
    StableHlo.unary main_cst_21 main_v71 (broadcastInDim S256x1 ![] bcast_S_S256x1 : (⟨S_, .f32⟩ : BufTy).Contents (Elt F) → (⟨S256x1, .f32⟩ : BufTy).Contents (Elt F)),
    StableHlo.binary main_v70 main_v71 main_v72 (Host.divf : (⟨S256x1, .f32⟩ : BufTy).Contents (Elt F) → (⟨S256x1, .f32⟩ : BufTy).Contents (Elt F) → (⟨S256x1, .f32⟩ : BufTy).Contents (Elt F)),
    StableHlo.unary main_v65 main_v73 (broadcastInDim S256x32 ![0, 1] bcast_S256x1_S256x32_0_1 : (⟨S256x1, .f32⟩ : BufTy).Contents (Elt F) → (⟨S256x32, .f32⟩ : BufTy).Contents (Elt F)),
    StableHlo.binary main_v61 main_v73 main_v74 (subf : (⟨S256x32, .f32⟩ : BufTy).Contents (Elt F) → (⟨S256x32, .f32⟩ : BufTy).Contents (Elt F) → (⟨S256x32, .f32⟩ : BufTy).Contents (Elt F)),
    StableHlo.nullary main_cst_22 (constant S_ .f32 0x3727C5AC#32),
    StableHlo.unary main_cst_22 main_v75 (broadcastInDim S256x1 ![] bcast_S_S256x1 : (⟨S_, .f32⟩ : BufTy).Contents (Elt F) → (⟨S256x1, .f32⟩ : BufTy).Contents (Elt F)),
    StableHlo.binary main_v72 main_v75 main_v76 (addf : (⟨S256x1, .f32⟩ : BufTy).Contents (Elt F) → (⟨S256x1, .f32⟩ : BufTy).Contents (Elt F) → (⟨S256x1, .f32⟩ : BufTy).Contents (Elt F)) ]
theorem norm_sub : (norm : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩
theorem norm_fresh : (norm : List (HloOp τ sig (Elt F))).Forall fun op => op.fresh = ∅ :=
  StableHlo.forall_fresh_of_map rfl
abbrev norm_W : List (Ref sig .tc) := [main_cst_18, main_v62, main_v63, main_cst_19, main_v64, main_v65, main_v66, main_v67, main_v68, main_cst_20, main_v69, main_v70, main_cst_21, main_v71, main_v72, main_v73, main_v74, main_cst_22, main_v75, main_v76]
theorem norm_writes : (norm : List (HloOp τ sig (Elt F))).Forall fun op => op.writes ⊆ (norm_W.map (Proc.devRef (τ := τ) .tc)).toFinset :=
  StableHlo.forall_writes_sub_of_map rfl

/-- The encoding. -/
abbrev encode : List (HloOp τ sig (Elt F)) :=
  [ StableHlo.unary main_v76 main_v77 (Host.sqrt : (⟨S256x1, .f32⟩ : BufTy).Contents (Elt F) → (⟨S256x1, .f32⟩ : BufTy).Contents (Elt F)),
    StableHlo.unary main_v77 main_v78 (broadcastInDim S256x32 ![0, 1] bcast_S256x1_S256x32_0_1 : (⟨S256x1, .f32⟩ : BufTy).Contents (Elt F) → (⟨S256x32, .f32⟩ : BufTy).Contents (Elt F)),
    StableHlo.binary main_v74 main_v78 main_v79 (Host.divf : (⟨S256x32, .f32⟩ : BufTy).Contents (Elt F) → (⟨S256x32, .f32⟩ : BufTy).Contents (Elt F) → (⟨S256x32, .f32⟩ : BufTy).Contents (Elt F)),
    StableHlo.unary main_arg7 main_v80 (broadcastInDim S1x32 ![1] bcast_S32_S1x32_1 : (⟨S32, .f32⟩ : BufTy).Contents (Elt F) → (⟨S1x32, .f32⟩ : BufTy).Contents (Elt F)),
    StableHlo.unary main_v80 main_v81 (broadcastInDim S256x32 ![0, 1] bcast_S1x32_S256x32_0_1 : (⟨S1x32, .f32⟩ : BufTy).Contents (Elt F) → (⟨S256x32, .f32⟩ : BufTy).Contents (Elt F)),
    StableHlo.binary main_v79 main_v81 main_v82 (mulf : (⟨S256x32, .f32⟩ : BufTy).Contents (Elt F) → (⟨S256x32, .f32⟩ : BufTy).Contents (Elt F) → (⟨S256x32, .f32⟩ : BufTy).Contents (Elt F)),
    StableHlo.unary main_arg8 main_v83 (broadcastInDim S1x32 ![1] bcast_S32_S1x32_1 : (⟨S32, .f32⟩ : BufTy).Contents (Elt F) → (⟨S1x32, .f32⟩ : BufTy).Contents (Elt F)),
    StableHlo.unary main_v83 main_v84 (broadcastInDim S256x32 ![0, 1] bcast_S1x32_S256x32_0_1 : (⟨S1x32, .f32⟩ : BufTy).Contents (Elt F) → (⟨S256x32, .f32⟩ : BufTy).Contents (Elt F)),
    StableHlo.binary main_v82 main_v84 main_v85 (addf : (⟨S256x32, .f32⟩ : BufTy).Contents (Elt F) → (⟨S256x32, .f32⟩ : BufTy).Contents (Elt F) → (⟨S256x32, .f32⟩ : BufTy).Contents (Elt F)) ]
theorem encode_sub : (encode : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem encode_fresh : (encode : List (HloOp τ sig (Elt F))).Forall fun op => op.fresh = ∅ :=
  StableHlo.forall_fresh_of_map rfl
abbrev encode_W : List (Ref sig .tc) := [main_v77, main_v78, main_v79, main_v80, main_v81, main_v82, main_v83, main_v84, main_v85]
theorem encode_writes : (encode : List (HloOp τ sig (Elt F))).Forall fun op => op.writes ⊆ (encode_W.map (Proc.devRef (τ := τ) .tc)).toFinset :=
  StableHlo.forall_writes_sub_of_map rfl

/-- The metrics, one by one. -/
abbrev results : List (HloOp τ sig (Elt F)) :=
  [ StableHlo.unary main_v49 main_v86 ((extractStridedSlice S256x1 ![0, 0] · slices_S256x3_S256x1_0_0) : (⟨S256x3, .f32⟩ : BufTy).Contents (Elt F) → (⟨S256x1, .f32⟩ : BufTy).Contents (Elt F)),
    StableHlo.reshape main_v86 main_v87 (rfl : (.f32 : EltTy) = .f32) shapeCasts_S256x1_S256,
    StableHlo.unary main_v49 main_v88 ((extractStridedSlice S256x1 ![0, 1] · slices_S256x3_S256x1_0_1) : (⟨S256x3, .f32⟩ : BufTy).Contents (Elt F) → (⟨S256x1, .f32⟩ : BufTy).Contents (Elt F)),
    StableHlo.reshape main_v88 main_v89 (rfl : (.f32 : EltTy) = .f32) shapeCasts_S256x1_S256,
    StableHlo.unary main_v49 main_v90 ((extractStridedSlice S256x1 ![0, 2] · slices_S256x3_S256x1_0_2) : (⟨S256x3, .f32⟩ : BufTy).Contents (Elt F) → (⟨S256x1, .f32⟩ : BufTy).Contents (Elt F)),
    StableHlo.reshape main_v90 main_v91 (rfl : (.f32 : EltTy) = .f32) shapeCasts_S256x1_S256 ]
theorem results_sub : (results : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..⟩
theorem results_fresh : (results : List (HloOp τ sig (Elt F))).Forall fun op => op.fresh = ∅ :=
  StableHlo.forall_fresh_of_map rfl
abbrev results_W : List (Ref sig .tc) := [main_v86, main_v87, main_v88, main_v89, main_v90, main_v91]
theorem results_writes : (results : List (HloOp τ sig (Elt F))).Forall fun op => op.writes ⊆ (results_W.map (Proc.devRef (τ := τ) .tc)).toFinset :=
  StableHlo.forall_writes_sub_of_map rfl

/-- The conditions of the two loops. -/
abbrev scanTest : List (HloOp τ sig (Elt F)) :=
  [ StableHlo.nullary main_while0c_c_27 (constantI S_ 32 256#32),
    StableHlo.binary main_v2_0 main_while0c_c_27 main_while0c_v92 (cmpi .slt) ]
abbrev scanTest_W : List (Ref sig .tc) := [main_while0c_c_27, main_while0c_v92]
theorem scanTest_writes : (scanTest : List (HloOp τ sig (Elt F))).Forall fun op => op.writes ⊆ (scanTest_W.map (Proc.devRef (τ := τ) .tc)).toFinset :=
  StableHlo.forall_writes_sub_of_map rfl

abbrev roundTest : List (HloOp τ sig (Elt F)) :=
  [ StableHlo.nullary main_while1c_c_26 (constantI S_ 32 100#32),
    StableHlo.binary main_v36_1 main_while1c_c_26 main_while1c_v92 (cmpi .slt) ]
abbrev roundTest_W : List (Ref sig .tc) := [main_while1c_c_26, main_while1c_v92]
theorem roundTest_writes : (roundTest : List (HloOp τ sig (Elt F))).Forall fun op => op.writes ⊆ (roundTest_W.map (Proc.devRef (τ := τ) .tc)).toFinset :=
  StableHlo.forall_writes_sub_of_map rfl

/-- The operations before the scan. -/
abbrev scanPre : List (List (HloOp τ sig (Elt F))) := [before]
theorem scanPre_plain : StableHlo.Plain (scanPre (F := F)) := .cons before_sub (hf := List.forall_iff_forall_mem.mp before_fresh) (.nil)

/-- The scan's body. -/
abbrev scanBody : List (List (HloOp τ sig (Elt F))) := [stepPairs, stepDist, stepMask, stepCount, stepMeans, stepPulls, stepInv, stepPush, stepDrift, stepSpeed, stepCap, stepMove, stepNext]
theorem scanBody_plain : StableHlo.Plain (scanBody (F := F)) := .cons stepPairs_sub (hf := List.forall_iff_forall_mem.mp stepPairs_fresh) (.cons stepDist_sub (hf := List.forall_iff_forall_mem.mp stepDist_fresh) (.cons stepMask_sub (hf := List.forall_iff_forall_mem.mp stepMask_fresh) (.cons stepCount_sub (hf := List.forall_iff_forall_mem.mp stepCount_fresh) (.cons stepMeans_sub (hf := List.forall_iff_forall_mem.mp stepMeans_fresh) (.cons stepPulls_sub (hf := List.forall_iff_forall_mem.mp stepPulls_fresh) (.cons stepInv_sub (hf := List.forall_iff_forall_mem.mp stepInv_fresh) (.cons stepPush_sub (hf := List.forall_iff_forall_mem.mp stepPush_fresh) (.cons stepDrift_sub (hf := List.forall_iff_forall_mem.mp stepDrift_fresh) (.cons stepSpeed_sub (hf := List.forall_iff_forall_mem.mp stepSpeed_fresh) (.cons stepCap_sub (hf := List.forall_iff_forall_mem.mp stepCap_fresh) (.cons stepMove_sub (hf := List.forall_iff_forall_mem.mp stepMove_fresh) (.cons stepNext_sub (hf := List.forall_iff_forall_mem.mp stepNext_fresh) (.nil)))))))))))))

/-- The operations between the loops. -/
abbrev midOps : List (List (HloOp τ sig (Elt F))) := [gaps, gapDist, polar, cluster, links, labels0]
theorem midOps_plain : StableHlo.Plain (midOps (F := F)) := .cons gaps_sub (hf := List.forall_iff_forall_mem.mp gaps_fresh) (.cons gapDist_sub (hf := List.forall_iff_forall_mem.mp gapDist_fresh) (.cons polar_sub (hf := List.forall_iff_forall_mem.mp polar_fresh) (.cons cluster_sub (hf := List.forall_iff_forall_mem.mp cluster_fresh) (.cons links_sub (hf := List.forall_iff_forall_mem.mp links_fresh) (.cons labels0_sub (hf := List.forall_iff_forall_mem.mp labels0_fresh) (.nil))))))

/-- The second loop's body. -/
abbrev roundBody : List (List (HloOp τ sig (Elt F))) := [round]
theorem roundBody_plain : StableHlo.Plain (roundBody (F := F)) := .cons round_sub (hf := List.forall_iff_forall_mem.mp round_fresh) (.nil)

/-- The operations after the loops. -/
abbrev postOps : List (List (HloOp τ sig (Elt F))) := [fragment, metrics, layers, norm, encode, results]
theorem postOps_plain : StableHlo.Plain (postOps (F := F)) := .cons fragment_sub (hf := List.forall_iff_forall_mem.mp fragment_fresh) (.cons metrics_sub (hf := List.forall_iff_forall_mem.mp metrics_fresh) (.cons layers_sub (hf := List.forall_iff_forall_mem.mp layers_fresh) (.cons norm_sub (hf := List.forall_iff_forall_mem.mp norm_fresh) (.cons encode_sub (hf := List.forall_iff_forall_mem.mp encode_fresh) (.cons results_sub (hf := List.forall_iff_forall_mem.mp results_fresh) (.nil))))))

/-! The program's parts as chains of these lists. -/

theorem main_while0_body_part0_chain : main_while0_body_part0 (F := F) = (Pipeline.chainK
  [ StableHlo.seq stepPairs, StableHlo.seq stepDist, StableHlo.seq stepMask, StableHlo.seq stepCount, StableHlo.seq stepMeans, StableHlo.seq stepPulls, StableHlo.seq stepInv ]
  (StableHlo.seq stepPush) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons]
  chain_rfl

theorem main_while0_body_part1_chain : main_while0_body_part1 (F := F) = (Pipeline.chain
  [ StableHlo.seq stepDrift, StableHlo.seq stepSpeed, StableHlo.seq stepCap, StableHlo.seq stepMove, StableHlo.seq stepNext ] : Prog (TpuEff nD τ sig (Elt F) (HostLoop.Sig (Pipeline.Sig Λ₀ (Fin 0) fun p => (pcfgs (F := F) p).Adm) 2) .tc) PUnit) := by
  rewrite [StableHlo.chain_seq_cons, StableHlo.chain_seq_cons, StableHlo.chain_seq_cons, StableHlo.chain_seq_cons, StableHlo.chain_seq_cons]
  chain_rfl

theorem scan_chain : main_while0_body (F := F) = (Pipeline.chain (scanBody.map fun ops => (StableHlo.seq ops : Prog _ PUnit)) : Prog (TpuEff nD τ sig (Elt F) (HostLoop.Sig (Pipeline.Sig Λ₀ (Fin 0) fun p => (pcfgs (F := F) p).Adm) 2) .tc) PUnit) := by
  show (main_while0_body_part0 (F := F) >>= fun _ => main_while0_body_part1 (F := F)) = _
  rewrite [main_while0_body_part1_chain, main_while0_body_part0_chain, Pipeline.chainK_bind_chain]
  chain_rfl

theorem round_chain : main_while1_body (F := F) = (Pipeline.chain (roundBody.map fun ops => (StableHlo.seq ops : Prog _ PUnit)) : Prog (TpuEff nD τ sig (Elt F) (HostLoop.Sig (Pipeline.Sig Λ₀ (Fin 0) fun p => (pcfgs (F := F) p).Adm) 2) .tc) PUnit) := by
  show _ = Pipeline.chain [StableHlo.seq round]
  rewrite [StableHlo.chain_seq_cons]
  chain_rfl

theorem main_part0_chain (c : Dev nD) : main_part0 (F := F) c = (Pipeline.chainK
  [ StableHlo.seq before, HostLoop.enter 0, StableHlo.seq gaps, StableHlo.seq gapDist, StableHlo.seq polar, StableHlo.seq cluster ]
  (StableHlo.seq links) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, StableHlo.chainK_seq_cons, StableHlo.chainK_seq_cons, StableHlo.chainK_seq_cons]
  chain_rfl

theorem main_part1_chain (c : Dev nD) : main_part1 (F := F) c = (Pipeline.chainK
  [ StableHlo.seq labels0, HostLoop.enter 1, StableHlo.seq fragment, StableHlo.seq metrics, StableHlo.seq layers, StableHlo.seq norm ]
  (StableHlo.seq encode) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, StableHlo.chainK_seq_cons, StableHlo.chainK_seq_cons, StableHlo.chainK_seq_cons]
  chain_rfl

theorem main_part2_chain (c : Dev nD) : main_part2 (F := F) c = (Pipeline.chain
  [ StableHlo.seq results ] : Prog (TpuEff nD τ sig (Elt F) (HostLoop.Sig (Pipeline.Sig Λ₀ (Fin 0) fun p => (pcfgs (F := F) p).Adm) 2) .tc) PUnit) := by
  rewrite [StableHlo.chain_seq_cons]
  chain_rfl

theorem main_chain (c : Dev nD) : main (F := F) c = (Pipeline.chain ((scanPre.map fun ops => (StableHlo.seq ops : Prog _ PUnit)) ++ HostLoop.enter 0 :: ((midOps.map fun ops => (StableHlo.seq ops : Prog _ PUnit)) ++ HostLoop.enter 1 :: postOps.map fun ops => (StableHlo.seq ops : Prog _ PUnit))) : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

end Cert.Proof.RefOps

end
-- ==== Proof.RefRun.lean ====
module

public import proofs.«01_k».proof.Proof.RefOps
public import Idealize.ShloMosaic.Lib.Quiescent

@[expose] public section

set_option maxRecDepth 4000

noncomputable section

/-! The reference's run: operations, the scan, operations, the rounds of labels, operations. -/

namespace Cert.Proof.RefRun

open Idealize.ShloMosaic Idealize.ShloMosaic.TcCoe Idealize.ShloMosaic.StableHlo
open Cert.ReferenceIdeal Cert.ReferenceIdeal.Gen Cert.Proof.RefOps
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {F : FTy → Type} [FloatOps F] (m : (ℓ : Loc nD τ sig) → Buf (Elt F) ℓ) (ρ : Dev nD → PrngReg)

/-! ## The contents along the run -/

/-- The buffers when the scan starts. -/
abbrev V1 (c : Dev nD) : Valuation τ sig (Elt F) := afterL scanPre (launchContents m c)
/-- The buffers before the scan's step `k`. -/
abbrev scanAt (k : ℕ) (c : Dev nD) : Valuation τ sig (Elt F) := atTrip scanTest scanBody (V1 m) k c
/-- The buffers when the scan has ended. -/
abbrev V2 (c : Dev nD) : Valuation τ sig (Elt F) := after scanTest (scanAt m 256 c)
/-- The buffers when the rounds start. -/
abbrev V3 (c : Dev nD) : Valuation τ sig (Elt F) := afterL midOps (V2 m c)
/-- The buffers before round `k`. -/
abbrev roundAt (k : ℕ) (c : Dev nD) : Valuation τ sig (Elt F) := atTrip roundTest roundBody (V3 m) k c
/-- The buffers when the rounds have ended. -/
abbrev V4 (c : Dev nD) : Valuation τ sig (Elt F) := after roundTest (roundAt m 100 c)
/-- The buffers at the end. -/
abbrev V5 (c : Dev nD) : Valuation τ sig (Elt F) := afterL postOps (V4 m c)

/-! ## What the lists leave alone -/

/-- A list of operations with the buffers it writes. -/
structure Part (F : FTy → Type) [FloatOps F] where
  ops : List (HloOp τ sig (Elt F))
  W : List (Ref sig .tc)
  writes : ops.Forall fun op => op.writes ⊆ (W.map (Proc.devRef (τ := τ) .tc)).toFinset

/-- A buffer that none of the lists writes keeps its contents. -/
theorem keep (r : Ref sig .tc) : ∀ (l : List (Part F)) (V : Valuation τ sig (Elt F)) {Ws : List (List (Ref sig .tc))}, l.map Part.W = Ws →
    (∀ w ∈ Ws, r ∉ w) → afterL (l.map Part.ops) V (Proc.devRef .tc r) = V (Proc.devRef .tc r)
  | [], _, _, _, _ => rfl
  | p :: l, V, _, rfl, h => (keep r l _ rfl fun w hw => h w (List.mem_cons_of_mem _ hw)).trans
      (after_of_writes_sub p.ops V p.writes (h p.W List.mem_cons_self))

/-- Before the scan. -/
abbrev preParts : List (Part F) := [⟨before, before_W, before_writes⟩]
abbrev preParts_W : List (List (Ref sig .tc)) := [before_W]
/-- A step of the scan before its carried values are stored. -/
abbrev stepParts : List (Part F) := [⟨stepPairs, stepPairs_W, stepPairs_writes⟩, ⟨stepDist, stepDist_W, stepDist_writes⟩, ⟨stepMask, stepMask_W, stepMask_writes⟩, ⟨stepCount, stepCount_W, stepCount_writes⟩, ⟨stepMeans, stepMeans_W, stepMeans_writes⟩, ⟨stepPulls, stepPulls_W, stepPulls_writes⟩, ⟨stepInv, stepInv_W, stepInv_writes⟩, ⟨stepPush, stepPush_W, stepPush_writes⟩, ⟨stepDrift, stepDrift_W, stepDrift_writes⟩, ⟨stepSpeed, stepSpeed_W, stepSpeed_writes⟩, ⟨stepCap, stepCap_W, stepCap_writes⟩, ⟨stepMove, stepMove_W, stepMove_writes⟩]
abbrev stepParts_W : List (List (Ref sig .tc)) := [stepPairs_W, stepDist_W, stepMask_W, stepCount_W, stepMeans_W, stepPulls_W, stepInv_W, stepPush_W, stepDrift_W, stepSpeed_W, stepCap_W, stepMove_W]
/-- Between the loops. -/
abbrev midParts : List (Part F) := [⟨gaps, gaps_W, gaps_writes⟩, ⟨gapDist, gapDist_W, gapDist_writes⟩, ⟨polar, polar_W, polar_writes⟩, ⟨cluster, cluster_W, cluster_writes⟩, ⟨links, links_W, links_writes⟩, ⟨labels0, labels0_W, labels0_writes⟩]
abbrev midParts_W : List (List (Ref sig .tc)) := [gaps_W, gapDist_W, polar_W, cluster_W, links_W, labels0_W]
/-- After the loops. -/
abbrev postParts : List (Part F) := [⟨fragment, fragment_W, fragment_writes⟩, ⟨metrics, metrics_W, metrics_writes⟩, ⟨layers, layers_W, layers_writes⟩, ⟨norm, norm_W, norm_writes⟩, ⟨encode, encode_W, encode_writes⟩, ⟨results, results_W, results_writes⟩]
abbrev postParts_W : List (List (Ref sig .tc)) := [fragment_W, metrics_W, layers_W, norm_W, encode_W, results_W]

/-- The scan's tests and steps leave a buffer alone that they do not write. -/
theorem scan_keep (r : Ref sig .tc) (ht : r ∉ scanTest_W) (hs : ∀ w ∈ stepParts_W, r ∉ w) (hn : r ∉ stepNext_W) (c : Dev nD) :
    ∀ k, scanAt m k c (Proc.devRef .tc r) = V1 m c (Proc.devRef .tc r)
  | 0 => rfl
  | k + 1 => (after_of_writes_sub stepNext _ stepNext_writes hn).trans <|
      (keep r stepParts (after scanTest (scanAt m k c)) rfl hs).trans <|
      (after_of_writes_sub scanTest _ scanTest_writes ht).trans (scan_keep r ht hs hn c k)

/-- So do the rounds' tests and rounds. -/
theorem rounds_keep (r : Ref sig .tc) (ht : r ∉ roundTest_W) (hs : r ∉ round_W) (c : Dev nD) :
    ∀ k, roundAt m k c (Proc.devRef .tc r) = V3 m c (Proc.devRef .tc r)
  | 0 => rfl
  | k + 1 => (after_of_writes_sub round _ round_writes hs).trans <|
      (after_of_writes_sub roundTest _ roundTest_writes ht).trans (rounds_keep r ht hs c k)

/-- A buffer nothing writes is at the end what it was at the start. -/
theorem all_keep (r : Ref sig .tc) (c : Dev nD) (h0 : ∀ w ∈ preParts_W, r ∉ w) (h1 : r ∉ scanTest_W) (h2 : ∀ w ∈ stepParts_W, r ∉ w)
    (h3 : r ∉ stepNext_W) (h4 : ∀ w ∈ midParts_W, r ∉ w) (h5 : r ∉ roundTest_W) (h6 : r ∉ round_W)
    (h7 : ∀ w ∈ postParts_W, r ∉ w) : V5 m c (Proc.devRef .tc r) = m ((c : Thread nD τ).loc r) :=
  (keep r postParts (V4 m c) rfl h7).trans <| (after_of_writes_sub roundTest _ roundTest_writes h5).trans <| (rounds_keep m r h5 h6 c 100).trans <|
    (keep r midParts (V2 m c) rfl h4).trans <| (after_of_writes_sub scanTest _ scanTest_writes h1).trans <| (scan_keep m r h1 h2 h3 c 256).trans <|
    keep r preParts (launchContents m c) rfl h0

/-! ## The two counters -/

theorem scan_entry (c : Dev nD) : V1 m c (Proc.devRef .tc main_v2_0) = fun _ => (0#32 : BitVec 32) := by
  simp only [V1, afterL_cons, afterL_nil]
  after_reads_simp
  rfl

theorem scan_step (X : Valuation τ sig (Elt F)) :
    after stepNext X (Proc.devRef .tc main_v2_0) = addi (X (Proc.devRef .tc main_v2_0)) (constantI S_ 32 1#32) := by
  after_results
  rfl

/-- The scan's counter before step `k`. -/
theorem scan_counter (c : Dev nD) : ∀ k, scanAt m k c (Proc.devRef .tc main_v2_0) = fun _ => Scf.iv 0#32 1#32 k
  | 0 => by rw [show scanAt m 0 c = V1 m c from rfl, scan_entry, Scf.iv_zero]
  | k + 1 => by
    rw [show scanAt m (k + 1) c = after stepNext (afterL (stepParts.map Part.ops) (after scanTest (scanAt m k c))) from rfl, scan_step,
      keep main_v2_0 stepParts _ (Ws := stepParts_W) rfl (by decide +kernel),
      after_of_writes_sub scanTest _ scanTest_writes (by decide +kernel), scan_counter c k, Scf.iv_succ]
    rfl

theorem rounds_entry (V : Valuation τ sig (Elt F)) : afterL midOps V (Proc.devRef .tc main_v36_1) = fun _ => (0#32 : BitVec 32) := by
  show after labels0 (after links (afterL [gaps, gapDist, polar, cluster] V)) (Proc.devRef .tc main_v36_1) = _
  generalize afterL [gaps, gapDist, polar, cluster] V = W
  rw [← after_append]
  show after (links ++ labels0) W (Proc.devRef .tc main_v36_1) = _
  simp only [List.cons_append, List.nil_append]
  after_results
  rfl

theorem round_step (X : Valuation τ sig (Elt F)) :
    after round X (Proc.devRef .tc main_v36_1) = addi (X (Proc.devRef .tc main_v36_1)) (constantI S_ 32 1#32) := by
  after_results
  rfl

/-- The rounds' counter before round `k`. -/
theorem round_counter (c : Dev nD) : ∀ k, roundAt m k c (Proc.devRef .tc main_v36_1) = fun _ => Scf.iv 0#32 1#32 k
  | 0 => (rounds_entry (V2 m c)).trans (by rw [Scf.iv_zero])
  | k + 1 => by
    rw [show roundAt m (k + 1) c = after round (after roundTest (roundAt m k c)) from rfl, round_step,
      after_of_writes_sub roundTest _ roundTest_writes (by decide +kernel), round_counter c k, Scf.iv_succ]
    rfl

/-! ## The two tests -/

set_option backward.isDefEq.respectTransparency.types false in
theorem scan_test : CondSpec (pcfgs (F := F)) defs₀ loops (main_while0_cond (F := F)) scanTest scanBody (V1 m) 256 := by
  intro k hk c bd
  have hv := scan_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (scanAt m k c) main_v2_0 HostLoop.idx0) (HloOp.result _ (scanAt m k c) main_while0c_c_27 HostLoop.idx0) = 1#1) (k < 256)
    rw [nullary_result_ne _ _ _ _ (by decide), nullary_result, hv]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option backward.isDefEq.respectTransparency.types false in
theorem round_test : CondSpec (pcfgs (F := F)) defs₀ loops (main_while1_cond (F := F)) roundTest roundBody (V3 m) 100 := by
  intro k hk c bd
  have hv := round_counter m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (roundAt m k c) main_v36_1 HostLoop.idx0) (HloOp.result _ (roundAt m k c) main_while1c_c_26 HostLoop.idx0) = 1#1) (k < 100)
    rw [nullary_result_ne _ _ _ _ (by decide), nullary_result, hv]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

/-! ## The run -/

section Kit

local notation "𝕄" => MT nD τ sig Unit (Elt F) ℕ (Option PUnit) ℕ

/-- Nothing is admitted: there is no kernel. -/
abbrev none0 : (p : Fin 0) → ((pcfgs (F := F)) p).Adm := fun p => p.elim0
abbrev noTicket : Fin 0 → Ticket (Ix := Unit) (Name := ℕ) (U := Option PUnit) (Lvl := ℕ) (nD := nD) (τ := τ) (pcfgs (F := F)) none0 := fun j => j.elim0
abbrev noSem : GSem nD τ sig → Finset Unit := fun _ => ∅
abbrev level0 : GSem nD τ sig → Unit → ℕ := fun _ _ => 0

/-- What rides along: the core's empty debts. -/
abbrev debts (c : Dev nD) : sProp 𝕄 := iprop(∃ W, owes (c : Thread nD τ) (0 : CellTallies nD τ sig Unit) W)

/-- The buffers at `V` with the debts. -/
abbrev bufs (V : Dev nD → Valuation τ sig (Elt F)) (c : Dev nD) : sProp 𝕄 :=
  iprop(held (c : Thread nD τ) (ucRefs τ sig) (V c) ∗ debts c)

/-- A test that touches buffers only carries the debts along. -/
theorem test_debts {cond : Prog (TpuEff nD τ sig (Elt F) (HostLoop.Sig (Pipeline.Sig Λ₀ (Fin 0) fun p => (pcfgs (F := F) p).Adm) 2) .tc) (Elt F .i1)}
    {ops : List (HloOp τ sig (Elt F))} {body : List (List (HloOp τ sig (Elt F)))} {W : Dev nD → Valuation τ sig (Elt F)} {n : ℕ}
    (h : CondSpec (pcfgs (F := F)) defs₀ loops cond ops body W n) :
    LoopCond (pcfgs (F := F)) defs₀ Variants.none loops (debts (F := F)) cond ops body W n := fun k hk c bd => by
  have out : ∀ v : Elt F .i1,
      iprop(iprop(⌜v = 1#1 ↔ k < n⌝ ∗ boundary (c : Thread nD τ) ∗ held (c : Thread nD τ) (ucRefs τ sig) (after ops (atTrip ops body W k c))) ∗ debts c)
        ⊢ iprop(⌜v = 1#1 ↔ k < n⌝ ∗ boundary (c : Thread nD τ) ∗ held (c : Thread nD τ) (ucRefs τ sig) (after ops (atTrip ops body W k c)) ∗ debts c) := fun v => by
    iintro ⟨⟨%hv, Hb, Hh⟩, Hd⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ out))
  iintro ⟨Hb, Hh, Hd⟩
  isplitl [Hb Hh]; · isplitl [Hb] <;> iassumption
  iexact Hd

/-- Operations as segments from the buffers at `V`. -/
abbrev stretch (items : List (List (HloOp τ sig (Elt F)))) (h : Plain items) (V : Dev nD → Valuation τ sig (Elt F)) :
    List (CSeg (pcfgs (F := F)) none0 defs₀ Variants.none noSem level0 loops noTicket) :=
  segsOf _ _ _ _ _ _ _ _ (debts (F := F)) items h V

/-- The scan, then the rounds, each as one segment. -/
abbrev scanSeg : CSeg (pcfgs (F := F)) none0 defs₀ Variants.none noSem level0 loops noTicket :=
  loopSeg _ _ _ _ _ _ _ _ 0 main_while0_cond main_while0_body rfl scanTest scanBody scanBody_plain scan_chain 256 (V1 m) (debts (F := F))
    (test_debts (scan_test m))

abbrev roundSeg : CSeg (pcfgs (F := F)) none0 defs₀ Variants.none noSem level0 loops noTicket :=
  loopSeg _ _ _ _ _ _ _ _ 1 main_while1_cond main_while1_body rfl roundTest roundBody roundBody_plain round_chain 100 (V3 m) (debts (F := F))
    (test_debts (round_test m))

/-- The whole program's segments. -/
def segs : List (CSeg (pcfgs (F := F)) none0 defs₀ Variants.none noSem level0 loops noTicket) :=
  stretch scanPre scanPre_plain (launchContents m) ++ scanSeg m :: (stretch midOps midOps_plain (V2 m) ++ roundSeg m :: stretch postOps postOps_plain (V4 m))

theorem segs_prog (c : Dev nD) : Pipeline.chain ((segs m).map CSeg.prog) = main (F := F) c := by
  rw [main_chain]
  unfold segs
  rw [List.map_append, List.map_cons, List.map_append, List.map_cons, segsOf_prog, segsOf_prog, segsOf_prog]
  rfl

theorem segs_chains : CSeg.Chains (bufs (launchContents m)) (segs m) (bufs (V5 m)) := by
  unfold segs
  exact CSeg.Chains.append (segsOf_chains _ _ _ _ _ _ _ _ (debts (F := F)) scanPre scanPre_plain _) ⟨fun _ => .rfl,
    CSeg.Chains.append (segsOf_chains _ _ _ _ _ _ _ _ (debts (F := F)) midOps midOps_plain _) ⟨fun _ => .rfl,
      segsOf_chains _ _ _ _ _ _ _ _ (debts (F := F)) postOps postOps_plain _⟩⟩

/-- Every execution ends with every buffer as the fold of the operations leaves it. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = V5 m c (Proc.devRef .tc b)) :=
  Pipeline.θ_run_regions_loop_kit (Ix := Unit) (Name := ℕ) (U := Option PUnit) (Lvl := ℕ) (J := Fin 0) (P := Fin 0) (Val := Elt F)
    (pcfgs (F := F)) none0 (fun k => k.1.elim0) defs₀ Variants.none noSem level0 loops noTicket m ρ main (segs m)
    (fun c Q => by
      rw [← segs_prog m c]
      generalize segs m = l
      exact BIBase.Entails.rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := bufs (launchContents m)) (Tₙ := fun c => iprop(held (c : Thread nD τ) (ucRefs τ sig) (V5 m c)))
    (hch := segs_chains m)
    (hinit := by
      refine Pipeline.initEach noSem level0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = V5 m c b)
    (hfin := fun c s' => by
      unfold held
      iintro ⟨Hh, HSI⟩
      ihave Hr := (pointsTo_read_all (ucRefs τ sig) (fun b => ((c : Dev nD), b)) (fun b => V5 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Kit

/-- The arguments are kept. -/
theorem args_kept (r : Ref sig .tc) (hr : r ∈ [main_arg0, main_arg1, main_arg2, main_arg3, main_arg4, main_arg5, main_arg6, main_arg7, main_arg8])
    (c : Dev nD) : V5 m c (Proc.devRef .tc r) = m ((c : Thread nD τ).loc r) := by
  simp only [List.mem_cons, List.not_mem_nil, or_false] at hr
  rcases hr with rfl | rfl | rfl | rfl | rfl | rfl | rfl | rfl | rfl <;>
  exact all_keep m _ c (by decide +kernel) (by decide +kernel)
    (by decide +kernel) (by decide +kernel)
    (by decide +kernel) (by decide +kernel) (by decide +kernel)
    (by decide +kernel)

/-- The run's end: the arguments kept, every counter zero, and the four results at the fold. -/
theorem ends : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ (r.2.sem = fun _ => 0) ∧ ∀ c : Dev nD,
        r.2.mem ((c.tc : Thread nD τ).loc main_v87) = V5 m c (Proc.devRef .tc main_v87)
        ∧ r.2.mem ((c.tc : Thread nD τ).loc main_v89) = V5 m c (Proc.devRef .tc main_v89)
        ∧ r.2.mem ((c.tc : Thread nD τ).loc main_v91) = V5 m c (Proc.devRef .tc main_v91)
        ∧ r.2.mem ((c.tc : Thread nD τ).loc main_v85) = V5 m c (Proc.devRef .tc main_v85)) :=
  (θ_run _ _ _).mono (fun r h => ⟨fun c => ⟨(h c _ rfl).trans (args_kept m main_arg0 (by simp) c), (h c _ rfl).trans (args_kept m main_arg1 (by simp) c), (h c _ rfl).trans (args_kept m main_arg2 (by simp) c), (h c _ rfl).trans (args_kept m main_arg3 (by simp) c), (h c _ rfl).trans (args_kept m main_arg4 (by simp) c), (h c _ rfl).trans (args_kept m main_arg5 (by simp) c), (h c _ rfl).trans (args_kept m main_arg6 (by simp) c), (h c _ rfl).trans (args_kept m main_arg7 (by simp) c), (h c _ rfl).trans (args_kept m main_arg8 (by simp) c)⟩,
    sem_eq_zero_of_no_sems rfl _, fun c => ⟨h c _ rfl, h c _ rfl, h c _ rfl, h c _ rfl⟩⟩) (run m ρ)

end Cert.Proof.RefRun

end
-- ==== Proof.Flock.lean ====
/-
  The flock as plain mathematics: what one step of the simulation makes of the positions and velocities of the agents
  of any finite set.
-/
module

public import Idealize.ShloMosaic.Lib.Pointwise
public import Mathlib.Algebra.BigOperators.Fin

@[expose] public section

noncomputable section

namespace Cert.Proof.Flock

open Idealize.ShloMosaic

/-- The radius within which agents see each other, and the greatest speed. -/
def rad : EReal := Ideal.ofBits .f32 0x3DCCCCCD#32
/-- The least divisor of the speed limit's factor. -/
def tiny : EReal := Ideal.ofBits .f32 0x2B8CBCCC#32
/-- The number of agents, and of steps of time in a unit, as floats. -/
def hundred : EReal := Ideal.ofBits .f32 0x42C80000#32
/-- The step of time. -/
def dt : EReal := ((1 / 100 : ℝ) : EReal)

open Classical in
/-- A root that is zero at and below zero. -/
def root (q : EReal) : EReal := if 0 < q then Ideal.sqrt q else 0

/-- Two agents at squared distance `q` are neighbours: apart, and within the radius. -/
def Near (q : EReal) : Prop := root q < rad ∧ 0 < root q

open Classical in
/-- One for neighbours, zero for others. -/
def mask (q : EReal) : EReal := if Near q then 1 else 0

open Classical in
/-- The strength with which neighbours push each other away. -/
def force (q : EReal) : EReal := if Near q then Ideal.div 1 q else 0

/-- The squared length of a vector. -/
def len2 (x y : EReal) : EReal := x * x + y * y

/-- Positions and velocities. -/
structure State (ι : Type) where
  x : ι → EReal
  y : ι → EReal
  vx : ι → EReal
  vy : ι → EReal

variable {ι : Type} [Fintype ι]

/-- The squared distance of two agents. -/
def State.gap (s : State ι) (i j : ι) : EReal := len2 (s.x i - s.x j) (s.y i - s.y j)

open Classical in
/-- The pull of agent `i` towards its neighbours' average of `f`. -/
def pull (m : ι → ι → EReal) (f : ι → EReal) (i : ι) : EReal :=
  if 0 < ∑ j, m i j then Ideal.div (∑ j, m i j * f j) (max (∑ j, m i j) 1) - f i else 0

/-- The push away from neighbours, along one axis. -/
def push (w : ι → ι → EReal) (f : ι → EReal) (i : ι) : EReal := ∑ j, (f i - f j) * w i j

/-- The velocities before the limit on speed. -/
def State.wx (s : State ι) (i : ι) : EReal :=
  s.vx i + (pull (fun i j => mask (s.gap i j)) s.vx i + pull (fun i j => mask (s.gap i j)) s.x i
    + push (fun i j => force (s.gap i j)) s.x i) * dt
def State.wy (s : State ι) (i : ι) : EReal :=
  s.vy i + (pull (fun i j => mask (s.gap i j)) s.vy i + pull (fun i j => mask (s.gap i j)) s.y i
    + push (fun i j => force (s.gap i j)) s.y i) * dt

open Classical in
/-- The limit on speed: a component `v` of a velocity of squared speed `q`. -/
def cap (q v : EReal) : EReal := if rad < root q then v * Ideal.div rad (max (root q) tiny) else v

/-- One step. -/
def State.next (s : State ι) : State ι where
  x i := s.x i + cap (len2 (s.wx i) (s.wy i)) (s.wx i) * dt
  y i := s.y i + cap (len2 (s.wx i) (s.wy i)) (s.wy i) * dt
  vx i := cap (len2 (s.wx i) (s.wy i)) (s.wx i)
  vy i := cap (len2 (s.wx i) (s.wy i)) (s.wy i)

/-- The state after `k` steps. -/
def State.after (s : State ι) : ℕ → State ι
  | 0 => s
  | k + 1 => (s.after k).next

/-! ## The scalar forms the programs leave -/

/-- The mask's bits. -/
theorem near_bits (q : EReal) : IntOp.andi (BitVec.ofBool (decide (root q < rad))) (BitVec.ofBool (decide (0 < root q))) = 1#1 ↔ Near q := by
  unfold Near
  by_cases h : root q < rad <;> by_cases h' : 0 < root q <;> simp [h, h', IntOp.andi]

theorem pos_of_near {q : EReal} (h : Near q) : 0 < q := by
  by_contra hq
  have := h.2
  unfold root at this
  rw [if_neg hq] at this
  exact lt_irrefl _ this

theorem force_eq (q : EReal) :
    Scalar.select (IntOp.andi (BitVec.ofBool (decide (root q < rad))) (BitVec.ofBool (decide (0 < root q)))) (Ideal.div 1 (if 0 < q then q else 1)) 0
      = force q := by
  unfold Scalar.select force
  by_cases h : Near q
  · rw [if_pos (show _ = (1 : BitVec 1) from (near_bits q).2 h), if_pos h, if_pos (pos_of_near h)]
  · rw [if_neg (fun e : _ = (1 : BitVec 1) => h ((near_bits q).1 e)), if_neg h]

end Cert.Proof.Flock

end
-- ==== Proof.KStep.lean ====
/-
  One step of the kernel's simulation, read at one agent: the plain mathematics of `Flock` on all 128 of the kernel's
  agents, where the positions are finite.
-/
module

public import proofs.«01_k».proof.Proof.Body
public import proofs.«01_k».proof.Proof.Flock

@[expose] public section

set_option maxRecDepth 16384

noncomputable section

namespace Cert.Proof.KStep

open Cert.KernelIdeal Cert.KernelIdeal.Gen
open Idealize.ShloMosaic Cert.Proof.Flock

/-! ## The scalar forms the operations leave -/

/-- A guarded root, as the programs write it. -/
theorem root_eq (q : EReal) : (if 0 < q then Ideal.sqrt (if 0 < q then q else 1) else 0) = root q := by
  unfold root; by_cases h : 0 < q <;> simp [h]

/-- A bit widened and converted. -/
theorem bit_float (b : BitVec 1) : FloatOps.sitofp (F := Ideal) .f32 (BitVec.setWidth 32 b) = if b = 1#1 then (1 : EReal) else 0 := by
  have : ∀ b : BitVec 1, b = 0#1 ∨ b = 1#1 := by decide
  rcases this b with rfl | rfl
  · show (((BitVec.setWidth 32 0#1).toInt : ℝ) : EReal) = _
    simp
  · show (((BitVec.setWidth 32 1#1).toInt : ℝ) : EReal) = _
    simp [BitVec.toInt]

theorem dt_eq : Named.named (F := Ideal) Cert.KernelIdeal.κ "dt" (φ := .f32) 0x3C23D70A#32 = dt := rfl

theorem mask_apply (px py : FVec Ideal S128x1 .f32) (pxr pyr : FVec Ideal S1x128 .f32) (i j : Fin 128) :
    k0_pay2 px py pxr pyr (ix2 i j) = mask (len2 (px (ix2 i 0) - pxr (ix2 0 j)) (py (ix2 i 0) - pyr (ix2 0 j))) := by
  pointwise [k0_pay2]
  rw [bit_float]
  simp only [root_eq]
  unfold mask
  classical
  exact if_congr (near_bits (len2 (px (ix2 i 0) - pxr (ix2 0 j)) (py (ix2 i 0) - pyr (ix2 0 j)))) rfl rfl

/-! ## The tree of sums -/

/-- Eight numbers added in pairs. -/
def leaf (a b c d e f g h : EReal) : EReal := a + b + (c + d) + (e + f + (g + h))

/-- The kernel's order of adding 128 numbers. -/
def tree (g : Fin 128 → EReal) : EReal :=
  leaf (g 0) (g 16) (g 32) (g 48) (g 64) (g 80) (g 96) (g 112)
    + leaf (g 1) (g 17) (g 33) (g 49) (g 65) (g 81) (g 97) (g 113)
    + leaf (g 2) (g 18) (g 34) (g 50) (g 66) (g 82) (g 98) (g 114)
    + leaf (g 3) (g 19) (g 35) (g 51) (g 67) (g 83) (g 99) (g 115)
    + leaf (g 4) (g 20) (g 36) (g 52) (g 68) (g 84) (g 100) (g 116)
    + leaf (g 5) (g 21) (g 37) (g 53) (g 69) (g 85) (g 101) (g 117)
    + leaf (g 6) (g 22) (g 38) (g 54) (g 70) (g 86) (g 102) (g 118)
    + leaf (g 7) (g 23) (g 39) (g 55) (g 71) (g 87) (g 103) (g 119)
    + leaf (g 8) (g 24) (g 40) (g 56) (g 72) (g 88) (g 104) (g 120)
    + leaf (g 9) (g 25) (g 41) (g 57) (g 73) (g 89) (g 105) (g 121)
    + leaf (g 10) (g 26) (g 42) (g 58) (g 74) (g 90) (g 106) (g 122)
    + leaf (g 11) (g 27) (g 43) (g 59) (g 75) (g 91) (g 107) (g 123)
    + leaf (g 12) (g 28) (g 44) (g 60) (g 76) (g 92) (g 108) (g 124)
    + leaf (g 13) (g 29) (g 45) (g 61) (g 77) (g 93) (g 109) (g 125)
    + leaf (g 14) (g 30) (g 46) (g 62) (g 78) (g 94) (g 110) (g 126)
    + leaf (g 15) (g 31) (g 47) (g 63) (g 79) (g 95) (g 111) (g 127)

theorem tree_sum (g : Fin 128 → EReal) : tree g = ∑ u, g u := by
  have e : ∑ u, g u = ∑ t : Fin 16, ∑ b : Fin 8, g (finProdFinEquiv (m := 8) (n := 16) (b, t)) := by
    rw [← (finProdFinEquiv (m := 8) (n := 16)).sum_comp g, Fintype.sum_prod_type, Finset.sum_comm]
  have l : ∀ t : Fin 16, ∑ b : Fin 8, g (finProdFinEquiv (m := 8) (n := 16) (b, t))
      = leaf (g (finProdFinEquiv (m := 8) (n := 16) (0, t))) (g (finProdFinEquiv (m := 8) (n := 16) (1, t)))
          (g (finProdFinEquiv (m := 8) (n := 16) (2, t))) (g (finProdFinEquiv (m := 8) (n := 16) (3, t)))
          (g (finProdFinEquiv (m := 8) (n := 16) (4, t))) (g (finProdFinEquiv (m := 8) (n := 16) (5, t)))
          (g (finProdFinEquiv (m := 8) (n := 16) (6, t))) (g (finProdFinEquiv (m := 8) (n := 16) (7, t))) := by
    intro t
    rw [Fin.sum_univ_eight, leaf]
    simp only [add_assoc]
  rw [e, Finset.sum_congr rfl fun t _ => l t]
  simp only [Fin.sum_univ_castSucc, Fin.sum_univ_zero, zero_add]
  rfl

theorem pushX_apply (v166 : FVec Ideal S128x128 .f32) (v184 : IVec S128x128 1) (v188 : FVec Ideal S128x128 .f32) (j : Fin 128) :
    k0_pay19 v166 v184 v188 (ix2 0 j) = ∑ u : Fin 128, (0 - v166 (ix2 u j) * k0_pay18 v184 v188 (ix2 u j)) := by
  pointwise [k0_pay19]
  exact tree_sum (fun u => 0 - v166 (ix2 u j) * k0_pay18 v184 v188 (ix2 u j))

theorem rows_zero (v239 : FVec Ideal S1x128 .f32) (v242 : FVec Ideal S128x128 .f32) (v245 : FVec Ideal S16x128 .f32) (j : Fin 128) :
    k0_pay22 v239 v242 v245 (ix2 j 0) = v239 (ix2 0 j) := by
  pointwise [k0_pay22]

theorem first_sums (v169 : FVec Ideal S128x128 .f32) (v184 : IVec S128x128 1) (v188 : FVec Ideal S128x128 .f32) (t : Fin 16) (j : Fin 128) :
    k0_pay21 v169 v184 v188 (ix2 t j)
      = k0_pay20 v169 v184 v188 (ix2 ⟨t.val, by omega⟩ j) + k0_pay20 v169 v184 v188 (ix2 ⟨16 + t.val, by omega⟩ j) := by
  pointwise [k0_pay21]

theorem rows_one_of (v239 : FVec Ideal S1x128 .f32) (v242 : FVec Ideal S128x128 .f32) (v245 : FVec Ideal S16x128 .f32) (j : Fin 128)
    (h : ∀ t : Fin 16, v245 (ix2 t j) = v242 (ix2 ⟨t.val, by omega⟩ j) + v242 (ix2 ⟨16 + t.val, by omega⟩ j)) :
    k0_pay22 v239 v242 v245 (ix2 j 1) = ∑ u : Fin 128, v242 (ix2 u j) := by
  pointwise [k0_pay22]
  rw [h 0, h 1, h 2, h 3, h 4, h 5, h 6, h 7, h 8, h 9, h 10, h 11, h 12, h 13, h 14, h 15]
  exact tree_sum fun u => v242 (ix2 u j)

theorem rows_one (v169 : FVec Ideal S128x128 .f32) (v184 : IVec S128x128 1) (v188 : FVec Ideal S128x128 .f32)
    (v239 : FVec Ideal S1x128 .f32) (j : Fin 128) :
    k0_pay22 v239 (k0_pay20 v169 v184 v188) (k0_pay21 v169 v184 v188) (ix2 j 1)
      = ∑ u : Fin 128, (0 - v169 (ix2 u j) * k0_pay18 v184 v188 (ix2 u j)) := by
  rw [rows_one_of _ _ _ j fun t => first_sums v169 v184 v188 t j]
  refine Finset.sum_congr rfl fun u _ => ?_
  pointwise [k0_pay20]

/-! ## The permuted agents -/

/-- The order in which the kernel takes the agents to add the pushes. -/
def shuffle (u : Fin 128) : Fin 128 := ⟨8 * (u.val % 16) + u.val / 16, by omega⟩

theorem shuffle_bijective : Function.Bijective shuffle := by
  rw [Fintype.bijective_iff_injective_and_card]
  refine ⟨fun a b h => ?_, rfl⟩
  have := congrArg Fin.val h
  simp only [shuffle] at this
  apply Fin.ext; omega

/-- The 0/1 matrix of that order. -/
def Shuffles (v0 : Vec Ideal S128x128 .f32) : Prop := ∀ u k : Fin 128, v0 (ix2 u k) = if k = shuffle u then (1 : EReal) else 0

/-- A finite value. -/
def Fin_ (x : EReal) : Prop := ∃ r : ℝ, x = r

theorem sub_self_of {x : EReal} (h : Fin_ x) : x - x = 0 := by
  obtain ⟨r, rfl⟩ := h
  rw [← EReal.coe_sub, sub_self, EReal.coe_zero]

theorem neg_sub_of {x y : EReal} (hx : Fin_ x) (hy : Fin_ y) : -(x - y) = y - x := by
  obtain ⟨r, rfl⟩ := hx; obtain ⟨t, rfl⟩ := hy
  rw [← EReal.coe_sub, ← EReal.coe_sub, ← EReal.coe_neg, neg_sub]

theorem shuffle_sum (v0 : Vec Ideal S128x128 .f32) (h0 : Shuffles v0) (f : Fin 128 → EReal) (u : Fin 128) :
    ∑ k, v0 (ix2 u k) * f k = f (shuffle u) := by
  simp only [h0 u, ite_mul, one_mul, zero_mul, Finset.sum_ite_eq', Finset.mem_univ, if_true]

theorem dx_apply (v0 : Vec Ideal S128x128 .f32) (h0 : Shuffles v0) (px py : FVec Ideal S128x1 .f32) (pxr : FVec Ideal S1x128 .f32)
    (hx : ∀ i, Fin_ (px (ix2 i 0))) (u j : Fin 128) :
    k0_pay12 v0 px py pxr (ix2 u j) = px (ix2 (shuffle u) 0) - pxr (ix2 0 j) := by
  pointwise [k0_pay12, k0_pay11]
  simp only [sub_self_of (hx _), sub_zero, mul_zero, Finset.sum_const_zero, add_zero]
  rw [shuffle_sum v0 h0 fun k => px (ix2 k 0)]

theorem dy_apply (v0 : Vec Ideal S128x128 .f32) (h0 : Shuffles v0) (px py : FVec Ideal S128x1 .f32) (pyr : FVec Ideal S1x128 .f32)
    (hy : ∀ i, Fin_ (py (ix2 i 0))) (u j : Fin 128) :
    k0_pay13 v0 px py pyr (ix2 u j) = py (ix2 (shuffle u) 0) - pyr (ix2 0 j) := by
  pointwise [k0_pay13, k0_pay11]
  simp only [sub_self_of (hy _), sub_zero, mul_zero, Finset.sum_const_zero, add_zero]
  rw [shuffle_sum v0 h0 fun k => py (ix2 k 0)]

theorem force_apply (v0 : Vec Ideal S128x128 .f32) (px py : FVec Ideal S128x1 .f32) (pxr pyr : FVec Ideal S1x128 .f32) (u j : Fin 128) :
    k0_pay18 (k0_pay16 v0 px py pxr pyr) (k0_pay17 v0 px py pxr pyr) (ix2 u j)
      = force (len2 (k0_pay12 v0 px py pxr (ix2 u j)) (k0_pay13 v0 px py pyr (ix2 u j))) := by
  pointwise [k0_pay18, k0_pay16, k0_pay17, k0_pay15, k0_pay14]
  simp only [root_eq]
  exact force_eq (len2 (k0_pay12 v0 px py pxr (ix2 u j)) (k0_pay13 v0 px py pyr (ix2 u j)))

/-- The kernel's carried state holds a state of the flock. -/
structure Holds (s : Body.St Ideal) (f : State (Fin 128)) : Prop where
  x : ∀ i, s.1 (ix2 i 0) = f.x i
  y : ∀ i, s.2.1 (ix2 i 0) = f.y i
  vx : ∀ i, s.2.2.1 (ix2 i 0) = f.vx i
  vy : ∀ i, s.2.2.2.1 (ix2 i 0) = f.vy i
  rx : ∀ i, s.2.2.2.2.1 (ix2 0 i) = f.x i
  ry : ∀ i, s.2.2.2.2.2 (ix2 0 i) = f.y i

theorem pull_vx_apply (px py vx vy : FVec Ideal S128x1 .f32) (pxr pyr : FVec Ideal S1x128 .f32) (i : Fin 128) :
    k0_pay6 px py vx vy pxr pyr (ix2 i 0) = pull (fun i j => k0_pay2 px py pxr pyr (ix2 i j)) (fun k => vx (ix2 k 0)) i := by
  pointwise [k0_pay6, k0_pay5, k0_pay3, k0_pay4]
  rfl

theorem pull_vy_apply (px py vx vy : FVec Ideal S128x1 .f32) (pxr pyr : FVec Ideal S1x128 .f32) (i : Fin 128) :
    k0_pay7 px py vx vy pxr pyr (ix2 i 0) = pull (fun i j => k0_pay2 px py pxr pyr (ix2 i j)) (fun k => vy (ix2 k 0)) i := by
  pointwise [k0_pay7, k0_pay5, k0_pay3, k0_pay4]
  rfl

theorem pull_x_apply (px py vx vy : FVec Ideal S128x1 .f32) (pxr pyr : FVec Ideal S1x128 .f32) (i : Fin 128) :
    k0_pay8 px py vx vy pxr pyr (ix2 i 0) = pull (fun i j => k0_pay2 px py pxr pyr (ix2 i j)) (fun k => px (ix2 k 0)) i := by
  pointwise [k0_pay8, k0_pay5, k0_pay3, k0_pay4]
  rfl

theorem pull_y_apply (px py vx vy : FVec Ideal S128x1 .f32) (pxr pyr : FVec Ideal S1x128 .f32) (i : Fin 128) :
    k0_pay10 (k0_pay5 px py pxr pyr) (k0_pay9 px py vx vy pxr pyr) (ix2 i 0)
      = pull (fun i j => k0_pay2 px py pxr pyr (ix2 i j)) (fun k => py (ix2 k 0)) i := by
  pointwise [k0_pay10, k0_pay9, k0_pay5, k0_pay3, k0_pay4]
  rfl

theorem speed_apply (v302 v303 : FVec Ideal S128x1 .f32) (i : Fin 128) :
    k0_pay101 v302 v303 (ix2 i 0) = root (v303 (ix2 i 0) + v302 (ix2 i 0) * v302 (ix2 i 0)) := by
  pointwise [k0_pay101]
  exact root_eq (v303 (ix2 i 0) + v302 (ix2 i 0) * v302 (ix2 i 0))

theorem cap_x_apply (v299 v302 v303 : FVec Ideal S128x1 .f32) (i : Fin 128) :
    k0_pay104 v299 v302 v303 (ix2 i 0) = cap (v303 (ix2 i 0) + v302 (ix2 i 0) * v302 (ix2 i 0)) (v299 (ix2 i 0)) := by
  pointwise [k0_pay104, k0_pay102, k0_pay103]
  rw [speed_apply]
  rfl

theorem cap_y_apply (v302 v303 : FVec Ideal S128x1 .f32) (i : Fin 128) :
    k0_pay105 v302 v303 (ix2 i 0) = cap (v303 (ix2 i 0) + v302 (ix2 i 0) * v302 (ix2 i 0)) (v302 (ix2 i 0)) := by
  pointwise [k0_pay105, k0_pay102, k0_pay103]
  rw [speed_apply]
  rfl

theorem move_x_apply (px v299 v302 v303 : FVec Ideal S128x1 .f32) (i : Fin 128) :
    k0_pay106 px v299 v302 v303 (ix2 i 0) = px (ix2 i 0) + k0_pay104 v299 v302 v303 (ix2 i 0) * dt := by
  pointwise [k0_pay106]
  rfl

theorem move_y_apply (py v302 v303 : FVec Ideal S128x1 .f32) (i : Fin 128) :
    k0_pay107 py v302 v303 (ix2 i 0) = py (ix2 i 0) + k0_pay105 v302 v303 (ix2 i 0) * dt := by
  pointwise [k0_pay107]
  rfl

theorem row_x_apply (px py v299 v302 v303 : FVec Ideal S128x1 .f32) (i : Fin 128) :
    k0_pay109 px py v299 v302 v303 (ix2 0 i) = k0_pay106 px v299 v302 v303 (ix2 i 0) := by
  pointwise [k0_pay109, k0_pay108]

theorem row_y_apply (px py v299 v302 v303 : FVec Ideal S128x1 .f32) (i : Fin 128) :
    k0_pay110 px py v299 v302 v303 (ix2 0 i) = k0_pay107 py v302 v303 (ix2 i 0) := by
  pointwise [k0_pay110, k0_pay108]

theorem store_x_apply (px py v299 v302 v303 : FVec Ideal S128x1 .f32) (i : Fin 128) :
    k0_pay111 px py v299 v302 v303 (ix2 0 i) = k0_pay106 px v299 v302 v303 (ix2 i 0) := by
  pointwise [k0_pay111, k0_pay109, k0_pay108]

theorem store_y_apply (px py v299 v302 v303 : FVec Ideal S128x1 .f32) (i : Fin 128) :
    k0_pay112 px py v299 v302 v303 (ix2 0 i) = k0_pay107 py v302 v303 (ix2 i 0) := by
  pointwise [k0_pay112, k0_pay110, k0_pay108]

theorem wx_apply (vx v127 v135 : FVec Ideal S128x1 .f32) (v239 : FVec Ideal S1x128 .f32) (v242 : FVec Ideal S128x128 .f32)
    (v245 : FVec Ideal S16x128 .f32) (i : Fin 128) :
    k0_pay23 vx v127 v135 v239 v242 v245 (ix2 i 0)
      = vx (ix2 i 0) + (v127 (ix2 i 0) + v135 (ix2 i 0) + k0_pay22 v239 v242 v245 (ix2 i 0)) * dt := by
  pointwise [k0_pay23]
  rfl

theorem wy_apply (vy v131 v139 : FVec Ideal S128x1 .f32) (v239 : FVec Ideal S1x128 .f32) (v242 : FVec Ideal S128x128 .f32)
    (v245 : FVec Ideal S16x128 .f32) (i : Fin 128) :
    k0_pay24 vy v131 v139 v239 v242 v245 (ix2 i 0)
      = vy (ix2 i 0) + (v131 (ix2 i 0) + v139 (ix2 i 0) + k0_pay22 v239 v242 v245 (ix2 i 1)) * dt := by
  pointwise [k0_pay24]
  rfl

theorem sq_apply (vx v127 v135 : FVec Ideal S128x1 .f32) (v239 : FVec Ideal S1x128 .f32) (v242 : FVec Ideal S128x128 .f32)
    (v245 : FVec Ideal S16x128 .f32) (i : Fin 128) :
    k0_pay25 vx v127 v135 v239 v242 v245 (ix2 i 0)
      = k0_pay23 vx v127 v135 v239 v242 v245 (ix2 i 0) * k0_pay23 vx v127 v135 v239 v242 v245 (ix2 i 0) := by
  pointwise [k0_pay25]

/-- The kernel adds the pushes as seen from the other side, in its own order. -/
theorem push_sum (f : State (Fin 128)) (hx : ∀ i, Fin_ (f.x i)) (hy : ∀ i, Fin_ (f.y i)) (p : Fin 128 → EReal) (hp : ∀ i, Fin_ (p i)) (j : Fin 128) :
    ∑ u : Fin 128, (0 - (p (shuffle u) - p j) * force (len2 (f.x (shuffle u) - f.x j) (f.y (shuffle u) - f.y j)))
      = push (fun i j => force (f.gap i j)) p j := by
  unfold push
  rw [← shuffle_bijective.sum_comp fun k => (p j - p k) * force (f.gap j k)]
  refine Finset.sum_congr rfl fun u _ => ?_
  have e : len2 (f.x (shuffle u) - f.x j) (f.y (shuffle u) - f.y j) = f.gap j (shuffle u) := by
    unfold State.gap len2
    rw [← neg_sub_of (hx j) (hx _), ← neg_sub_of (hy j) (hy _), neg_mul_neg, neg_mul_neg]
  rw [e, zero_sub, ← neg_sub_of (hp _) (hp j), EReal.neg_mul]

theorem drift_holds (v0 : Vec Ideal S128x128 .f32) (h0 : Shuffles v0) (s : Body.St Ideal) (f : State (Fin 128)) (h : Holds s f)
    (hx : ∀ i, Fin_ (f.x i)) (hy : ∀ i, Fin_ (f.y i)) (i : Fin 128) :
    (Body.drift v0 s).1 (ix2 i 0) = f.wx i ∧ (Body.drift v0 s).2.1 (ix2 i 0) = f.wy i
      ∧ (Body.drift v0 s).2.2 (ix2 i 0) = f.wx i * f.wx i := by
  obtain ⟨px, py, vx, vy, pxr, pyr⟩ := s
  obtain ⟨ex, ey, evx, evy, erx, ery⟩ := h
  simp only at ex ey evx evy erx ery
  have em : ∀ i j, k0_pay2 px py pxr pyr (ix2 i j) = mask (f.gap i j) := fun i j => by
    rw [mask_apply, ex, ey, erx, ery]; rfl
  have fx : ∀ i, Fin_ (px (ix2 i 0)) := fun i => by rw [ex]; exact hx i
  have fy : ∀ i, Fin_ (py (ix2 i 0)) := fun i => by rw [ey]; exact hy i
  have edx : ∀ u j, k0_pay12 v0 px py pxr (ix2 u j) = f.x (shuffle u) - f.x j := fun u j => by
    rw [dx_apply v0 h0 px py pxr fx, ex, erx]
  have edy : ∀ u j, k0_pay13 v0 px py pyr (ix2 u j) = f.y (shuffle u) - f.y j := fun u j => by
    rw [dy_apply v0 h0 px py pyr fy, ey, ery]
  have ef : ∀ u j, k0_pay18 (k0_pay16 v0 px py pxr pyr) (k0_pay17 v0 px py pxr pyr) (ix2 u j)
      = force (len2 (f.x (shuffle u) - f.x j) (f.y (shuffle u) - f.y j)) := fun u j => by
    rw [force_apply, edx, edy]
  have ew : k0_pay23 vx (k0_pay6 px py vx vy pxr pyr) (k0_pay8 px py vx vy pxr pyr)
      (k0_pay19 (k0_pay12 v0 px py pxr) (k0_pay16 v0 px py pxr pyr) (k0_pay17 v0 px py pxr pyr))
      (k0_pay20 (k0_pay13 v0 px py pyr) (k0_pay16 v0 px py pxr pyr) (k0_pay17 v0 px py pxr pyr))
      (k0_pay21 (k0_pay13 v0 px py pyr) (k0_pay16 v0 px py pxr pyr) (k0_pay17 v0 px py pxr pyr)) (ix2 i 0) = f.wx i := by
    rw [wx_apply, rows_zero, pushX_apply, pull_vx_apply, pull_x_apply, evx]
    simp only [edx, ef, em, evx, ex]
    rw [push_sum f hx hy f.x hx]
    rfl
  refine ⟨ew, ?_, ?_⟩
  · show k0_pay24 vy (k0_pay7 px py vx vy pxr pyr) (k0_pay10 (k0_pay5 px py pxr pyr) (k0_pay9 px py vx vy pxr pyr))
      (k0_pay19 (k0_pay12 v0 px py pxr) (k0_pay16 v0 px py pxr pyr) (k0_pay17 v0 px py pxr pyr))
      (k0_pay20 (k0_pay13 v0 px py pyr) (k0_pay16 v0 px py pxr pyr) (k0_pay17 v0 px py pxr pyr))
      (k0_pay21 (k0_pay13 v0 px py pyr) (k0_pay16 v0 px py pxr pyr) (k0_pay17 v0 px py pxr pyr)) (ix2 i 0) = f.wy i
    rw [wy_apply, rows_one, pull_vy_apply, pull_y_apply, evy]
    simp only [edy, ef, em, evy, ey]
    rw [push_sum f hx hy f.y hy]
    rfl
  · show k0_pay25 _ _ _ _ _ _ (ix2 i 0) = _
    rw [sq_apply, ew]

/-- One step of the kernel is one step of the flock, and the rows it stores are the new positions. -/
theorem step_holds (v0 : Vec Ideal S128x128 .f32) (h0 : Shuffles v0) (s : Body.St Ideal) (f : State (Fin 128)) (h : Holds s f)
    (hx : ∀ i, Fin_ (f.x i)) (hy : ∀ i, Fin_ (f.y i)) :
    Holds (Body.step v0 s) f.next ∧ (∀ i, Body.rowX v0 s (ix2 0 i) = f.next.x i) ∧ ∀ i, Body.rowY v0 s (ix2 0 i) = f.next.y i := by
  have hd := drift_holds v0 h0 s f h hx hy
  obtain ⟨px, py, vx, vy, pxr, pyr⟩ := s
  obtain ⟨ex, ey, evx, evy, erx, ery⟩ := h
  simp only at ex ey evx evy erx ery
  generalize hD : Body.drift v0 (px, py, vx, vy, pxr, pyr) = D at hd
  obtain ⟨v299, v302, v303⟩ := D
  simp only at hd
  have cx : ∀ i, k0_pay104 v299 v302 v303 (ix2 i 0) = f.next.vx i := fun i => by
    rw [cap_x_apply, (hd i).1, (hd i).2.1, (hd i).2.2]; rfl
  have cy : ∀ i, k0_pay105 v302 v303 (ix2 i 0) = f.next.vy i := fun i => by
    rw [cap_y_apply, (hd i).2.1, (hd i).2.2]; rfl
  have mx : ∀ i, k0_pay106 px v299 v302 v303 (ix2 i 0) = f.next.x i := fun i => by
    rw [move_x_apply, ex, cx]; rfl
  have my : ∀ i, k0_pay107 py v302 v303 (ix2 i 0) = f.next.y i := fun i => by
    rw [move_y_apply, ey, cy]; rfl
  have e : Body.step v0 (px, py, vx, vy, pxr, pyr) = (k0_pay106 px v299 v302 v303, k0_pay107 py v302 v303,
      k0_pay104 v299 v302 v303, k0_pay105 v302 v303, k0_pay109 px py v299 v302 v303, k0_pay110 px py v299 v302 v303) := by
    unfold Body.step
    rw [hD]
  refine ⟨?_, fun i => ?_, fun i => ?_⟩
  · rw [e]
    exact ⟨mx, my, cx, cy, fun i => (row_x_apply px py v299 v302 v303 i).trans (mx i),
      fun i => (row_y_apply px py v299 v302 v303 i).trans (my i)⟩
  · unfold Body.rowX
    rw [hD]
    exact (store_x_apply px py v299 v302 v303 i).trans (mx i)
  · unfold Body.rowY
    rw [hD]
    exact (store_y_apply px py v299 v302 v303 i).trans (my i)

end Cert.Proof.KStep

end
-- ==== Proof.Table.lean ====
/-
  The kernel's table of 128 × 128 words: a one in each row, where the permutation sends it.
-/
module

public import proofs.«01_k».proof.KernelIdeal

@[expose] public section

set_option maxRecDepth 16384

noncomputable section

namespace Cert.Proof.Start

open Cert.KernelIdeal Idealize.ShloMosaic

theorem table (n : Fin 16384) : lit0 n = if n.val % 128 = 8 * (n.val / 128 % 16) + n.val / 128 / 16 then 0x3F800000#32 else 0x00000000#32 := by
  revert n
  decide +kernel

end Cert.Proof.Start

end
-- ==== Proof.RStep.lean ====
/-
  One step of the reference's scan, read at one agent: the plain mathematics of `Flock` on the 100 agents.
-/
module

public import proofs.«01_k».proof.Proof.RefRun
public import proofs.«01_k».proof.Proof.Flock
public import Idealize.ShloMosaic.Lib.WordCmp
public import Idealize.ShloMosaic.Lib.StableHlo.RunClose

@[expose] public section

set_option maxRecDepth 16384

noncomputable section

namespace Cert.Proof.RStep

open Idealize.ShloMosaic Idealize.ShloMosaic.TcCoe Idealize.ShloMosaic.StableHlo
open Cert.ReferenceIdeal Cert.ReferenceIdeal.Gen Cert.Proof.RefOps Cert.Proof.RefRun Cert.Proof.Flock

/-! ## The operations of a step, as functions -/

def diffOf (p : FVec Ideal S100x2 .f32) : FVec Ideal S100x100x2 .f32 :=
  subf (broadcastInDim S100x100x2 ![0, 1, 2] bcast_S100x1x2_S100x100x2_0_1_2 (broadcastInDim S100x1x2 ![0, 2] bcast_S100x2_S100x1x2_0_2 p))
    (broadcastInDim S100x100x2 ![0, 1, 2] bcast_S1x100x2_S100x100x2_0_1_2 (broadcastInDim S1x100x2 ![1, 2] bcast_S100x2_S1x100x2_1_2 p))
def gapOf (p : FVec Ideal S100x2 .f32) : FVec Ideal S100x100 .f32 :=
  Host.reduceAdd (mulf (diffOf p) (diffOf p)) (constant S_ .f32 0x00000000#32) reducesTo_S100x100x2_S100x100_d2 h_S_
def apartOf (q : FVec Ideal S100x100 .f32) : IVec S100x100 1 :=
  cmpf .ogt q (broadcastInDim S100x100 ![] bcast_S_S100x100 (constant S_ .f32 0x00000000#32))
def distOf (q : FVec Ideal S100x100 .f32) : FVec Ideal S100x100 .f32 :=
  mulf (Host.sqrt (select (apartOf q) q (broadcastInDim S100x100 ![] bcast_S_S100x100 (constant S_ .f32 0x3F800000#32)))) (uitofp .f32 (apartOf q))
def nearOf (r : FVec Ideal S100x100 .f32) : IVec S100x100 1 :=
  andi (cmpf .olt r (broadcastInDim S100x100 ![] bcast_S_S100x100 (constant S_ .f32 0x3DCCCCCD#32)))
    (cmpf .ogt r (broadcastInDim S100x100 ![] bcast_S_S100x100 (constant S_ .f32 0x00000000#32)))
def countOf (w : FVec Ideal S100x100 .f32) : FVec Ideal S100 .f32 :=
  Host.reduceAdd w (constant S_ .f32 0x00000000#32) reducesTo_S100x100_S100_d1 h_S_
def divisorOf (w : FVec Ideal S100x100 .f32) : FVec Ideal S100 .f32 :=
  maximumf (countOf w) (broadcastInDim S100 ![] bcast_S_S100 (constant S_ .f32 0x3F800000#32))
def meanOf (w : FVec Ideal S100x100 .f32) (n : FVec Ideal S100 .f32) (f : FVec Ideal S100x2 .f32) : FVec Ideal S100x2 .f32 :=
  Host.divf (Host.dotGeneral dot_S100x100_S100x2_S100x2_1_0_0_1_n_n none w f)
    (broadcastInDim S100x2 ![0, 1] bcast_S100x1_S100x2_0_1 (broadcastInDim S100x1 ![0] bcast_S100_S100x1_0 n))
def pullOf (n : FVec Ideal S100 .f32) (a f : FVec Ideal S100x2 .f32) : FVec Ideal S100x2 .f32 :=
  select (broadcastInDim S100x2 ![0, 1] bcast_S100x1_S100x2_0_1 (broadcastInDim S100x1 ![0] bcast_S100_S100x1_0
      (cmpf .ogt n (broadcastInDim S100 ![] bcast_S_S100 (constant S_ .f32 0x00000000#32)))))
    (subf a f) (broadcastInDim S100x2 ![] bcast_S_S100x2 (constant S_ .f32 0x00000000#32))
def forceOf (b z : IVec S100x100 1) (q : FVec Ideal S100x100 .f32) : FVec Ideal S100x100 .f32 :=
  select b (Host.divf (broadcastInDim S100x100 ![] bcast_S_S100x100 (constant S_ .f32 0x3F800000#32))
      (select z q (broadcastInDim S100x100 ![] bcast_S_S100x100 (constant S_ .f32 0x3F800000#32))))
    (broadcastInDim S100x100 ![] bcast_S_S100x100 (constant S_ .f32 0x00000000#32))
def pushOf (d : FVec Ideal S100x100x2 .f32) (w : FVec Ideal S100x100 .f32) : FVec Ideal S100x2 .f32 :=
  Host.reduceAdd (mulf d (broadcastInDim S100x100x2 ![0, 1, 2] bcast_S100x100x1_S100x100x2_0_1_2
    (broadcastInDim S100x100x1 ![0, 1] bcast_S100x100_S100x100x1_0_1 w))) (constant S_ .f32 0x00000000#32) reducesTo_S100x100x2_S100x2_d1 h_S_
def driftOf (v a b : FVec Ideal S100x2 .f32) : FVec Ideal S100x2 .f32 :=
  addf v (Host.divf (addf a b) (broadcastInDim S100x2 ![] bcast_S_S100x2 (constant S_ .f32 0x42C80000#32)))
def len2Of (v : FVec Ideal S100x2 .f32) : FVec Ideal S100 .f32 :=
  Host.reduceAdd (mulf v v) (constant S_ .f32 0x00000000#32) reducesTo_S100x2_S100_d1 h_S_
def movingOf (q : FVec Ideal S100 .f32) : IVec S100 1 :=
  cmpf .ogt q (broadcastInDim S100 ![] bcast_S_S100 (constant S_ .f32 0x00000000#32))
def speedOf (q : FVec Ideal S100 .f32) : FVec Ideal S100 .f32 :=
  mulf (Host.sqrt (select (movingOf q) q (broadcastInDim S100 ![] bcast_S_S100 (constant S_ .f32 0x3F800000#32)))) (uitofp .f32 (movingOf q))
def capOf (r : FVec Ideal S100 .f32) (v : FVec Ideal S100x2 .f32) : FVec Ideal S100x2 .f32 :=
  select (broadcastInDim S100x2 ![0, 1] bcast_S100x1_S100x2_0_1 (broadcastInDim S100x1 ![0] bcast_S100_S100x1_0
      (cmpf .ogt r (broadcastInDim S100 ![] bcast_S_S100 (constant S_ .f32 0x3DCCCCCD#32)))))
    (mulf v (broadcastInDim S100x2 ![0, 1] bcast_S100x1_S100x2_0_1 (broadcastInDim S100x1 ![0] bcast_S100_S100x1_0
      (Host.divf (broadcastInDim S100 ![] bcast_S_S100 (constant S_ .f32 0x3DCCCCCD#32))
        (maximumf r (broadcastInDim S100 ![] bcast_S_S100 (constant S_ .f32 0x2B8CBCCC#32)))))))
    v
def moveOf (p v : FVec Ideal S100x2 .f32) : FVec Ideal S100x2 .f32 :=
  addf p (Host.divf v (broadcastInDim S100x2 ![] bcast_S_S100x2 (constant S_ .f32 0x42C80000#32)))

/-! ## The step, as a function -/

def velOf (p v : FVec Ideal S100x2 .f32) : FVec Ideal S100x2 .f32 :=
  driftOf v (addf (pullOf (countOf (uitofp .f32 (nearOf (distOf (gapOf p)))))
        (meanOf (uitofp .f32 (nearOf (distOf (gapOf p)))) (divisorOf (uitofp .f32 (nearOf (distOf (gapOf p))))) v) v)
      (pullOf (countOf (uitofp .f32 (nearOf (distOf (gapOf p)))))
        (meanOf (uitofp .f32 (nearOf (distOf (gapOf p)))) (divisorOf (uitofp .f32 (nearOf (distOf (gapOf p))))) p) p))
    (pushOf (diffOf p) (forceOf (nearOf (distOf (gapOf p))) (apartOf (gapOf p)) (gapOf p)))
def cappedOf (p v : FVec Ideal S100x2 .f32) : FVec Ideal S100x2 .f32 := capOf (speedOf (len2Of (velOf p v))) (velOf p v)

/-! ## What each window of operations leaves -/

variable (V : Valuation τ sig (Elt Ideal))

theorem pairs_diff : after stepPairs V (Proc.devRef .tc main_while0b_v96) = diffOf (V (Proc.devRef .tc main_v2_1)) := by
  after_results; rfl
theorem pairs_gap : after stepPairs V (Proc.devRef .tc main_while0b_v98) = gapOf (V (Proc.devRef .tc main_v2_1)) := by
  after_results; rfl
theorem dist_apart : after stepDist V (Proc.devRef .tc main_while0b_v100) = apartOf (V (Proc.devRef .tc main_while0b_v98)) := by
  after_results; rfl
theorem dist_dist : after stepDist V (Proc.devRef .tc main_while0b_v104) = distOf (V (Proc.devRef .tc main_while0b_v98)) := by
  after_results; rfl
theorem mask_near : after stepMask V (Proc.devRef .tc main_while0b_v109) = nearOf (V (Proc.devRef .tc main_while0b_v104)) := by
  after_results; rfl
theorem mask_float : after stepMask V (Proc.devRef .tc main_while0b_v110) = uitofp (F := Ideal) .f32 (nearOf (V (Proc.devRef .tc main_while0b_v104))) := by
  after_results; rfl
theorem count_count : after stepCount V (Proc.devRef .tc main_while0b_v111) = countOf (V (Proc.devRef .tc main_while0b_v110)) := by
  after_results; rfl
theorem count_divisor : after stepCount V (Proc.devRef .tc main_while0b_v113) = divisorOf (V (Proc.devRef .tc main_while0b_v110)) := by
  after_results; rfl
theorem means_vel : after stepMeans V (Proc.devRef .tc main_while0b_v117)
    = meanOf (V (Proc.devRef .tc main_while0b_v110)) (V (Proc.devRef .tc main_while0b_v113)) (V (Proc.devRef .tc main_v2_2)) := by
  after_results; rfl
theorem means_pos : after stepMeans V (Proc.devRef .tc main_while0b_v121)
    = meanOf (V (Proc.devRef .tc main_while0b_v110)) (V (Proc.devRef .tc main_while0b_v113)) (V (Proc.devRef .tc main_v2_1)) := by
  after_results; rfl
theorem pulls_vel : after stepPulls V (Proc.devRef .tc main_while0b_v126)
    = pullOf (V (Proc.devRef .tc main_while0b_v111)) (V (Proc.devRef .tc main_while0b_v117)) (V (Proc.devRef .tc main_v2_2)) := by
  after_results; rfl
theorem pulls_pos : after stepPulls V (Proc.devRef .tc main_while0b_v128)
    = pullOf (V (Proc.devRef .tc main_while0b_v111)) (V (Proc.devRef .tc main_while0b_v121)) (V (Proc.devRef .tc main_v2_1)) := by
  after_results; rfl
theorem inv_force : after stepInv V (Proc.devRef .tc main_while0b_v132)
    = forceOf (V (Proc.devRef .tc main_while0b_v109)) (V (Proc.devRef .tc main_while0b_v100)) (V (Proc.devRef .tc main_while0b_v98)) := by
  after_results; rfl
theorem push_push : after stepPush V (Proc.devRef .tc main_while0b_v136)
    = pushOf (V (Proc.devRef .tc main_while0b_v96)) (V (Proc.devRef .tc main_while0b_v132)) := by
  after_results; rfl
theorem push_pulls : after stepPush V (Proc.devRef .tc main_while0b_v137)
    = addf (F := Ideal) (s := S100x2) (φ := .f32) (V (Proc.devRef .tc main_while0b_v126)) (V (Proc.devRef .tc main_while0b_v128)) := by
  after_results
theorem drift_vel : after stepDrift V (Proc.devRef .tc main_while0b_v141)
    = driftOf (V (Proc.devRef .tc main_v2_2)) (V (Proc.devRef .tc main_while0b_v137)) (V (Proc.devRef .tc main_while0b_v136)) := by
  after_results; rfl
theorem speed_speed : after stepSpeed V (Proc.devRef .tc main_while0b_v149) = speedOf (len2Of (V (Proc.devRef .tc main_while0b_v141))) := by
  after_results; rfl
theorem cap_vel : after stepCap V (Proc.devRef .tc main_while0b_v160)
    = capOf (V (Proc.devRef .tc main_while0b_v149)) (V (Proc.devRef .tc main_while0b_v141)) := by
  after_results; rfl
theorem move_pos : after stepMove V (Proc.devRef .tc main_while0b_v163)
    = moveOf (V (Proc.devRef .tc main_v2_1)) (V (Proc.devRef .tc main_while0b_v160)) := by
  after_results; rfl

/-! ## The whole step -/

theorem step_reads : afterL (stepParts.map Part.ops) V (Proc.devRef .tc main_while0b_v160)
      = cappedOf (V (Proc.devRef .tc main_v2_1)) (V (Proc.devRef .tc main_v2_2)) := by
  let X1 := after stepPairs V
  let X2 := after stepDist X1
  let X3 := after stepMask X2
  let X4 := after stepCount X3
  let X5 := after stepMeans X4
  let X6 := after stepPulls X5
  let X7 := after stepInv X6
  let X8 := after stepPush X7
  let X9 := after stepDrift X8
  let X10 := after stepSpeed X9
  let X11 := after stepCap X10
  have k98 : X6 (Proc.devRef .tc main_while0b_v98) = X1 (Proc.devRef .tc main_while0b_v98) :=
    keep main_while0b_v98 ((stepParts.drop 1).take 5) X1 rfl (by decide +kernel)
  have k96 : X7 (Proc.devRef .tc main_while0b_v96) = X1 (Proc.devRef .tc main_while0b_v96) :=
    keep main_while0b_v96 ((stepParts.drop 1).take 6) X1 rfl (by decide +kernel)
  have k100 : X6 (Proc.devRef .tc main_while0b_v100) = X2 (Proc.devRef .tc main_while0b_v100) :=
    keep main_while0b_v100 ((stepParts.drop 2).take 4) X2 rfl (by decide +kernel)
  have k109 : X6 (Proc.devRef .tc main_while0b_v109) = X3 (Proc.devRef .tc main_while0b_v109) :=
    keep main_while0b_v109 ((stepParts.drop 3).take 3) X3 rfl (by decide +kernel)
  have k110 : X4 (Proc.devRef .tc main_while0b_v110) = X3 (Proc.devRef .tc main_while0b_v110) :=
    keep main_while0b_v110 ((stepParts.drop 3).take 1) X3 rfl (by decide +kernel)
  have k111 : X5 (Proc.devRef .tc main_while0b_v111) = X4 (Proc.devRef .tc main_while0b_v111) :=
    keep main_while0b_v111 ((stepParts.drop 4).take 1) X4 rfl (by decide +kernel)
  have k126 : X7 (Proc.devRef .tc main_while0b_v126) = X6 (Proc.devRef .tc main_while0b_v126) :=
    keep main_while0b_v126 ((stepParts.drop 6).take 1) X6 rfl (by decide +kernel)
  have k128 : X7 (Proc.devRef .tc main_while0b_v128) = X6 (Proc.devRef .tc main_while0b_v128) :=
    keep main_while0b_v128 ((stepParts.drop 6).take 1) X6 rfl (by decide +kernel)
  have k141 : X10 (Proc.devRef .tc main_while0b_v141) = X9 (Proc.devRef .tc main_while0b_v141) :=
    keep main_while0b_v141 ((stepParts.drop 9).take 1) X9 rfl (by decide +kernel)
  have p4 : X4 (Proc.devRef .tc main_v2_1) = V (Proc.devRef .tc main_v2_1) := keep main_v2_1 (stepParts.take 4) V rfl (by decide +kernel)
  have p5 : X5 (Proc.devRef .tc main_v2_1) = V (Proc.devRef .tc main_v2_1) := keep main_v2_1 (stepParts.take 5) V rfl (by decide +kernel)
  have v4 : X4 (Proc.devRef .tc main_v2_2) = V (Proc.devRef .tc main_v2_2) := keep main_v2_2 (stepParts.take 4) V rfl (by decide +kernel)
  have v5 : X5 (Proc.devRef .tc main_v2_2) = V (Proc.devRef .tc main_v2_2) := keep main_v2_2 (stepParts.take 5) V rfl (by decide +kernel)
  have v8 : X8 (Proc.devRef .tc main_v2_2) = V (Proc.devRef .tc main_v2_2) := keep main_v2_2 (stepParts.take 8) V rfl (by decide +kernel)
  have last : afterL (stepParts.map Part.ops) V (Proc.devRef .tc main_while0b_v160) = X11 (Proc.devRef .tc main_while0b_v160) :=
    keep main_while0b_v160 (stepParts.drop 11) X11 rfl (by decide +kernel)
  have r110 : X3 (Proc.devRef .tc main_while0b_v110) = uitofp (F := Ideal) .f32 (nearOf (distOf (gapOf (V (Proc.devRef .tc main_v2_1))))) :=
    (mask_float X2).trans (by rw [show X2 = after stepDist X1 from rfl, dist_dist X1, show X1 = after stepPairs V from rfl, pairs_gap V])
  have r109 : X3 (Proc.devRef .tc main_while0b_v109) = nearOf (distOf (gapOf (V (Proc.devRef .tc main_v2_1)))) :=
    (mask_near X2).trans (by rw [show X2 = after stepDist X1 from rfl, dist_dist X1, show X1 = after stepPairs V from rfl, pairs_gap V])
  have r141 : X9 (Proc.devRef .tc main_while0b_v141) = velOf (V (Proc.devRef .tc main_v2_1)) (V (Proc.devRef .tc main_v2_2)) := by
    rw [show X9 = after stepDrift X8 from rfl, drift_vel X8, v8, show X8 = after stepPush X7 from rfl, push_push X7, push_pulls X7, k126, k128, k96,
      show X7 = after stepInv X6 from rfl, inv_force X6, k98, k100, k109, r109, show X6 = after stepPulls X5 from rfl, pulls_vel X5, pulls_pos X5,
      p5, v5, k111, show X5 = after stepMeans X4 from rfl, means_vel X4, means_pos X4, p4, v4, k110, r110,
      show X4 = after stepCount X3 from rfl, count_count X3, count_divisor X3, r110, show X2 = after stepDist X1 from rfl, dist_apart X1,
      show X1 = after stepPairs V from rfl, pairs_gap V, pairs_diff V]
    rfl
  rw [last, show X11 = after stepCap X10 from rfl, cap_vel X10, k141, show X10 = after stepSpeed X9 from rfl, speed_speed X9, r141]
  rfl

/-- Storing a row of a history at the row of a counter. -/
theorem store_at (x : FVec Ideal S256x100x2 .f32) (u : FVec Ideal S100x2 .f32) (b : IVec S_ 32) (k : ℕ) (hk : k < 256)
    (hb : b (Shape.Idx.first h_S_) = BitVec.ofNat 32 k) (t : Fin 256) (i : Fin 100) (d : Fin 2) :
    Host.dynamicUpdateSlice x (broadcastInDim S1x100x2 ![1, 2] bcast_S100x2_S1x100x2_1_2 u)
        (fun a => ((![b, constantI S_ 32 0#32, constantI S_ 32 0#32] : Fin 3 → IVec S_ 32) a (Shape.Idx.first h_S_)).toInt)
        updateFits_S256x100x2_S1x100x2 (ix3 t i d)
      = if t.val = k then u (ix2 i d) else x (ix3 t i d) := by
  have hs : S256x100x2.Slices ![k, 0, 0] S1x100x2 := ⟨rfl, fun a => by
    fin_cases a
    · show k + 1 ≤ 256; omega
    · show 0 + 100 ≤ 100; omega
    · show 0 + 2 ≤ 2; omega⟩
  have hst : ∀ a : Fin S256x100x2.rank, ((![b, constantI S_ 32 0#32, constantI S_ 32 0#32] : Fin 3 → IVec S_ 32) a (Shape.Idx.first h_S_)).toInt
      = ((![k, 0, 0] : Fin 3 → ℕ) a : Int) := fun a => by
    fin_cases a
    · show (b (Shape.Idx.first h_S_)).toInt = _
      rw [hb]
      exact WordCmp.toInt_ofNat_of_lt (by norm_num; omega)
    · rfl
    · rfl
  have e := WordCmp.dynamicUpdateSlice_eq_update (s := S256x100x2) (u := S1x100x2) x
    (broadcastInDim S1x100x2 ![1, 2] bcast_S100x2_S1x100x2_1_2 u) _ updateFits_S256x100x2_S1x100x2 ![k, 0, 0] hs hst
  refine (congrFun e (ix3 t i d)).trans ?_
  · unfold updateSlice
    by_cases h : t.val = k
    · rw [if_pos h, dif_pos]
      · pointwise
      · intro a
        fin_cases a
        · show k ≤ t.val ∧ t.val < k + 1; omega
        · show 0 ≤ i.val ∧ i.val < 0 + 100; omega
        · show 0 ≤ d.val ∧ d.val < 0 + 2; omega
    · rw [if_neg h, dif_neg]
      intro hin
      have : k ≤ t.val ∧ t.val < k + 1 := hin 0
      omega

theorem move_hist : after stepMove V (Proc.devRef .tc main_while0b_v164)
    = Host.dynamicUpdateSlice (V (Proc.devRef .tc main_v2_3) : FVec Ideal S256x100x2 .f32)
        (broadcastInDim S1x100x2 ![1, 2] bcast_S100x2_S1x100x2_1_2 (moveOf (V (Proc.devRef .tc main_v2_1)) (V (Proc.devRef .tc main_while0b_v160))))
        (fun a => ((![V (Proc.devRef .tc main_v2_0), constantI S_ 32 0#32, constantI S_ 32 0#32] : Fin 3 → IVec S_ 32) a (Shape.Idx.first h_S_)).toInt)
        updateFits_S256x100x2_S1x100x2 := by
  after_results_entrywise []
theorem move_velHist : after stepMove V (Proc.devRef .tc main_while0b_v165)
    = Host.dynamicUpdateSlice (V (Proc.devRef .tc main_v2_4) : FVec Ideal S256x100x2 .f32)
        (broadcastInDim S1x100x2 ![1, 2] bcast_S100x2_S1x100x2_1_2 (V (Proc.devRef .tc main_while0b_v160) : FVec Ideal S100x2 .f32))
        (fun a => ((![V (Proc.devRef .tc main_v2_0), constantI S_ 32 0#32, constantI S_ 32 0#32] : Fin 3 → IVec S_ 32) a (Shape.Idx.first h_S_)).toInt)
        updateFits_S256x100x2_S1x100x2 := by
  after_results_entrywise []

/-! ## The step at an agent -/

/-- The flock of two vectors. -/
def stateOf (p v : FVec Ideal S100x2 .f32) : State (Fin 100) :=
  ⟨fun i => p (ix2 i 0), fun i => p (ix2 i 1), fun i => v (ix2 i 0), fun i => v (ix2 i 1)⟩

theorem ofBits_hundred : Ideal.ofBits .f32 0x42C80000#32 = ((100 : ℝ) : EReal) := by
  simp [Ideal.ofBits, Ideal.ieee, -EReal.coe_mul]; norm_num

theorem div_hundred (x : EReal) : Ideal.div x (Ideal.ofBits .f32 0x42C80000#32) = x * dt := by
  rw [ofBits_hundred, Ideal.div_coe (by norm_num)]; rfl

theorem guarded (q : EReal) : Ideal.sqrt (if 0 < q then q else 1) * (if 0 < q then 1 else 0) = root q := by
  unfold root; by_cases h : 0 < q <;> simp [h]

theorem bool_float (P : Prop) [Decidable P] : FloatOps.uitofp (F := Ideal) .f32 (BitVec.ofBool (decide P)) = if P then (1 : EReal) else 0 := by
  by_cases h : P <;> simp only [h, decide_true, decide_false, BitVec.ofBool] <;> show (((_ : ℕ) : ℝ) : EReal) = _ <;> simp

theorem bit_float (b : BitVec 1) : FloatOps.uitofp (F := Ideal) .f32 b = if b = 1#1 then (1 : EReal) else 0 := by
  have : ∀ b : BitVec 1, b = 0#1 ∨ b = 1#1 := by decide
  rcases this b with rfl | rfl <;> show (((_ : ℕ) : ℝ) : EReal) = _ <;> simp

theorem gap_apply (p v : FVec Ideal S100x2 .f32) (i j : Fin 100) : gapOf p (ix2 i j) = (stateOf p v).gap i j := by
  pointwise [gapOf, diffOf]
  rw [Fin.sum_univ_two]
  rfl
theorem dist_apply (q : FVec Ideal S100x100 .f32) (i j : Fin 100) : distOf q (ix2 i j) = root (q (ix2 i j)) := by
  pointwise [distOf, apartOf]
  rw [bool_float]
  exact guarded (q (ix2 i j))
theorem near_apply (r : FVec Ideal S100x100 .f32) (i j : Fin 100) (q : EReal) (h : r (ix2 i j) = root q) :
    nearOf r (ix2 i j) = 1#1 ↔ Near q := by
  pointwise [nearOf]
  rw [h]
  exact near_bits q
theorem mask_apply (r : FVec Ideal S100x100 .f32) (i j : Fin 100) (q : EReal) (h : r (ix2 i j) = root q) :
    uitofp (F := Ideal) .f32 (nearOf r) (ix2 i j) = mask q := by
  show FloatOps.uitofp (F := Ideal) .f32 (nearOf r (ix2 i j)) = _
  rw [bit_float]
  unfold mask
  classical
  exact if_congr (near_apply r i j q h) rfl rfl

theorem pull_apply (w : FVec Ideal S100x100 .f32) (f : FVec Ideal S100x2 .f32) (i : Fin 100) (d : Fin 2) :
    pullOf (countOf w) (meanOf w (divisorOf w) f) f (ix2 i d) = pull (fun i j => w (ix2 i j)) (fun j => f (ix2 j d)) i := by
  pointwise [pullOf, countOf, meanOf, divisorOf]
  rfl

theorem force_apply (p v : FVec Ideal S100x2 .f32) (i j : Fin 100) :
    forceOf (nearOf (distOf (gapOf p))) (apartOf (gapOf p)) (gapOf p) (ix2 i j) = force ((stateOf p v).gap i j) := by
  rw [← gap_apply]
  pointwise [forceOf, apartOf, nearOf]
  rw [dist_apply]
  exact force_eq (gapOf p (ix2 i j))

theorem push_apply (p : FVec Ideal S100x2 .f32) (w : FVec Ideal S100x100 .f32) (i : Fin 100) (d : Fin 2) :
    pushOf (diffOf p) w (ix2 i d) = push (fun i j => w (ix2 i j)) (fun j => p (ix2 j d)) i := by
  pointwise [pushOf, diffOf]
  rfl

theorem vel_apply (p v : FVec Ideal S100x2 .f32) (i : Fin 100) (d : Fin 2) :
    velOf p v (ix2 i d) = v (ix2 i d) + (pull (fun i j => mask ((stateOf p v).gap i j)) (fun j => v (ix2 j d)) i
      + pull (fun i j => mask ((stateOf p v).gap i j)) (fun j => p (ix2 j d)) i
      + push (fun i j => force ((stateOf p v).gap i j)) (fun j => p (ix2 j d)) i) * dt := by
  have e : ∀ i j, uitofp (F := Ideal) .f32 (nearOf (distOf (gapOf p))) (ix2 i j) = mask ((stateOf p v).gap i j) := fun i j =>
    mask_apply _ i j _ (by rw [dist_apply, gap_apply p v])
  unfold velOf driftOf
  pointwise
  rw [div_hundred, pull_apply, pull_apply, push_apply]
  simp only [e, force_apply p v]

theorem velX (p v : FVec Ideal S100x2 .f32) (i : Fin 100) : velOf p v (ix2 i 0) = (stateOf p v).wx i := vel_apply p v i 0
theorem velY (p v : FVec Ideal S100x2 .f32) (i : Fin 100) : velOf p v (ix2 i 1) = (stateOf p v).wy i := vel_apply p v i 1

theorem cap_apply (r : FVec Ideal S100 .f32) (w : FVec Ideal S100x2 .f32) (i : Fin 100) (d : Fin 2) (q : EReal) (h : r (ix1 i) = root q) :
    capOf r w (ix2 i d) = cap q (w (ix2 i d)) := by
  pointwise [capOf]
  rw [h]
  rfl

theorem speed_apply (w : FVec Ideal S100x2 .f32) (i : Fin 100) :
    speedOf (len2Of w) (ix1 i) = root (len2 (w (ix2 i 0)) (w (ix2 i 1))) := by
  have e : len2Of w (ix1 i) = len2 (w (ix2 i 0)) (w (ix2 i 1)) := by
    pointwise [len2Of]
    rw [Fin.sum_univ_two]
    rfl
  rw [← e]
  pointwise [speedOf, movingOf]
  rw [bool_float]
  exact guarded (len2Of w (ix1 i))

theorem capped_apply (p v : FVec Ideal S100x2 .f32) (i : Fin 100) (d : Fin 2) :
    cappedOf p v (ix2 i d) = cap (len2 ((stateOf p v).wx i) ((stateOf p v).wy i)) (velOf p v (ix2 i d)) := by
  unfold cappedOf
  rw [cap_apply _ _ i d _ (speed_apply _ i), velX, velY]

theorem move_apply (p w : FVec Ideal S100x2 .f32) (i : Fin 100) (d : Fin 2) : moveOf p w (ix2 i d) = p (ix2 i d) + w (ix2 i d) * dt := by
  pointwise [moveOf]
  rw [div_hundred]

/-- One step of the reference is one step of the flock. -/
theorem step_state (p v : FVec Ideal S100x2 .f32) : stateOf (moveOf p (cappedOf p v)) (cappedOf p v) = (stateOf p v).next := by
  have e : ∀ i, cappedOf p v (ix2 i 0) = (stateOf p v).next.vx i ∧ cappedOf p v (ix2 i 1) = (stateOf p v).next.vy i := fun i =>
    ⟨by rw [capped_apply, velX]; rfl, by rw [capped_apply, velY]; rfl⟩
  unfold stateOf State.next
  congr 1 <;> funext i
  · rw [move_apply, (e i).1]; rfl
  · rw [move_apply, (e i).2]; rfl
  · exact (e i).1
  · exact (e i).2

/-! ## The scan -/

/-- The positions and velocities after `k` steps. -/
def scanned (p v : FVec Ideal S100x2 .f32) : ℕ → FVec Ideal S100x2 .f32 × FVec Ideal S100x2 .f32
  | 0 => (p, v)
  | k + 1 => (moveOf (scanned p v k).1 (cappedOf (scanned p v k).1 (scanned p v k).2), cappedOf (scanned p v k).1 (scanned p v k).2)

theorem scanned_state (p v : FVec Ideal S100x2 .f32) : ∀ k, stateOf (scanned p v k).1 (scanned p v k).2 = (stateOf p v).after k
  | 0 => rfl
  | k + 1 => by
    rw [show (stateOf p v).after (k + 1) = ((stateOf p v).after k).next from rfl, ← scanned_state p v k, ← step_state]; rfl

variable (m : (ℓ : Loc nD τ sig) → Buf (Elt Ideal) ℓ)

theorem before_pos (c : Dev nD) : V1 m c (Proc.devRef .tc main_v2_1) = m ((c : Thread nD τ).loc main_arg1) := by
  simp only [V1, afterL_cons, afterL_nil]
  after_reads_simp
  rfl
theorem before_vel (c : Dev nD) : V1 m c (Proc.devRef .tc main_v2_2) = m ((c : Thread nD τ).loc main_arg2) := by
  simp only [V1, afterL_cons, afterL_nil]
  after_reads_simp
  rfl

theorem next_pos : after stepNext V (Proc.devRef .tc main_v2_1) = V (Proc.devRef .tc main_while0b_v163) := by
  after_results; rfl
theorem next_vel : after stepNext V (Proc.devRef .tc main_v2_2) = V (Proc.devRef .tc main_while0b_v160) := by
  after_results; rfl
theorem next_hist : after stepNext V (Proc.devRef .tc main_v2_3) = V (Proc.devRef .tc main_while0b_v164) := by
  after_results; rfl
theorem next_velHist : after stepNext V (Proc.devRef .tc main_v2_4) = V (Proc.devRef .tc main_while0b_v165) := by
  after_results; rfl

/-- The carried values before step `k` and the histories' first `k` rows. -/
structure Scan (p v : FVec Ideal S100x2 .f32) (k : ℕ) (V : Valuation τ sig (Elt Ideal)) : Prop where
  pos : V (Proc.devRef .tc main_v2_1) = (scanned p v k).1
  vel : V (Proc.devRef .tc main_v2_2) = (scanned p v k).2
  hist : ∀ t : Fin 256, t.val < k → ∀ i d, (V (Proc.devRef .tc main_v2_3) : FVec Ideal S256x100x2 .f32) (ix3 t i d) = (scanned p v (t.val + 1)).1 (ix2 i d)
  velHist : ∀ t : Fin 256, t.val < k → ∀ i d, (V (Proc.devRef .tc main_v2_4) : FVec Ideal S256x100x2 .f32) (ix3 t i d) = (scanned p v (t.val + 1)).2 (ix2 i d)

theorem scan_one (p v : FVec Ideal S100x2 .f32) (k : ℕ) (hk : k < 256) (h : Scan p v k V)
    (hc : V (Proc.devRef .tc main_v2_0) = fun _ => BitVec.ofNat 32 k) :
    Scan p v (k + 1) (after stepNext (afterL (stepParts.map Part.ops) V)) := by
  let X := afterL ((stepParts.take 11).map Part.ops) V
  have eX : afterL (stepParts.map Part.ops) V = after stepMove X := rfl
  have k160 : after stepMove X (Proc.devRef .tc main_while0b_v160) = X (Proc.devRef .tc main_while0b_v160) :=
    keep main_while0b_v160 (stepParts.drop 11) X rfl (by decide +kernel)
  have e160 : X (Proc.devRef .tc main_while0b_v160) = (scanned p v (k + 1)).2 := by
    rw [← k160, ← eX, step_reads, h.pos, h.vel]; rfl
  have kp : X (Proc.devRef .tc main_v2_1) = (scanned p v k).1 := (keep main_v2_1 (stepParts.take 11) V rfl (by decide +kernel)).trans h.pos
  have kc : X (Proc.devRef .tc main_v2_0) = fun _ => BitVec.ofNat 32 k := (keep main_v2_0 (stepParts.take 11) V rfl (by decide +kernel)).trans hc
  have kh : X (Proc.devRef .tc main_v2_3) = V (Proc.devRef .tc main_v2_3) := keep main_v2_3 (stepParts.take 11) V rfl (by decide +kernel)
  have kw : X (Proc.devRef .tc main_v2_4) = V (Proc.devRef .tc main_v2_4) := keep main_v2_4 (stepParts.take 11) V rfl (by decide +kernel)
  have epos : moveOf (X (Proc.devRef .tc main_v2_1)) (X (Proc.devRef .tc main_while0b_v160)) = (scanned p v (k + 1)).1 := by
    rw [kp, e160]; rfl
  rw [eX]
  refine ⟨?_, ?_, fun t ht i d => ?_, fun t ht i d => ?_⟩
  · rw [next_pos, move_pos, epos]
  · rw [next_vel, k160, e160]
  · rw [next_hist, move_hist, epos]
    refine (store_at _ _ _ k hk (congrFun kc _) t i d).trans ?_
    split_ifs with e
    · rw [e]
    · rw [kh]; exact h.hist t (by omega) i d
  · rw [next_velHist, move_velHist, e160]
    refine (store_at _ _ _ k hk (congrFun kc _) t i d).trans ?_
    split_ifs with e
    · rw [e]
    · rw [kw]; exact h.velHist t (by omega) i d

theorem scan_all (c : Dev nD) : ∀ k, k ≤ 256 →
    Scan (m ((c : Thread nD τ).loc main_arg1)) (m ((c : Thread nD τ).loc main_arg2)) k (scanAt m k c)
  | 0, _ => ⟨before_pos m c, before_vel m c, fun _ h => absurd h (by omega), fun _ h => absurd h (by omega)⟩
  | k + 1, hk => by
    have ih := scan_all c k (by omega)
    have hc := scan_counter m c k
    have t : ∀ r : Ref sig .tc, r ∉ scanTest_W → after scanTest (scanAt m k c) (Proc.devRef .tc r) = scanAt m k c (Proc.devRef .tc r) :=
      fun r hr => after_of_writes_sub scanTest _ scanTest_writes hr
    refine scan_one (after scanTest (scanAt m k c)) _ _ k (by omega) ⟨?_, ?_, ?_, ?_⟩ ?_
    · rw [t _ (by decide +kernel)]; exact ih.pos
    · rw [t _ (by decide +kernel)]; exact ih.vel
    · rw [t _ (by decide +kernel)]; exact ih.hist
    · rw [t _ (by decide +kernel)]; exact ih.velHist
    · rw [t _ (by decide +kernel), hc]
      funext _
      simp [Scf.iv]

end Cert.Proof.RStep

end
-- ==== Proof.Pad.lean ====
/-
  The kernel's 28 agents past the flock's 100: they start far away and at rest, nobody sees them, and they stay where
  they are, so that the 100 move as they do alone.
-/
module

public import proofs.«01_k».proof.Proof.Flock

@[expose] public section

noncomputable section

namespace Cert.Proof.Pad

open Idealize.ShloMosaic Cert.Proof.Flock

/-- Where the agents past the 100th stand. -/
def far : EReal := Ideal.ofBits .f32 0x4E6E6B28#32

theorem far_real : far = ((1000000000 : ℝ) : EReal) := by
  unfold far
  simp [Ideal.ofBits, Ideal.ieee, -EReal.coe_mul]; norm_num

theorem rad_real : ∃ ρ : ℝ, rad = ρ ∧ 0 < ρ ∧ ρ < 1 := by
  refine ⟨13421773 / 134217728, ?_, by norm_num, by norm_num⟩
  unfold rad
  simp [Ideal.ofBits, Ideal.ieee, -EReal.coe_mul]; norm_num

theorem tiny_real : ∃ τ : ℝ, tiny = τ ∧ 0 < τ := by
  refine ⟨9223372 / 9223372036854775808, ?_, by norm_num⟩
  unfold tiny
  simp [Ideal.ofBits, Ideal.ieee, -EReal.coe_mul]; norm_num

/-- A real of absolute value at most `B`. -/
def Within (B : ℝ) (x : EReal) : Prop := ∃ r : ℝ, x = r ∧ |r| ≤ B

theorem root_real (q : ℝ) (h : 0 ≤ q) : root q = ((Real.sqrt q : ℝ) : EReal) := by
  unfold root
  rcases h.lt_or_eq with h | h
  · rw [if_pos (by exact_mod_cast h)]
    rw [Ideal.sqrt_coe, if_neg (not_lt.2 h.le)]
  · subst h
    simp

theorem len2_real (a b : ℝ) : len2 (a : EReal) (b : EReal) = ((a * a + b * b : ℝ) : EReal) := by
  unfold len2; norm_cast

theorem self_mul_nonneg (x : EReal) : 0 ≤ x * x := by
  rcases le_total 0 x with h | h
  · exact mul_nonneg h h
  · rw [← neg_mul_neg]
    exact mul_nonneg (EReal.neg_nonneg.2 h) (EReal.neg_nonneg.2 h)

theorem root_top : root ⊤ = ⊤ := by
  unfold root; rw [if_pos EReal.zero_lt_top]; rfl

/-- Past the limit at an infinite speed nothing is left. -/
theorem cap_top (v : EReal) : cap ⊤ v = 0 := by
  obtain ⟨ρ, e, -, -⟩ := rad_real
  unfold cap
  rw [root_top, if_pos (by rw [e]; exact EReal.coe_lt_top ρ), max_eq_left le_top]
  have : Ideal.div rad ⊤ = 0 := by
    simp [Ideal.div]
  rw [this, mul_zero]

theorem cap_real (a b : ℝ) : Within 1 (cap (len2 a b) a) := by
  obtain ⟨ρ, eρ, hρ, hρ1⟩ := rad_real
  obtain ⟨τ, eτ, hτ⟩ := tiny_real
  have ha : |a| ≤ Real.sqrt (a * a + b * b) := by
    rw [← Real.sqrt_mul_self_eq_abs]
    exact Real.sqrt_le_sqrt (by nlinarith)
  rw [len2_real]
  unfold cap
  rw [root_real _ (by nlinarith), eρ, eτ]
  set r := Real.sqrt (a * a + b * b)
  split_ifs with h
  · have hr : ρ < r := by exact_mod_cast h
    have hm : max (r : EReal) τ = ((max r τ : ℝ) : EReal) := by norm_cast
    have hp : 0 < max r τ := lt_of_lt_of_le hτ (le_max_right _ _)
    rw [hm, Ideal.div_coe hp.ne']
    refine ⟨a * (ρ * (1 / max r τ)), by norm_cast, ?_⟩
    rw [abs_mul, abs_of_nonneg (by positivity : 0 ≤ ρ * (1 / max r τ))]
    have h1 : |a| ≤ max r τ := ha.trans (le_max_left _ _)
    rw [mul_one_div, mul_div_assoc', div_le_one hp]
    nlinarith [abs_nonneg a]
  · exact ⟨a, rfl, ha.trans ((not_lt.1 fun hh => h (by exact_mod_cast hh)).trans hρ1.le)⟩

theorem infinite_or (x : EReal) : (∃ r : ℝ, x = r) ∨ x * x = ⊤ := by
  induction x with
  | bot => right; rfl
  | top => right; rfl
  | coe r => left; exact ⟨r, rfl⟩

/-- Whatever the velocity, the limited one is finite and at most one. -/
theorem cap_within (x y : EReal) : Within 1 (cap (len2 x y) x) := by
  have zero : Within 1 0 := ⟨0, rfl, by norm_num⟩
  rcases infinite_or x with ⟨a, rfl⟩ | h
  · rcases infinite_or y with ⟨b, rfl⟩ | h'
    · exact cap_real a b
    · have : len2 (a : EReal) y = ⊤ := by
        unfold len2; rw [h']
        exact EReal.add_top_of_ne_bot (ne_of_gt (lt_of_lt_of_le EReal.bot_lt_zero (self_mul_nonneg _)))
      rw [this, cap_top]; exact zero
  · have : len2 x y = ⊤ := by
      unfold len2; rw [h]
      exact EReal.top_add_of_ne_bot (ne_of_gt (lt_of_lt_of_le EReal.bot_lt_zero (self_mul_nonneg _)))
    rw [this, cap_top]; exact zero

theorem len2_comm (x y : EReal) : len2 x y = len2 y x := add_comm _ _

theorem move_within {B : ℝ} {x v : EReal} (hx : Within B x) (hv : Within 1 v) : Within (B + 1) (x + v * dt) := by
  obtain ⟨r, rfl, hr⟩ := hx
  obtain ⟨w, rfl, hw⟩ := hv
  refine ⟨r + w * (1 / 100), by unfold dt; norm_cast, ?_⟩
  have := abs_add_le r (w * (1 / 100))
  rw [abs_mul, abs_of_pos (by norm_num : (0 : ℝ) < 1 / 100)] at this
  linarith

/-- All positions are reals of absolute value at most `B`. -/
def Bounded {ι : Type} (B : ℝ) (s : State ι) : Prop := ∀ i, Within B (s.x i) ∧ Within B (s.y i)

theorem bounded_next {ι : Type} [Fintype ι] {B : ℝ} {s : State ι} (h : Bounded B s) : Bounded (B + 1) s.next := fun i =>
  ⟨move_within (h i).1 (cap_within _ _), move_within (h i).2 (len2_comm (s.wx i) (s.wy i) ▸ cap_within _ _)⟩

theorem bounded_after {ι : Type} [Fintype ι] {B : ℝ} {s : State ι} (h : Bounded B s) : ∀ k : ℕ, Bounded (B + k) (s.after k)
  | 0 => by rw [Nat.cast_zero, add_zero]; exact h
  | k + 1 => by
    have := bounded_next (bounded_after h k)
    rw [add_assoc] at this
    exact_mod_cast this

/-! ## The agents and the others -/

def agent (i : Fin 100) : Fin 128 := ⟨i.val, by omega⟩
def ghost (j : Fin 28) : Fin 128 := ⟨100 + j.val, by omega⟩

theorem agent_or_ghost (k : Fin 128) : (∃ i, k = agent i) ∨ ∃ j, k = ghost j := by
  by_cases h : k.val < 100
  · exact .inl ⟨⟨k.val, h⟩, rfl⟩
  · exact .inr ⟨⟨k.val - 100, by omega⟩, Fin.ext (by simp only [ghost]; omega)⟩

theorem sum_split {M : Type} [AddCommMonoid M] (g : Fin 128 → M) : ∑ k, g k = ∑ i, g (agent i) + ∑ j, g (ghost j) :=
  Fin.sum_univ_add (a := 100) (b := 28) g

theorem sum_agents {M : Type} [AddCommMonoid M] (g : Fin 128 → M) (h : ∀ j, g (ghost j) = 0) : ∑ k, g k = ∑ i, g (agent i) := by
  rw [sum_split, Finset.sum_eq_zero fun j _ => h j, add_zero]

/-- `t` is `s` with the others far away and at rest. -/
structure Padded (s : State (Fin 100)) (t : State (Fin 128)) : Prop where
  x : ∀ i, t.x (agent i) = s.x i
  y : ∀ i, t.y (agent i) = s.y i
  vx : ∀ i, t.vx (agent i) = s.vx i
  vy : ∀ i, t.vy (agent i) = s.vy i
  gx : ∀ j, t.x (ghost j) = far
  gy : ∀ j, t.y (ghost j) = far
  gvx : ∀ j, t.vx (ghost j) = 0
  gvy : ∀ j, t.vy (ghost j) = 0

theorem far_sub_far : far - far = 0 := by
  rw [far_real, ← EReal.coe_sub, sub_self]; rfl

theorem root_zero : root 0 = 0 := by
  unfold root; rw [if_neg (lt_irrefl _)]

theorem len2_zero : len2 0 0 = 0 := by simp [len2]

theorem far_gap {x y : EReal} (hx : Within 500000000 x) (hy : Within 500000000 y) :
    ∃ q : ℝ, 1 ≤ q ∧ len2 (x - far) (y - far) = q ∧ len2 (far - x) (far - y) = q := by
  obtain ⟨a, rfl, ha⟩ := hx
  obtain ⟨b, rfl, hb⟩ := hy
  have ha := abs_le.1 ha
  rw [far_real, ← EReal.coe_sub, ← EReal.coe_sub, ← EReal.coe_sub, ← EReal.coe_sub, len2_real, len2_real]
  exact ⟨_, by nlinarith [mul_self_nonneg (b - 1000000000)], rfl, by norm_cast; ring⟩

theorem not_near_far {q : ℝ} (h : 1 ≤ q) : ¬ Near q := by
  obtain ⟨ρ, e, -, h1⟩ := rad_real
  rintro ⟨hn, -⟩
  rw [root_real q (by linarith), e] at hn
  have : Real.sqrt q < ρ := by exact_mod_cast hn
  have : (1 : ℝ) ≤ Real.sqrt q := Real.one_le_sqrt.2 h
  linarith

theorem not_near_zero : ¬ Near 0 := fun h => by
  have := h.2; rw [root_zero] at this; exact lt_irrefl _ this

section
variable {s : State (Fin 100)} {t : State (Fin 128)} (h : Padded s t) (hb : Bounded 500000000 s)
include h

theorem gap_agents (i j : Fin 100) : t.gap (agent i) (agent j) = s.gap i j := by
  unfold State.gap; rw [h.x, h.x, h.y, h.y]

include hb

theorem unseen (k : Fin 128) (j : Fin 28) : ¬ Near (t.gap k (ghost j)) ∧ ¬ Near (t.gap (ghost j) k) := by
  unfold State.gap
  rw [h.gx, h.gy]
  rcases agent_or_ghost k with ⟨i, rfl⟩ | ⟨i, rfl⟩
  · rw [h.x, h.y]
    obtain ⟨q, h1, e, e'⟩ := far_gap (hb i).1 (hb i).2
    rw [e, e']
    exact ⟨not_near_far h1, not_near_far h1⟩
  · rw [h.gx, h.gy, far_sub_far, len2_zero]
    exact ⟨not_near_zero, not_near_zero⟩

theorem pull_agent (f : Fin 128 → EReal) (f' : Fin 100 → EReal) (hf : ∀ i, f (agent i) = f' i) (i : Fin 100) :
    pull (fun i j => mask (t.gap i j)) f (agent i) = pull (fun i j => mask (s.gap i j)) f' i := by
  have m0 : ∀ j, mask (t.gap (agent i) (ghost j)) = 0 := fun j => if_neg (unseen h hb _ j).1
  unfold pull
  rw [sum_agents _ m0, sum_agents (fun j => mask (t.gap (agent i) j) * f j) fun j => by rw [m0, zero_mul]]
  simp only [gap_agents h, hf]

theorem push_agent (f : Fin 128 → EReal) (f' : Fin 100 → EReal) (hf : ∀ i, f (agent i) = f' i) (i : Fin 100) :
    push (fun i j => force (t.gap i j)) f (agent i) = push (fun i j => force (s.gap i j)) f' i := by
  unfold push
  rw [sum_agents _ fun j => (congrArg (_ * ·) (show force (t.gap (agent i) (ghost j)) = 0 from if_neg (unseen h hb _ j).1)).trans (mul_zero _)]
  simp only [gap_agents h, hf]

theorem pull_ghost (f : Fin 128 → EReal) (j : Fin 28) : pull (fun i j => mask (t.gap i j)) f (ghost j) = 0 := by
  unfold pull
  rw [Finset.sum_eq_zero fun k _ => show mask (t.gap (ghost j) k) = 0 from if_neg (unseen h hb k j).2, if_neg (lt_irrefl _)]

theorem push_ghost (f : Fin 128 → EReal) (j : Fin 28) : push (fun i j => force (t.gap i j)) f (ghost j) = 0 :=
  Finset.sum_eq_zero fun k _ => (congrArg (_ * ·) (show force (t.gap (ghost j) k) = 0 from if_neg (unseen h hb k j).2)).trans (mul_zero _)

theorem wx_agent (i : Fin 100) : t.wx (agent i) = s.wx i := by
  unfold State.wx
  rw [pull_agent h hb t.vx s.vx h.vx, pull_agent h hb t.x s.x h.x, push_agent h hb t.x s.x h.x, h.vx]
theorem wy_agent (i : Fin 100) : t.wy (agent i) = s.wy i := by
  unfold State.wy
  rw [pull_agent h hb t.vy s.vy h.vy, pull_agent h hb t.y s.y h.y, push_agent h hb t.y s.y h.y, h.vy]
theorem wx_ghost (j : Fin 28) : t.wx (ghost j) = 0 := by
  unfold State.wx
  rw [pull_ghost h hb, pull_ghost h hb, push_ghost h hb, h.gvx]; simp
theorem wy_ghost (j : Fin 28) : t.wy (ghost j) = 0 := by
  unfold State.wy
  rw [pull_ghost h hb, pull_ghost h hb, push_ghost h hb, h.gvy]; simp

theorem cap_rest : cap (len2 0 0) 0 = 0 := by
  unfold cap; split_ifs <;> simp

/-- A step keeps the others where they are. -/
theorem padded_next : Padded s.next t.next where
  x i := by show t.x _ + cap (len2 (t.wx _) (t.wy _)) (t.wx _) * dt = _; rw [wx_agent h hb, wy_agent h hb, h.x]; rfl
  y i := by show t.y _ + cap (len2 (t.wx _) (t.wy _)) (t.wy _) * dt = _; rw [wx_agent h hb, wy_agent h hb, h.y]; rfl
  vx i := by show cap (len2 (t.wx _) (t.wy _)) (t.wx _) = _; rw [wx_agent h hb, wy_agent h hb]; rfl
  vy i := by show cap (len2 (t.wx _) (t.wy _)) (t.wy _) = _; rw [wx_agent h hb, wy_agent h hb]; rfl
  gx j := by show t.x _ + cap (len2 (t.wx _) (t.wy _)) (t.wx _) * dt = _; rw [wx_ghost h hb, wy_ghost h hb, cap_rest h hb, h.gx]; simp
  gy j := by show t.y _ + cap (len2 (t.wx _) (t.wy _)) (t.wy _) * dt = _; rw [wx_ghost h hb, wy_ghost h hb, cap_rest h hb, h.gy]; simp
  gvx j := by show cap (len2 (t.wx _) (t.wy _)) (t.wx _) = _; rw [wx_ghost h hb, wy_ghost h hb, cap_rest h hb]
  gvy j := by show cap (len2 (t.wx _) (t.wy _)) (t.wy _) = _; rw [wx_ghost h hb, wy_ghost h hb, cap_rest h hb]

end

theorem Within.mono {B B' : ℝ} (hB : B ≤ B') {x : EReal} (h : Within B x) : Within B' x :=
  let ⟨r, e, hr⟩ := h; ⟨r, e, hr.trans hB⟩

theorem Bounded.mono {ι : Type} {B B' : ℝ} (hB : B ≤ B') {s : State ι} (h : Bounded B s) : Bounded B' s := fun i =>
  ⟨(h i).1.mono hB, (h i).2.mono hB⟩

/-- The positions that the precondition allows at the start. -/
abbrev start : ℝ := 100000000

theorem bounded_steps {s : State (Fin 100)} (hb : Bounded start s) {k : ℕ} (hk : k ≤ 256) : Bounded 500000000 (s.after k) :=
  (bounded_after hb k).mono (by
    have : (k : ℝ) ≤ 256 := by exact_mod_cast hk
    unfold start; linarith)

theorem padded_after {s : State (Fin 100)} {t : State (Fin 128)} (h : Padded s t) (hb : Bounded start s) :
    ∀ k, k ≤ 256 → Padded (s.after k) (t.after k)
  | 0, _ => h
  | k + 1, hk => padded_next (padded_after h hb k (by omega)) (bounded_steps hb (by omega))

theorem padded_finite {s : State (Fin 100)} {t : State (Fin 128)} (h : Padded s t) (hb : Bounded 500000000 s) (k : Fin 128) :
    (∃ r : ℝ, t.x k = r) ∧ ∃ r : ℝ, t.y k = r := by
  rcases agent_or_ghost k with ⟨i, rfl⟩ | ⟨j, rfl⟩
  · obtain ⟨⟨a, ea, -⟩, ⟨b, eb, -⟩⟩ := hb i
    exact ⟨⟨a, (h.x i).trans ea⟩, ⟨b, (h.y i).trans eb⟩⟩
  · exact ⟨⟨_, (h.gx j).trans far_real⟩, ⟨_, (h.gy j).trans far_real⟩⟩

end Cert.Proof.Pad

end
-- ==== Proof.Start.lean ====
/-
  What the host lines before the launch hand the kernel: the positions and velocities over 128 agents, the first weights over
  128 rows and the table of the permutation; and the precondition read as bounds on the positions.
-/
module

public import proofs.«01_k».proof.Proof.KernelEntry
public import proofs.«01_k».proof.Proof.KStep
public import proofs.«01_k».proof.Proof.Table
public import proofs.«01_k».proof.Proof.RStep
public import proofs.«01_k».proof.Proof.Pad
public import proofs.«01_k».proof.Pre_positions_bounded
public import Idealize.ShloMosaic.Lib.Pointwise
public import Idealize.ShloMosaic.Lib.ReduceAll
public import Idealize.ShloMosaic.Lib.Routing.OpsSet

@[expose] public section

set_option maxRecDepth 16384

noncomputable section

namespace Cert.Proof.Start

open Cert.KernelIdeal Cert.KernelIdeal.Gen
open Idealize.ShloMosaic Cert.Proof.Flock

/-! ## Rows written over the head of a matrix -/

section rows

variable {α : Type} {A B C : Nat} (d : ScatterDims ⟨2, ![A, B]⟩ ⟨1, ![1]⟩ ⟨2, ![C, B]⟩)

/-- Update `(i, j)` lands at `(i, j)`. -/
theorem lands_rows (hu : d.updateWindowDims = [0, 1]) (hi : d.insertedWindowDims = []) (hs : d.scatterDimsToOperandDims = [0])
    (idx : IVec ⟨1, ![1]⟩ 32) (h0 : ∀ q, idx q = 0#32) (k : (⟨2, ![C, B]⟩ : Shape).Idx) (r : Fin A) (c : Fin B) :
    d.resultIdx? k idx = some (ix2 r c) ↔ (k 0).val = r.val ∧ (k 1).val = c.val := by
  have e0 : d.start k idx 0 = 0 := by
    unfold ScatterDims.start
    rw [dif_pos (by rw [hs]; exact List.mem_singleton.2 rfl), h0]; rfl
  have e1 : d.start k idx 1 = 0 := by
    unfold ScatterDims.start
    rw [dif_neg (by rw [hs]; simp)]
  have w0 : d.window k 0 = (k 0).val := by
    obtain ⟨a1, a2, a3, a4, a5⟩ := d
    subst hu hi hs
    rfl
  have w1 : d.window k 1 = (k 1).val := by
    obtain ⟨a1, a2, a3, a4, a5⟩ := d
    subst hu hi hs
    rfl
  refine (Routing.resultIdx?_eq_some d k idx (ix2 r c)).trans ⟨fun h => ?_, fun h a => ?_⟩
  · have h0' := h 0
    have h1' := h 1
    rw [e0, w0] at h0'
    rw [e1, w1] at h1'
    have t0 : ((ix2 r c : (⟨2, ![A, B]⟩ : Shape).Idx) 0).val = r.val := rfl
    have t1 : ((ix2 r c : (⟨2, ![A, B]⟩ : Shape).Idx) 1).val = c.val := rfl
    omega
  · match a with
    | ⟨0, _⟩ => exact (congrArg₂ (· + ·) e0 (congrArg Nat.cast w0)).trans (by rw [zero_add, h.1]; rfl)
    | ⟨1, _⟩ => exact (congrArg₂ (· + ·) e1 (congrArg Nat.cast w1)).trans (by rw [zero_add, h.2]; rfl)

theorem rows_in (hu : d.updateWindowDims = [0, 1]) (hi : d.insertedWindowDims = []) (hs : d.scatterDimsToOperandDims = [0])
    (idx : IVec ⟨1, ![1]⟩ 32) (h0 : ∀ q, idx q = 0#32) (x : (⟨2, ![A, B]⟩ : Shape).Idx → α) (u : (⟨2, ![C, B]⟩ : Shape).Idx → α)
    (r : Fin A) (r' : Fin C) (c : Fin B) (e : r'.val = r.val) : Host.scatter d (fun _ b => b) x idx u (ix2 r c) = u (ix2 r' c) :=
  Routing.scatter_set_hit d x idx u _ _ (fun k hk => by
    obtain ⟨a, b⟩ := (lands_rows d hu hi hs idx h0 k r c).1 hk
    refine congrArg u ?_
    funext q
    match q with
    | ⟨0, _⟩ => exact Fin.ext (a.trans e.symm)
    | ⟨1, _⟩ => exact Fin.ext b) (ix2 r' c) ((lands_rows d hu hi hs idx h0 _ r c).2 ⟨e, rfl⟩)

theorem rows_out (hu : d.updateWindowDims = [0, 1]) (hi : d.insertedWindowDims = []) (hs : d.scatterDimsToOperandDims = [0])
    (idx : IVec ⟨1, ![1]⟩ 32) (h0 : ∀ q, idx q = 0#32) (x : (⟨2, ![A, B]⟩ : Shape).Idx → α) (u : (⟨2, ![C, B]⟩ : Shape).Idx → α)
    (r : Fin A) (c : Fin B) (e : C ≤ r.val) : Host.scatter d (fun _ b => b) x idx u (ix2 r c) = x (ix2 r c) :=
  Routing.scatter_set_miss d x idx u _ fun k hk => by
    have a := ((lands_rows d hu hi hs idx h0 k r c).1 hk).1
    have : (k 0).val < C := (k 0).isLt
    omega

end rows

theorem zero_word (q : S1.Idx) : broadcastInDim S1 ![] bcast_S_S1 (constantI S_ 32 0#32) q = 0#32 := rfl

theorem posPad_agent (p : FVec Ideal S100x2 .f32) (i : Fin 100) (d : Fin 2) : KernelRun.posPad (F := Ideal) p (ix2 (Pad.agent i) d) = p (ix2 i d) :=
  rows_in _ rfl rfl rfl _ zero_word _ p (Pad.agent i) i d rfl
theorem posPad_ghost (p : FVec Ideal S100x2 .f32) (j : Fin 28) (d : Fin 2) : KernelRun.posPad (F := Ideal) p (ix2 (Pad.ghost j) d) = Pad.far :=
  rows_out _ rfl rfl rfl _ zero_word _ p (Pad.ghost j) d (Nat.le_add_right _ _)
theorem velPad_agent (p : FVec Ideal S100x2 .f32) (i : Fin 100) (d : Fin 2) : KernelRun.velPad (F := Ideal) p (ix2 (Pad.agent i) d) = p (ix2 i d) :=
  rows_in _ rfl rfl rfl _ zero_word _ p (Pad.agent i) i d rfl
theorem zero_bits : Ideal.ofBits .f32 0x00000000#32 = 0 := by simp [Ideal.ofBits, Ideal.ieee]
theorem velPad_ghost (p : FVec Ideal S100x2 .f32) (j : Fin 28) (d : Fin 2) : KernelRun.velPad (F := Ideal) p (ix2 (Pad.ghost j) d) = 0 :=
  (rows_out _ rfl rfl rfl _ zero_word _ p (Pad.ghost j) d (Nat.le_add_right _ _)).trans zero_bits
theorem w1Pad_in (w : FVec Ideal S64x3 .f32) (i : Fin 128) (i' : Fin 3) (j : Fin 64) (e : i'.val = i.val) :
    KernelRun.w1Pad (F := Ideal) w (ix2 i j) = w (ix2 j i') := by
  refine (rows_in _ rfl rfl rfl _ zero_word _ (transpose S3x64 [1, 0] w transposes_S64x3_S3x64_1_0) i i' j e).trans ?_
  pointwise
theorem w1Pad_out (w : FVec Ideal S64x3 .f32) (i : Fin 128) (j : Fin 64) (e : 3 ≤ i.val) : KernelRun.w1Pad (F := Ideal) w (ix2 i j) = 0 :=
  (rows_out _ rfl rfl rfl _ zero_word _ (transpose S3x64 [1, 0] w transposes_S64x3_S3x64_1_0) i j e).trans zero_bits

/-! ## The table -/

theorem one_bits : Ideal.ofBits .f32 0x3F800000#32 = 1 := by simp [Ideal.ofBits, Ideal.ieee, -EReal.coe_mul]; norm_num

theorem shuffles : KStep.Shuffles (KernelRun.psig (F := Ideal)) := fun u k => by
  have e : (S128x128.rowMajor (ix2 u k)).val = u.val * 128 + k.val := by
    rw [Shape.rowMajor_val_two]; rfl
  show Ideal.ofBits .f32 (lit0 (S128x128.rowMajor (ix2 u k))) = _
  have hc : (k.val = 8 * (u.val % 16) + u.val / 16) ↔ k = KStep.shuffle u := by
    rw [Fin.ext_iff]; rfl
  erw [table]
  rw [e, show (u.val * 128 + k.val) % 128 = k.val by omega, show (u.val * 128 + k.val) / 128 = u.val by omega]
  by_cases h : k = KStep.shuffle u
  · rw [if_pos h, if_pos (hc.2 h)]; exact one_bits
  · rw [if_neg h, if_neg fun q => h (hc.1 q)]; exact zero_bits

/-! ## The precondition -/

theorem bound_bits : Ideal.ofBits .f32 0x4CBEBC20#32 = ((100000000 : ℝ) : EReal) := by
  simp [Ideal.ofBits, Ideal.ieee, -EReal.coe_mul]; norm_num

theorem within_of_abs {B : ℝ} (x : EReal) (h : max x (-x) ≤ (B : EReal)) : Pad.Within B x := by
  have h1 : x ≤ B := le_trans (le_max_left _ _) h
  have h2 : -x ≤ B := le_trans (le_max_right _ _) h
  induction x using EReal.rec with
  | bot => exact absurd h2 (by simp)
  | top => exact absurd h1 (by simp)
  | coe r =>
    refine ⟨r, rfl, abs_le.2 ⟨?_, EReal.coe_le_coe_iff.1 h1⟩⟩
    rw [← EReal.coe_neg, EReal.coe_le_coe_iff] at h2
    linarith

theorem facts : Cert.Pre_positions_bounded.Facts where
  bcast_S_S100x2 := by decide
  reducesTo_S100x2_S_d0_1 := by decide
  h_S_ := by decide

section pre
variable [Cert.Pre_positions_bounded.Facts]

theorem bounded (a0 : FVec Ideal S256 .f32) (p v : FVec Ideal S100x2 .f32) (a3 : FVec Ideal S64x3 .f32) (a4 : FVec Ideal S64 .f32) (a5 : FVec Ideal S32x64 .f32)
    (a6 a7 a8 : FVec Ideal S32 .f32) (h : Cert.Pre_positions_bounded.fn (F := Ideal) a0 p v a3 a4 a5 a6 a7 a8 = fun _ => 1#1) :
    Pad.Bounded Pad.start (RStep.stateOf p v) := by
  have hs : Subsingleton S_.Idx := ⟨fun a b => funext fun i => i.elim0⟩
  have key : ∀ (i : Fin 100) (d : Fin 2), Pad.Within Pad.start (p (ix2 i d)) := fun i d => by
    have h' := congrFun h (fun i => i.elim0)
    dsimp only [Cert.Pre_positions_bounded.fn] at h'
    have := Host.reduce_andi_all _ _ _ _ _ h' (ix2 i d)
    refine within_of_abs _ ?_
    revert this
    pointwise
    intro hq
    rw [bound_bits] at hq
    by_contra hn
    have hd : decide (FloatOps.absf (p (ix2 i d)) ≤ ((100000000 : ℝ) : EReal)) = false := decide_eq_false hn
    rw [hd] at hq
    exact absurd hq (by decide)
  exact fun i => ⟨key i 0, key i 1⟩
end pre

end Cert.Proof.Start

end
-- ==== Proof.Hist.lean ====
/-
  The kernel's histories of positions: row `k` holds, at the flock's 100 agents, the positions after `k` steps of the plain
  simulation, and at the others the place where they started.
-/
module

public import proofs.«01_k».proof.Proof.Start

@[expose] public section

set_option maxRecDepth 16384

noncomputable section

namespace Cert.Proof.Hist

open Cert.KernelIdeal Cert.KernelIdeal.Gen
open Idealize.ShloMosaic Cert.Proof.Flock Cert.Proof.Start

variable (p v : FVec Ideal S100x2 .f32)

/-- The state of the 128 agents the kernel starts from. -/
def padState : State (Fin 128) where
  x i := KernelRun.posPad (F := Ideal) p (ix2 i 0)
  y i := KernelRun.posPad (F := Ideal) p (ix2 i 1)
  vx i := KernelRun.velPad (F := Ideal) v (ix2 i 0)
  vy i := KernelRun.velPad (F := Ideal) v (ix2 i 1)

theorem padded_start : Pad.Padded (RStep.stateOf p v) (padState p v) where
  x i := posPad_agent p i 0
  y i := posPad_agent p i 1
  vx i := velPad_agent v i 0
  vy i := velPad_agent v i 1
  gx j := posPad_ghost p j 0
  gy j := posPad_ghost p j 1
  gvx j := velPad_ghost v j 0
  gvy j := velPad_ghost v j 1

theorem start_holds (P W : FVec Ideal S128x2 .f32) :
    KStep.Holds (Body.start P W) ⟨fun i => P (ix2 i 0), fun i => P (ix2 i 1), fun i => W (ix2 i 0), fun i => W (ix2 i 1)⟩ where
  x i := by show k0_pay97 (F := Ideal) P (ix2 i 0) = _; pointwise [k0_pay97, k0_pay91]
  y i := by show k0_pay98 (F := Ideal) P (ix2 i 0) = _; pointwise [k0_pay98, k0_pay91]
  vx i := by show k0_pay99 (F := Ideal) W (ix2 i 0) = _; pointwise [k0_pay99, k0_pay92]
  vy i := by show k0_pay100 (F := Ideal) W (ix2 i 0) = _; pointwise [k0_pay100, k0_pay92]
  rx i := by show k0_pay93 (F := Ideal) P (ix2 0 i) = _; pointwise [k0_pay93, k0_pay91]
  ry i := by show k0_pay94 (F := Ideal) P (ix2 0 i) = _; pointwise [k0_pay94, k0_pay91]

/-- The kernel's state after `k` steps. -/
def orbit (k : ℕ) : Body.St Ideal :=
  Body.orbit (KernelRun.psig (F := Ideal)) (Body.start (KernelRun.posPad (F := Ideal) p) (KernelRun.velPad (F := Ideal) v)) k

section bounded
variable (hb : Pad.Bounded Pad.start (RStep.stateOf p v))
include hb

theorem finite_after (k : ℕ) (hk : k ≤ 256) (i : Fin 128) :
    KStep.Fin_ (((padState p v).after k).x i) ∧ KStep.Fin_ (((padState p v).after k).y i) :=
  Pad.padded_finite (Pad.padded_after (padded_start p v) hb k hk) (Pad.bounded_steps hb hk) i

theorem orbit_holds : ∀ k, k ≤ 256 → KStep.Holds (orbit p v k) ((padState p v).after k)
  | 0, _ => start_holds _ _
  | k + 1, hk => (KStep.step_holds _ shuffles _ _ (orbit_holds k (by omega)) (fun i => (finite_after p v hb k (by omega) i).1)
      fun i => (finite_after p v hb k (by omega) i).2).1

theorem histX_at : ∀ k, k ≤ 256 → ∀ i : Fin 128,
    Body.histX (KernelRun.psig (F := Ideal)) (KernelRun.posPad (F := Ideal) p) (KernelRun.velPad (F := Ideal) v) k (ix2 0 i) = ((padState p v).after k).x i
  | 0, _, i => by
    show k0_pay95 (F := Ideal) _ (ix2 0 i) = _
    pointwise [k0_pay95, k0_pay93, k0_pay91]
    rfl
  | k + 1, hk, i => (KStep.step_holds _ shuffles _ _ (orbit_holds p v hb k (by omega)) (fun i => (finite_after p v hb k (by omega) i).1)
      fun i => (finite_after p v hb k (by omega) i).2).2.1 i

theorem histY_at : ∀ k, k ≤ 256 → ∀ i : Fin 128,
    Body.histY (KernelRun.psig (F := Ideal)) (KernelRun.posPad (F := Ideal) p) (KernelRun.velPad (F := Ideal) v) k (ix2 0 i) = ((padState p v).after k).y i
  | 0, _, i => by
    show k0_pay96 (F := Ideal) _ (ix2 0 i) = _
    pointwise [k0_pay96, k0_pay94, k0_pay91]
    rfl
  | k + 1, hk, i => (KStep.step_holds _ shuffles _ _ (orbit_holds p v hb k (by omega)) (fun i => (finite_after p v hb k (by omega) i).1)
      fun i => (finite_after p v hb k (by omega) i).2).2.2 i

end bounded

end Cert.Proof.Hist

end
-- ==== Proof.Graph.lean ====
/-
  Components of a finite graph in three forms: walks of a given length, the marks a squared matrix leaves, and the least
  label that reaches a point after so many rounds.
-/
module

public import Idealize.ShloMosaic.PureOps
public import Idealize.ShloMosaic.PureOps.Ideal
public import Idealize.ShloMosaic.PureOps.Reduce
public import Mathlib.Order.Monotone.Basic
public import Mathlib.Data.Fintype.Card
public import Mathlib.Algebra.BigOperators.Fin
public import Mathlib.Data.EReal.Operations
public import Mathlib.Algebra.Order.BigOperators.Group.Finset

@[expose] public section

noncomputable section

namespace Cert.Proof.Graph

open Idealize.ShloMosaic

variable {ι : Type}

/-- A walk of exactly `k` edges. -/
def Walk (A : ι → ι → Prop) : ℕ → ι → ι → Prop
  | 0, i, j => i = j
  | k + 1, i, j => ∃ m, A i m ∧ Walk A k m j

variable {A : ι → ι → Prop}

theorem walk_one (i j : ι) : Walk A 1 i j ↔ A i j :=
  ⟨fun ⟨_, h, e⟩ => e ▸ h, fun h => ⟨j, h, rfl⟩⟩

theorem walk_add (a b : ℕ) : ∀ i j : ι, Walk A (a + b) i j ↔ ∃ m, Walk A a i m ∧ Walk A b m j := by
  induction a with
  | zero => exact fun i j => by rw [Nat.zero_add]; exact ⟨fun h => ⟨i, rfl, h⟩, fun ⟨_, e, h⟩ => e ▸ h⟩
  | succ a ih =>
    intro i j
    rw [Nat.succ_add]
    constructor
    · rintro ⟨m, hm, h⟩
      obtain ⟨n, h1, h2⟩ := (ih m j).1 h
      exact ⟨n, ⟨m, hm, h1⟩, h2⟩
    · rintro ⟨n, ⟨m, hm, h1⟩, h2⟩
      exact ⟨m, hm, (ih m j).2 ⟨n, h1, h2⟩⟩

theorem walk_refl (hA : ∀ i, A i i) : ∀ (k : ℕ) (i : ι), Walk A k i i
  | 0, _ => rfl
  | k + 1, i => ⟨i, hA i, walk_refl hA k i⟩

/-- In a graph with all its loops on `n` points the walks of length `n` reach all that longer ones do. -/
theorem walk_long [Fintype ι] (hA : ∀ i, A i i) {k : ℕ} (hk : Fintype.card ι ≤ k) (i j : ι) :
    Walk A k i j ↔ Walk A (Fintype.card ι) i j := by
  classical
  let T : ℕ → Finset ι := fun k => Finset.univ.filter fun i => Walk A k i j
  have mT : ∀ k i, i ∈ T k ↔ Walk A k i j := fun k i => by simp [T]
  have step : ∀ k, T k ⊆ T (k + 1) := fun k i hi => (mT _ _).2 ⟨i, hA i, (mT _ _).1 hi⟩
  have mono : Monotone T := monotone_nat_of_le_succ step
  have stab : ∀ k, T k = T (k + 1) → T (k + 1) = T (k + 2) := fun k e => by
    ext i
    rw [mT, mT]
    exact exists_congr fun m => and_congr_right fun _ => by rw [← mT, ← mT, e]
  have key := Nat.stabilises_of_monotone (f := fun k => (T k).card) (b := Fintype.card ι) (n := k)
    (fun a b h => Finset.card_le_card (mono h)) (fun m => Finset.card_le_univ _)
    (fun m h => congrArg Finset.card (stab m (Finset.eq_of_subset_of_card_le (step m) (le_of_eq h.symm)))) hk
  rw [← mT, ← mT, Finset.eq_of_subset_of_card_le (mono hk) (le_of_eq key)]

/-! ## Matrices that mark a relation -/

/-- The entries are nonnegative, and positive where `P` holds. -/
def Marks (M : ι → ι → EReal) (P : ι → ι → Prop) : Prop := ∀ i j, 0 ≤ M i j ∧ (0 < M i j ↔ P i j)

theorem mul_pos_iff' {a b : EReal} (ha : 0 ≤ a) (hb : 0 ≤ b) : 0 < a * b ↔ 0 < a ∧ 0 < b := by
  constructor
  · intro h
    refine ⟨lt_of_le_of_ne ha ?_, lt_of_le_of_ne hb ?_⟩
    · rintro rfl; simp at h
    · rintro rfl; simp at h
  · exact fun h => EReal.mul_pos h.1 h.2

theorem marks_mul [Fintype ι] {M : ι → ι → EReal} {a : ℕ} (h : Marks M (Walk A a)) :
    Marks (fun i j => ∑ k, M i k * M k j) (Walk A (a + a)) := fun i j => by
  have nn : ∀ k ∈ Finset.univ, 0 ≤ M i k * M k j := fun k _ => mul_nonneg (h i k).1 (h k j).1
  refine ⟨Finset.sum_nonneg nn, ?_⟩
  rw [walk_add, lt_iff_le_and_ne, and_iff_right (Finset.sum_nonneg nn), ne_comm, Ne, Finset.sum_eq_zero_iff_of_nonneg nn]
  push Not
  refine exists_congr fun k => ?_
  rw [and_iff_right (Finset.mem_univ k), ← (h i k).2, ← (h k j).2, ← mul_pos_iff' (h i k).1 (h k j).1]
  exact ⟨fun q => lt_of_le_of_ne (nn k (Finset.mem_univ k)) q.symm, fun q => q.ne'⟩

theorem marks_bits {M : ι → ι → EReal} {P : ι → ι → Prop} (h : Marks M P) (N : ι → ι → EReal)
    (hN : ∀ i j, N i j = if 0 < M i j then 1 else 0) : Marks N P := fun i j => by
  rw [hN, ← (h i j).2]
  by_cases q : 0 < M i j <;> simp [q]

/-! ## The least word of a row -/

/-- A small number as a word. -/
def word (x : Fin (2 ^ 31)) : BitVec 32 := BitVec.ofNat 32 x.val

theorem word_toInt (x : Fin (2 ^ 31)) : (word x).toInt = x.val := by
  have := x.isLt
  unfold word
  rw [BitVec.toInt_eq_toNat_of_lt (by rw [BitVec.toNat_ofNat]; omega), BitVec.toNat_ofNat]
  omega

theorem word_inj {x y : Fin (2 ^ 31)} : word x = word y ↔ x = y := by
  refine ⟨fun h => ?_, fun h => h ▸ rfl⟩
  have := congrArg BitVec.toInt h
  rw [word_toInt, word_toInt] at this
  exact Fin.ext (by exact_mod_cast this)

theorem word_min (x y : Fin (2 ^ 31)) : IntOp.minsi (word x) (word y) = word (min x y) := by
  unfold IntOp.minsi
  rw [BitVec.slt_eq_decide, word_toInt, word_toInt]
  by_cases h : x < y
  · have h' : ((x.val : ℤ) < y.val) := by exact_mod_cast h
    rw [if_pos (decide_eq_true h'), min_eq_left h.le]
  · have h' : ¬ ((x.val : ℤ) < y.val) := fun q => h (by exact_mod_cast q)
    rw [if_neg (by simpa using h'), min_eq_right (not_lt.1 h)]

/-- The largest word. -/
def largest : Fin (2 ^ 31) := ⟨2147483647, by norm_num⟩

theorem least_word {n : ℕ} (g : Fin n → Fin (2 ^ 31)) (m : Fin n) (hm : ∀ j, g m ≤ g j) : Finset.univ.fold IntOp.minsi 2147483647#32 (fun j => word (g j)) = word (g m) := by
  refine (Finset.fold_hom (m := word) (op := min) (op' := IntOp.minsi) (b := largest) (f := g) (s := Finset.univ) fun x y => (word_min x y).symm).trans ?_
  refine congrArg word (le_antisymm ((Finset.fold_min_le _).2 (Or.inr ⟨m, Finset.mem_univ _, le_rfl⟩)) ((Finset.le_fold_min _).2 ⟨?_, fun j _ => hm j⟩))
  have := (g m).isLt
  exact Fin.le_def.2 (show (g m).val ≤ 2147483647 by omega)

/-- A point among `n`, or the number of points, as a label. -/
def label {n : ℕ} (hn : n ≤ 1000) (j : Fin n) : Fin (2 ^ 31) := ⟨j.val, by have := j.isLt; omega⟩
def beyond {n : ℕ} (hn : n ≤ 1000) : Fin (2 ^ 31) := ⟨n, by omega⟩

open Classical in
/-- The labels after `k` rounds: each the least point within `k` steps. -/
def Labels {n : ℕ} (A : Fin n → Fin n → Prop) (k : ℕ) (w : Fin n → BitVec 32) : Prop :=
  ∃ l : Fin n → Fin n, (∀ i, w i = BitVec.ofNat 32 (l i).val) ∧ ∀ i, Walk A k i (l i) ∧ ∀ j, Walk A k i j → l i ≤ j

open Classical in
theorem labels_round {n : ℕ} (hn : n ≤ 1000) {A : Fin n → Fin n → Prop} (hA : ∀ i, A i i) {k : ℕ} {w w' : Fin n → BitVec 32} (h : Labels A k w)
    (e : ∀ i, w' i = IntOp.minsi (w i) (Finset.univ.fold IntOp.minsi 2147483647#32 fun j => if A i j then w j else BitVec.ofNat 32 n)) :
    Labels A (k + 1) w' := by
  obtain ⟨l, hl, hw⟩ := h
  have ex : ∀ i, ∃ m, A i m ∧ ∀ j, A i j → l m ≤ l j := fun i => by
    obtain ⟨m, hm, q⟩ := Finset.exists_min_image (Finset.univ.filter (A i)) l ⟨i, by simp [hA i]⟩
    exact ⟨m, by simpa using hm, fun j hj => q j (by simpa using hj)⟩
  choose m hm hmin using ex
  refine ⟨fun i => l (m i), fun i => ?_, fun i => ⟨⟨m i, hm i, (hw _).1⟩, fun j => ?_⟩⟩
  · have key := least_word (fun j => if A i j then label hn (l j) else beyond hn) (m i) fun j => by
      rw [if_pos (hm i)]
      split_ifs with q
      · exact Fin.le_def.2 (hmin i j q)
      · exact Fin.le_def.2 (l (m i)).isLt.le
    rw [if_pos (hm i)] at key
    have row : (fun j => if A i j then w j else BitVec.ofNat 32 n) = fun j => word (if A i j then label hn (l j) else beyond hn) := by
      funext j
      split_ifs with q
      · rw [hl]; rfl
      · rfl
    rw [e, row, key, hl, show BitVec.ofNat 32 (l i).val = word (label hn (l i)) from rfl, word_min]
    exact congrArg word (min_eq_right (Fin.le_def.2 (hmin i i (hA i))))
  · rintro ⟨q, hq, hj⟩
    exact (hmin i q hq).trans ((hw q).2 j hj)

theorem labels_start {n : ℕ} {A : Fin n → Fin n → Prop} : Labels A 0 fun i => BitVec.ofNat 32 i.val :=
  ⟨id, fun _ => rfl, fun i => ⟨rfl, fun j e => le_of_eq e⟩⟩

theorem labels_self {n : ℕ} (hn : n ≤ 1000) {A : Fin n → Fin n → Prop} (hA : ∀ i, A i i) {k : ℕ} {w : Fin n → BitVec 32} (h : Labels A k w) (i : Fin n) :
    w i = BitVec.ofNat 32 i.val ↔ ∀ j, Walk A k i j → i ≤ j := by
  obtain ⟨l, hl, hw⟩ := h
  rw [hl]
  constructor
  · intro e j hj
    have e' := word_inj.1 (show word (label hn (l i)) = word (label hn i) from e)
    have : l i = i := Fin.ext (congrArg (fun x : Fin (2 ^ 31) => x.val) e')
    rw [← this]; exact (hw i).2 j hj
  · intro q
    rw [le_antisymm ((hw i).2 i (walk_refl hA k i)) (q _ (hw i).1)]

open Classical in
theorem row_self {n : ℕ} (hn : n ≤ 1000) {P : Fin n → Fin n → Prop} (i : Fin n) (hi : P i i) :
    (Finset.univ.fold IntOp.minsi 2147483647#32 fun j => if P i j then BitVec.ofNat 32 j.val else BitVec.ofNat 32 n) = BitVec.ofNat 32 i.val
      ↔ ∀ j, P i j → i ≤ j := by
  have row : (fun j => if P i j then BitVec.ofNat 32 j.val else BitVec.ofNat 32 n) = fun j => word (if P i j then label hn j else beyond hn) := by
    funext j
    split_ifs <;> rfl
  rw [row]
  constructor
  · intro e j hj
    obtain ⟨m, -, hm⟩ := Finset.exists_min_image Finset.univ (fun j => if P i j then label hn j else beyond hn) ⟨i, Finset.mem_univ i⟩
    rw [least_word _ m fun j => hm j (Finset.mem_univ j)] at e
    have e' := word_inj.1 (show _ = word (label hn i) from e)
    have := hm j (Finset.mem_univ j)
    rw [e', if_pos hj] at this
    exact this
  · intro q
    rw [least_word _ i fun j => ?_, if_pos hi]
    · rfl
    · rw [if_pos hi]
      split_ifs with h
      · exact q j h
      · exact Fin.le_def.2 i.isLt.le

end Cert.Proof.Graph

end
-- ==== Proof.Metrics.lean ====
/-
  The three metrics of a step as plain mathematics: the polarization from the velocities, the clustering and the number of
  groups from the squared distances of pairs.
-/
module

public import proofs.«01_k».proof.Proof.Flock
public import proofs.«01_k».proof.Proof.Graph
public import proofs.«01_k».proof.Proof.Pad

@[expose] public section

noncomputable section

namespace Cert.Proof.Metrics

open Idealize.ShloMosaic Cert.Proof.Flock Cert.Proof.Graph

/-- How many pairs there are. -/
def pairs : EReal := Ideal.ofBits .f32 0x461C4000#32

/-- The mean velocity's length over the radius. -/
def polar (vx vy : Fin 100 → EReal) : EReal :=
  Ideal.div (Ideal.sqrt (len2 (Ideal.div (∑ i, vx i) hundred) (Ideal.div (∑ i, vy i) hundred))) rad

/-- One over one more than the mean distance. -/
def cluster (q : Fin 100 → Fin 100 → EReal) : EReal := Ideal.div 1 (1 + Ideal.div (∑ i, ∑ j, root (q i j)) pairs)

/-- Two agents are linked. -/
def Linked (q : Fin 100 → Fin 100 → EReal) (i j : Fin 100) : Prop := root (q i j) < rad

/-- An agent is the least of its group. -/
def Least (q : Fin 100 → Fin 100 → EReal) (i : Fin 100) : Prop := ∀ j, Walk (Linked q) 100 i j → i ≤ j

open Classical in
/-- The number of groups per agent. -/
def fragment (q : Fin 100 → Fin 100 → EReal) : EReal := Ideal.div (∑ i, if Least q i then 1 else 0) hundred

theorem rad_pos : 0 < rad := by
  obtain ⟨ρ, e, h, -⟩ := Pad.rad_real
  rw [e]; exact_mod_cast h

theorem linked_self {q : Fin 100 → Fin 100 → EReal} (h : ∀ i, q i i = 0) (i : Fin 100) : Linked q i i := by
  unfold Linked
  rw [h, Pad.root_zero]
  exact rad_pos

/-- The three metrics of a state. -/
def triple (s : State (Fin 100)) : Fin 3 → EReal
  | 0 => polar s.vx s.vy
  | 1 => cluster s.gap
  | 2 => fragment s.gap

theorem gap_self {B : ℝ} {s : State (Fin 100)} (h : Pad.Bounded B s) (i : Fin 100) : s.gap i i = 0 := by
  obtain ⟨⟨a, ea, -⟩, ⟨b, eb, -⟩⟩ := h i
  unfold State.gap
  rw [ea, eb, ← EReal.coe_sub, ← EReal.coe_sub, Pad.len2_real]
  simp

/-! ## The encoder -/

section encoder

variable (f : Fin 3 → EReal) (w1 : Fin 64 → Fin 3 → EReal) (b1 : Fin 64 → EReal) (w2 : Fin 32 → Fin 64 → EReal) (b2 g b : Fin 32 → EReal)

/-- The hidden layer, the output layer, its mean, its deviations and their mean square. -/
def hidden (j : Fin 64) : EReal := max (∑ k, f k * w1 j k + b1 j) 0
def output (o : Fin 32) : EReal := ∑ j, hidden f w1 b1 j * w2 o j + b2 o
def width : EReal := Ideal.ofBits .f32 0x42000000#32
def mean (h : Fin 32 → EReal) : EReal := Ideal.div (∑ o, h o) width
def deviation (h : Fin 32 → EReal) (o : Fin 32) : EReal := h o - mean h
def spread (h : Fin 32 → EReal) : EReal := Ideal.div (∑ o, deviation h o * deviation h o) width
/-- The normalized layer. -/
def normal (h g b : Fin 32 → EReal) (o : Fin 32) : EReal :=
  Ideal.div (deviation h o) (Ideal.sqrt (spread h + Ideal.ofBits .f32 0x3727C5AC#32)) * g o + b o

end encoder

end Cert.Proof.Metrics

end
-- ==== Proof.RFeat.lean ====
/-
  The reference's metrics, read at one step: the plain metrics of the positions and velocities the scan stored.
-/
module

public import proofs.«01_k».proof.Proof.RStep
public import proofs.«01_k».proof.Proof.Metrics
public import Idealize.ShloMosaic.Lib.Pointwise

@[expose] public section

set_option maxRecDepth 16384

noncomputable section

namespace Cert.Proof.RFeat

open Idealize.ShloMosaic Idealize.ShloMosaic.TcCoe Idealize.ShloMosaic.StableHlo
open Cert.ReferenceIdeal Cert.ReferenceIdeal.Gen Cert.Proof.RefOps Cert.Proof.RefRun Cert.Proof.Flock Cert.Proof.Metrics

/-! ## The operations between and after the loops, as functions -/

def diffsOf (h : FVec Ideal S256x100x2 .f32) : FVec Ideal S256x100x100x2 .f32 :=
  subf (broadcastInDim S256x100x100x2 ![0, 1, 2, 3] bcast_S256x100x1x2_S256x100x100x2_0_1_2_3
      (broadcastInDim S256x100x1x2 ![0, 1, 3] bcast_S256x100x2_S256x100x1x2_0_1_3 h))
    (broadcastInDim S256x100x100x2 ![0, 1, 2, 3] bcast_S256x1x100x2_S256x100x100x2_0_1_2_3
      (broadcastInDim S256x1x100x2 ![0, 2, 3] bcast_S256x100x2_S256x1x100x2_0_2_3 h))
def gapsOf (h : FVec Ideal S256x100x2 .f32) : FVec Ideal S256x100x100 .f32 :=
  Host.reduceAdd (mulf (diffsOf h) (diffsOf h)) (constant S_ .f32 0x00000000#32) reducesTo_S256x100x100x2_S256x100x100_d3 h_S_
def apartsOf (q : FVec Ideal S256x100x100 .f32) : IVec S256x100x100 1 :=
  cmpf .ogt q (broadcastInDim S256x100x100 ![] bcast_S_S256x100x100 (constant S_ .f32 0x00000000#32))
def distsOf (q : FVec Ideal S256x100x100 .f32) : FVec Ideal S256x100x100 .f32 :=
  mulf (Host.sqrt (select (apartsOf q) q (broadcastInDim S256x100x100 ![] bcast_S_S256x100x100 (constant S_ .f32 0x3F800000#32)))) (uitofp .f32 (apartsOf q))
def meanVelOf (w : FVec Ideal S256x100x2 .f32) : FVec Ideal S256x2 .f32 :=
  Host.divf (Host.reduceAdd w (constant S_ .f32 0x00000000#32) reducesTo_S256x100x2_S256x2_d1 h_S_)
    (broadcastInDim S256x2 ![] bcast_S_S256x2 (constant S_ .f32 0x42C80000#32))
def polarOf (w : FVec Ideal S256x100x2 .f32) : FVec Ideal S256 .f32 :=
  Host.divf (Host.sqrt (Host.reduceAdd (mulf (meanVelOf w) (meanVelOf w)) (constant S_ .f32 0x00000000#32) reducesTo_S256x2_S256_d1 h_S_))
    (broadcastInDim S256 ![] bcast_S_S256 (constant S_ .f32 0x3DCCCCCD#32))
def clusterOf (r : FVec Ideal S256x100x100 .f32) : FVec Ideal S256 .f32 :=
  Host.divf (broadcastInDim S256 ![] bcast_S_S256 (constant S_ .f32 0x3F800000#32))
    (addf (broadcastInDim S256 ![] bcast_S_S256 (constant S_ .f32 0x3F800000#32))
      (Host.divf (Host.reduceAdd r (constant S_ .f32 0x00000000#32) reducesTo_S256x100x100_S256_d1_2 h_S_)
        (broadcastInDim S256 ![] bcast_S_S256 (constant S_ .f32 0x461C4000#32))))
def linksOf (r : FVec Ideal S256x100x100 .f32) : IVec S256x100x100 1 :=
  cmpf .olt r (broadcastInDim S256x100x100 ![] bcast_S_S256x100x100 (constant S_ .f32 0x3DCCCCCD#32))
def numbers : IVec S256x100 32 :=
  broadcastInDim S256x100 ![0, 1] bcast_S1x100_S256x100_0_1 (broadcastInDim S1x100 ![1] bcast_S100_S1x100_1 (iotaInDim S100 32 0))
def roundOf (a : IVec S256x100x100 1) (l : IVec S256x100 32) : IVec S256x100 32 :=
  minsi l (Host.reduce IntOp.minsi (select a
      (broadcastInDim S256x100x100 ![0, 1, 2] bcast_S256x1x100_S256x100x100_0_1_2 (broadcastInDim S256x1x100 ![0, 2] bcast_S256x100_S256x1x100_0_2 l))
      (broadcastInDim S256x100x100 ![] bcast_S_S256x100x100 (constantI S_ 32 100#32)))
    (constantI S_ 32 2147483647#32) reducesTo_S256x100x100_S256x100_d2 h_S_)
def fragmentOf (l : IVec S256x100 32) : FVec Ideal S256 .f32 :=
  Host.divf (sitofp .f32 (Host.reduce IntOp.addi (extui 32 (cmpi .eq l numbers) natLt_1_32) (constantI S_ 32 0#32) reducesTo_S256x100_S256_d1 h_S_))
    (broadcastInDim S256 ![] bcast_S_S256 (constant S_ .f32 0x42C80000#32))

/-! ## What each window of operations leaves -/

section windows
variable (V : Valuation τ sig (Elt Ideal))

theorem gaps_gaps : after gaps V (Proc.devRef .tc main_v9) = gapsOf (V (Proc.devRef .tc main_v2_3)) := by
  after_results; rfl
theorem dists_dists : after gapDist V (Proc.devRef .tc main_v15) = distsOf (V (Proc.devRef .tc main_v9)) := by
  after_results; rfl
theorem polar_polar : after RefOps.polar V (Proc.devRef .tc main_v23) = polarOf (V (Proc.devRef .tc main_v2_4)) := by
  after_results; rfl
theorem cluster_cluster : after RefOps.cluster V (Proc.devRef .tc main_v30) = clusterOf (V (Proc.devRef .tc main_v15)) := by
  after_results; rfl
theorem links_links : after links V (Proc.devRef .tc main_v36_0) = linksOf (V (Proc.devRef .tc main_v15)) := by
  after_results; rfl
theorem links_numbers : after links V (Proc.devRef .tc main_v35) = numbers := by
  after_results; rfl
theorem labels_labels : after labels0 V (Proc.devRef .tc main_v36_3) = V (Proc.devRef .tc main_v35) := by
  after_results; rfl
theorem round_round : after round V (Proc.devRef .tc main_v36_3) = roundOf (V (Proc.devRef .tc main_v36_0)) (V (Proc.devRef .tc main_v36_3)) := by
  after_results
  unfold roundOf
  rw [id]
  refine congrArg (minsi _) (congrArg (fun x => Host.reduce IntOp.minsi x _ _ _) ?_)
  rfl
theorem fragment_fragment : after RefOps.fragment V (Proc.devRef .tc main_v45) = fragmentOf (V (Proc.devRef .tc main_v36_3)) := by
  after_results; rfl
end windows

/-! ## The functions at an index -/

theorem gaps_apply (h : FVec Ideal S256x100x2 .f32) (t : Fin 256) (i j : Fin 100) :
    gapsOf h (ix3 t i j) = len2 (h (ix3 t i 0) - h (ix3 t j 0)) (h (ix3 t i 1) - h (ix3 t j 1)) := by
  pointwise [gapsOf, diffsOf]
  rw [Fin.sum_univ_two]
  rfl
theorem dists_apply (q : FVec Ideal S256x100x100 .f32) (t : Fin 256) (i j : Fin 100) : distsOf q (ix3 t i j) = root (q (ix3 t i j)) := by
  pointwise [distsOf, apartsOf]
  rw [RStep.bool_float]
  exact RStep.guarded (q (ix3 t i j))
theorem polar_apply (w : FVec Ideal S256x100x2 .f32) (t : Fin 256) :
    polarOf w (ix1 t) = Metrics.polar (fun i => w (ix3 t i 0)) (fun i => w (ix3 t i 1)) := by
  pointwise [polarOf, meanVelOf]
  rw [Fin.sum_univ_two]
  rfl
theorem cluster_apply (r : FVec Ideal S256x100x100 .f32) (t : Fin 256) (q : Fin 100 → Fin 100 → EReal) (h : ∀ i j, r (ix3 t i j) = root (q i j)) :
    clusterOf r (ix1 t) = Metrics.cluster q := by
  unfold Metrics.cluster
  simp only [← h]
  pointwise [clusterOf]
  rfl
theorem bit_iff (P : Prop) [Decidable P] : BitVec.ofBool (decide P) = 1#1 ↔ P := by
  by_cases h : P <;> simp [h]
theorem links_apply (r : FVec Ideal S256x100x100 .f32) (t : Fin 256) (q : Fin 100 → Fin 100 → EReal) (h : ∀ i j, r (ix3 t i j) = root (q i j)) (i j : Fin 100) :
    linksOf r (ix3 t i j) = 1#1 ↔ Linked q i j := by
  unfold Linked
  rw [← h]
  pointwise [linksOf]
  refine (bit_iff _).trans ?_
  exact Iff.rfl
theorem numbers_apply (t : Fin 256) (i : Fin 100) : numbers (ix2 t i) = BitVec.ofNat 32 i.val := by
  pointwise [numbers]
theorem round_apply (a : IVec S256x100x100 1) (l : IVec S256x100 32) (t : Fin 256) (i : Fin 100) :
    roundOf a l (ix2 t i) = IntOp.minsi (l (ix2 t i))
      (Finset.univ.fold IntOp.minsi 2147483647#32 fun j => if a (ix3 t i j) = 1#1 then l (ix2 t j) else 100#32) := by
  pointwise [roundOf]
  rfl
theorem count_words (b : Fin 100 → BitVec 1) : Finset.univ.fold IntOp.addi 0#32 (fun x => BitVec.setWidth 32 (b x))
    = BitVec.ofNat 32 (∑ x, if b x = 1#1 then 1 else 0) := by
  generalize (Finset.univ : Finset (Fin 100)) = s
  classical
  induction s using Finset.induction_on with
  | empty => rfl
  | insert a s ha ih =>
    rw [Finset.fold_insert ha, Finset.sum_insert ha, ih, BitVec.ofNat_add]
    have : ∀ c : BitVec 1, BitVec.setWidth 32 c = BitVec.ofNat 32 (if c = 1#1 then 1 else 0) := by decide
    rw [← this]; rfl
theorem cast_count (P : Fin 100 → Prop) [DecidablePred P] (s : Finset (Fin 100)) :
    ((((∑ x ∈ s, if P x then 1 else 0 : ℕ) : ℤ) : ℝ) : EReal) = ∑ x ∈ s, if P x then (1 : EReal) else 0 := by
  induction s using Finset.induction_on with
  | empty => simp
  | insert a s ha ih =>
    rw [Finset.sum_insert ha, Finset.sum_insert ha, ← ih]
    push_cast
    split_ifs <;> simp
theorem fragment_apply (l : IVec S256x100 32) (t : Fin 256) (P : Fin 100 → Prop) [DecidablePred P] (h : ∀ i, l (ix2 t i) = BitVec.ofNat 32 i.val ↔ P i) :
    fragmentOf l (ix1 t) = Ideal.div (∑ i, if P i then 1 else 0) hundred := by
  pointwise [fragmentOf, numbers]
  rw [count_words]
  have hP : ∀ i, IntOp.cmpi .eq (l (ix2 t i)) (BitVec.ofNat 32 i.val) = 1#1 ↔ P i := fun i => by
    rw [← h i]
    refine Iff.trans (b := BitVec.ofBool (l (ix2 t i) == BitVec.ofNat 32 i.val) = 1#1) Iff.rfl ?_
    by_cases e : l (ix2 t i) = BitVec.ofNat 32 i.val
    · simp [e]
    · exact ⟨fun q => (by rw [show (l (ix2 t i) == BitVec.ofNat 32 i.val) = false from beq_eq_false_iff_ne.2 e] at q; exact absurd q (by decide)), fun q => absurd q e⟩
  simp only [hP]
  refine congrArg (Ideal.div · hundred) ?_
  have le : (∑ i : Fin 100, if P i then 1 else 0 : ℕ) ≤ 100 :=
    (Finset.sum_le_sum fun i _ => show (if P i then 1 else 0 : ℕ) ≤ 1 by split_ifs <;> omega).trans (by simp)
  refine (show FloatOps.sitofp (F := Ideal) .f32 _ = (((BitVec.ofNat 32 (∑ i : Fin 100, if P i then 1 else 0)).toInt : ℝ) : EReal) from rfl).trans ?_
  rw [WordCmp.toInt_ofNat_of_lt (by omega)]
  exact cast_count P Finset.univ

end Cert.Proof.RFeat

end
-- ==== Proof.RRead.lean ====
/-
  The reference's four results, read at an index: the plain metrics after each step, and the plain encoding of them.
-/
module

public import proofs.«01_k».proof.Proof.RFeat

@[expose] public section

set_option maxRecDepth 16384

noncomputable section

namespace Cert.Proof.RRead

open Idealize.ShloMosaic Idealize.ShloMosaic.TcCoe Idealize.ShloMosaic.StableHlo
open Cert.ReferenceIdeal Cert.ReferenceIdeal.Gen Cert.Proof.RefOps Cert.Proof.RefRun Cert.Proof.Flock Cert.Proof.Metrics Cert.Proof.RFeat

/-! ## The table of metrics and the encoder, as functions -/

def tableOf (a b d : FVec Ideal S256 .f32) : FVec Ideal S256x3 .f32 :=
  concatenate S256x3 1 [⟨S256x1, broadcastInDim S256x1 ![0] bcast_S256_S256x1_0 a⟩, ⟨S256x1, broadcastInDim S256x1 ![0] bcast_S256_S256x1_0 b⟩,
    ⟨S256x1, broadcastInDim S256x1 ![0] bcast_S256_S256x1_0 d⟩] concatenates_S256x1_S256x1_S256x1_S256x3_d1
def layersOf (f : FVec Ideal S256x3 .f32) (w1 : FVec Ideal S64x3 .f32) (b1 : FVec Ideal S64 .f32) (w2 : FVec Ideal S32x64 .f32) (b2 : FVec Ideal S32 .f32) :
    FVec Ideal S256x32 .f32 :=
  addf (Host.dotGeneral dot_S256x64_S64x32_S256x32_1_0_0_1_n_n none
      (maximumf (addf (Host.dotGeneral dot_S256x3_S3x64_S256x64_1_0_0_1_n_n none f (transpose S3x64 [1, 0] w1 transposes_S64x3_S3x64_1_0))
          (broadcastInDim S256x64 ![0, 1] bcast_S1x64_S256x64_0_1 (broadcastInDim S1x64 ![1] bcast_S64_S1x64_1 b1)))
        (broadcastInDim S256x64 ![] bcast_S_S256x64 (constant S_ .f32 0x00000000#32)))
      (transpose S64x32 [1, 0] w2 transposes_S32x64_S64x32_1_0))
    (broadcastInDim S256x32 ![0, 1] bcast_S1x32_S256x32_0_1 (broadcastInDim S1x32 ![1] bcast_S32_S1x32_1 b2))
def columnMean (h : FVec Ideal S256x32 .f32) : FVec Ideal S256x1 .f32 :=
  Host.divf (broadcastInDim S256x1 ![0] bcast_S256_S256x1_0 (Host.reduceAdd h (constant S_ .f32 0x00000000#32) reducesTo_S256x32_S256_d1 h_S_))
    (broadcastInDim S256x1 ![] bcast_S_S256x1 (constant S_ .f32 0x42000000#32))
def devOf (h : FVec Ideal S256x32 .f32) : FVec Ideal S256x32 .f32 :=
  subf h (broadcastInDim S256x32 ![0, 1] bcast_S256x1_S256x32_0_1 (columnMean h))
def spreadOf (h : FVec Ideal S256x32 .f32) : FVec Ideal S256x1 .f32 :=
  addf (columnMean (mulf (devOf h) (devOf h))) (broadcastInDim S256x1 ![] bcast_S_S256x1 (constant S_ .f32 0x3727C5AC#32))
def encodeOf (d : FVec Ideal S256x32 .f32) (s : FVec Ideal S256x1 .f32) (g b : FVec Ideal S32 .f32) : FVec Ideal S256x32 .f32 :=
  addf (mulf (Host.divf d (broadcastInDim S256x32 ![0, 1] bcast_S256x1_S256x32_0_1 (Host.sqrt s)))
      (broadcastInDim S256x32 ![0, 1] bcast_S1x32_S256x32_0_1 (broadcastInDim S1x32 ![1] bcast_S32_S1x32_1 g)))
    (broadcastInDim S256x32 ![0, 1] bcast_S1x32_S256x32_0_1 (broadcastInDim S1x32 ![1] bcast_S32_S1x32_1 b))

section windows
variable (V : Valuation τ sig (Elt Ideal))

theorem metrics_table : after metrics V (Proc.devRef .tc main_v49)
    = tableOf (V (Proc.devRef .tc main_v23)) (V (Proc.devRef .tc main_v30)) (V (Proc.devRef .tc main_v45)) := by
  after_results; rfl
theorem layers_layers : after layers V (Proc.devRef .tc main_v61)
    = layersOf (V (Proc.devRef .tc main_v49)) (V (Proc.devRef .tc main_arg3)) (V (Proc.devRef .tc main_arg4)) (V (Proc.devRef .tc main_arg5)) (V (Proc.devRef .tc main_arg6)) := by
  after_results; rfl
theorem norm_dev : after norm V (Proc.devRef .tc main_v74) = devOf (V (Proc.devRef .tc main_v61)) := by
  after_results; rfl
theorem norm_spread : after norm V (Proc.devRef .tc main_v76) = spreadOf (V (Proc.devRef .tc main_v61)) := by
  after_results; rfl
theorem encode_encode : after encode V (Proc.devRef .tc main_v85)
    = encodeOf (V (Proc.devRef .tc main_v74)) (V (Proc.devRef .tc main_v76)) (V (Proc.devRef .tc main_arg7)) (V (Proc.devRef .tc main_arg8)) := by
  after_results; rfl
theorem results_0 : after results V (Proc.devRef .tc main_v87)
    = shapeCast S256 (extractStridedSlice S256x1 ![0, 0] (V (Proc.devRef .tc main_v49)) slices_S256x3_S256x1_0_0) shapeCasts_S256x1_S256 := by
  after_results; rfl
theorem results_1 : after results V (Proc.devRef .tc main_v89)
    = shapeCast S256 (extractStridedSlice S256x1 ![0, 1] (V (Proc.devRef .tc main_v49)) slices_S256x3_S256x1_0_1) shapeCasts_S256x1_S256 := by
  after_results; rfl
theorem results_2 : after results V (Proc.devRef .tc main_v91)
    = shapeCast S256 (extractStridedSlice S256x1 ![0, 2] (V (Proc.devRef .tc main_v49)) slices_S256x3_S256x1_0_2) shapeCasts_S256x1_S256 := by
  after_results; rfl
end windows

/-! ## The functions at an index -/

theorem table_apply (a b d : FVec Ideal S256 .f32) (t : Fin 256) :
    tableOf a b d (ix2 t 0) = a (ix1 t) ∧ tableOf a b d (ix2 t 1) = b (ix1 t) ∧ tableOf a b d (ix2 t 2) = d (ix1 t) := by
  refine ⟨?_, ?_, ?_⟩ <;> pointwise [tableOf]
theorem column_0 (f : FVec Ideal S256x3 .f32) (t : Fin 256) :
    shapeCast S256 (extractStridedSlice S256x1 ![0, 0] f slices_S256x3_S256x1_0_0) shapeCasts_S256x1_S256 (ix1 t) = f (ix2 t 0) := by
  pointwise
theorem column_1 (f : FVec Ideal S256x3 .f32) (t : Fin 256) :
    shapeCast S256 (extractStridedSlice S256x1 ![0, 1] f slices_S256x3_S256x1_0_1) shapeCasts_S256x1_S256 (ix1 t) = f (ix2 t 1) := by
  pointwise
theorem column_2 (f : FVec Ideal S256x3 .f32) (t : Fin 256) :
    shapeCast S256 (extractStridedSlice S256x1 ![0, 2] f slices_S256x3_S256x1_0_2) shapeCasts_S256x1_S256 (ix1 t) = f (ix2 t 2) := by
  pointwise
theorem layers_apply (f : FVec Ideal S256x3 .f32) (w1 : FVec Ideal S64x3 .f32) (b1 : FVec Ideal S64 .f32) (w2 : FVec Ideal S32x64 .f32) (b2 : FVec Ideal S32 .f32)
    (t : Fin 256) (o : Fin 32) : layersOf f w1 b1 w2 b2 (ix2 t o)
      = output (fun k => f (ix2 t k)) (fun j k => w1 (ix2 j k)) (fun j => b1 (ix1 j)) (fun o j => w2 (ix2 o j)) (fun o => b2 (ix1 o)) o := by
  pointwise [layersOf]
  rfl
theorem mean_apply (h : FVec Ideal S256x32 .f32) (t : Fin 256) : columnMean h (ix2 t 0) = mean fun o => h (ix2 t o) := by
  pointwise [columnMean]
  rfl
theorem dev_apply (h : FVec Ideal S256x32 .f32) (t : Fin 256) (o : Fin 32) : devOf h (ix2 t o) = deviation (fun o => h (ix2 t o)) o := by
  unfold deviation
  rw [← mean_apply h t]
  pointwise [devOf]
theorem spread_apply (h : FVec Ideal S256x32 .f32) (t : Fin 256) :
    spreadOf h (ix2 t 0) = spread (fun o => h (ix2 t o)) + Ideal.ofBits .f32 0x3727C5AC#32 := by
  unfold spread
  have e : ∀ o, deviation (fun o => h (ix2 t o)) o = devOf h (ix2 t o) := fun o => (dev_apply h t o).symm
  simp only [e]
  pointwise [spreadOf, columnMean]
  rfl
theorem encode_apply (h : FVec Ideal S256x32 .f32) (g b : FVec Ideal S32 .f32) (t : Fin 256) (o : Fin 32) :
    encodeOf (devOf h) (spreadOf h) g b (ix2 t o) = normal (fun o => h (ix2 t o)) (fun o => g (ix1 o)) (fun o => b (ix1 o)) o := by
  unfold normal
  rw [← dev_apply h t o, ← spread_apply h t]
  pointwise [encodeOf]

end Cert.Proof.RRead

end
-- ==== Proof.RValue.lean ====
/-
  The reference's four results at the end of its run: the plain metrics of the flock after each step, and their encoding.
-/
module

public import proofs.«01_k».proof.Proof.RRead

@[expose] public section

set_option maxRecDepth 16384

noncomputable section

namespace Cert.Proof.RValue

open Idealize.ShloMosaic Idealize.ShloMosaic.TcCoe Idealize.ShloMosaic.StableHlo
open Cert.ReferenceIdeal Cert.ReferenceIdeal.Gen Cert.Proof.RefRun Cert.Proof.Flock Cert.Proof.Metrics Cert.Proof.RFeat Cert.Proof.RRead

variable (m : (ℓ : Loc nD τ sig) → Buf (Elt Ideal) ℓ) (c : Dev nD)

/-- The flock after the step `t`. -/
def flock (p v : FVec Ideal S100x2 .f32) (t : Fin 256) : State (Fin 100) := (RStep.stateOf p v).after (t.val + 1)

abbrev pos : FVec Ideal S100x2 .f32 := m ((c : Thread nD τ).loc main_arg1)
abbrev vel : FVec Ideal S100x2 .f32 := m ((c : Thread nD τ).loc main_arg2)

theorem flock_scanned (p v : FVec Ideal S100x2 .f32) (t : Fin 256) :
    flock p v t = RStep.stateOf (RStep.scanned p v (t.val + 1)).1 (RStep.scanned p v (t.val + 1)).2 :=
  (RStep.scanned_state p v (t.val + 1)).symm

theorem stored_pos (t : Fin 256) (i : Fin 100) (d : Fin 2) :
    (V2 m c (Proc.devRef .tc main_v2_3) : FVec Ideal S256x100x2 .f32) (ix3 t i d) = (RStep.scanned (pos m c) (vel m c) (t.val + 1)).1 (ix2 i d) := by
  rw [show V2 m c (Proc.devRef .tc main_v2_3) = scanAt m 256 c (Proc.devRef .tc main_v2_3) from
    after_of_writes_sub RefOps.scanTest _ RefOps.scanTest_writes (by decide +kernel)]
  exact (RStep.scan_all m c 256 le_rfl).hist t t.isLt i d
theorem stored_vel (t : Fin 256) (i : Fin 100) (d : Fin 2) :
    (V2 m c (Proc.devRef .tc main_v2_4) : FVec Ideal S256x100x2 .f32) (ix3 t i d) = (RStep.scanned (pos m c) (vel m c) (t.val + 1)).2 (ix2 i d) := by
  rw [show V2 m c (Proc.devRef .tc main_v2_4) = scanAt m 256 c (Proc.devRef .tc main_v2_4) from
    after_of_writes_sub RefOps.scanTest _ RefOps.scanTest_writes (by decide +kernel)]
  exact (RStep.scan_all m c 256 le_rfl).velHist t t.isLt i d

theorem gaps_at (t : Fin 256) (i j : Fin 100) :
    gapsOf (V2 m c (Proc.devRef .tc main_v2_3)) (ix3 t i j) = (flock (pos m c) (vel m c) t).gap i j := by
  rw [gaps_apply, stored_pos, stored_pos, stored_pos, stored_pos, flock_scanned]; rfl

/-! ## Between the loops -/

abbrev X1 : Valuation τ sig (Elt Ideal) := after RefOps.gaps (V2 m c)
abbrev X2 : Valuation τ sig (Elt Ideal) := after RefOps.gapDist (X1 m c)
abbrev X3 : Valuation τ sig (Elt Ideal) := after RefOps.polar (X2 m c)
abbrev X4 : Valuation τ sig (Elt Ideal) := after RefOps.cluster (X3 m c)
abbrev X5 : Valuation τ sig (Elt Ideal) := after RefOps.links (X4 m c)

abbrev X6 : Valuation τ sig (Elt Ideal) := after RefOps.labels0 (X5 m c)

theorem mid_split (V : Valuation τ sig (Elt Ideal)) : afterL RefOps.midOps V = after RefOps.labels0 (after RefOps.links (after RefOps.cluster
    (after RefOps.polar (after RefOps.gapDist (after RefOps.gaps V))))) := by
  simp only [RefOps.midOps, afterL_cons, afterL_nil]
theorem post_split (V : Valuation τ sig (Elt Ideal)) : afterL RefOps.postOps V = after RefOps.results (after RefOps.encode (after RefOps.norm
    (after RefOps.layers (after RefOps.metrics (after RefOps.fragment V))))) := by
  simp only [RefOps.postOps, afterL_cons, afterL_nil]
theorem mid_end : V3 m c = X6 m c := mid_split (V2 m c)

theorem dists_at (t : Fin 256) (i j : Fin 100) :
    (X2 m c (Proc.devRef .tc main_v15) : FVec Ideal S256x100x100 .f32) (ix3 t i j) = root ((flock (pos m c) (vel m c) t).gap i j) := by
  rw [show X2 m c (Proc.devRef .tc main_v15) = _ from dists_dists (X1 m c), dists_apply,
    show X1 m c (Proc.devRef .tc main_v9) = _ from gaps_gaps (V2 m c), gaps_at]

theorem mid_polar (t : Fin 256) : (V3 m c (Proc.devRef .tc main_v23) : FVec Ideal S256 .f32) (ix1 t) = triple (flock (pos m c) (vel m c) t) 0 := by
  rw [mid_end, show X6 m c (Proc.devRef .tc main_v23) = X3 m c (Proc.devRef .tc main_v23) from keep main_v23 (midParts.drop 3) (X3 m c) rfl (by decide +kernel),
    show X3 m c (Proc.devRef .tc main_v23) = _ from polar_polar (X2 m c),
    show X2 m c (Proc.devRef .tc main_v2_4) = V2 m c (Proc.devRef .tc main_v2_4) from keep main_v2_4 (midParts.take 2) (V2 m c) rfl (by decide +kernel),
    polar_apply]
  refine (congrArg₂ Metrics.polar (funext fun i => stored_vel m c t i 0) (funext fun i => stored_vel m c t i 1)).trans ?_
  rw [flock_scanned]; rfl
theorem mid_cluster (t : Fin 256) : (V3 m c (Proc.devRef .tc main_v30) : FVec Ideal S256 .f32) (ix1 t) = triple (flock (pos m c) (vel m c) t) 1 := by
  rw [mid_end, show X6 m c (Proc.devRef .tc main_v30) = X4 m c (Proc.devRef .tc main_v30) from keep main_v30 (midParts.drop 4) (X4 m c) rfl (by decide +kernel),
    show X4 m c (Proc.devRef .tc main_v30) = _ from cluster_cluster (X3 m c),
    show X3 m c (Proc.devRef .tc main_v15) = X2 m c (Proc.devRef .tc main_v15) from keep main_v15 ((midParts.drop 2).take 1) (X2 m c) rfl (by decide +kernel)]
  exact cluster_apply _ t _ (dists_at m c t)
theorem mid_links (t : Fin 256) (i j : Fin 100) :
    (V3 m c (Proc.devRef .tc main_v36_0) : IVec S256x100x100 1) (ix3 t i j) = 1#1 ↔ Linked (flock (pos m c) (vel m c) t).gap i j := by
  rw [mid_end, show X6 m c (Proc.devRef .tc main_v36_0) = X5 m c (Proc.devRef .tc main_v36_0) from keep main_v36_0 (midParts.drop 5) (X5 m c) rfl (by decide +kernel),
    show X5 m c (Proc.devRef .tc main_v36_0) = _ from links_links (X4 m c),
    show X4 m c (Proc.devRef .tc main_v15) = X2 m c (Proc.devRef .tc main_v15) from keep main_v15 ((midParts.drop 2).take 2) (X2 m c) rfl (by decide +kernel)]
  exact links_apply _ t _ (dists_at m c t) i j
theorem mid_labels (t : Fin 256) (i : Fin 100) : (V3 m c (Proc.devRef .tc main_v36_3) : IVec S256x100 32) (ix2 t i) = BitVec.ofNat 32 i.val := by
  rw [show V3 m c (Proc.devRef .tc main_v36_3) = _ from labels_labels (X5 m c),
    show X5 m c (Proc.devRef .tc main_v35) = _ from links_numbers (X4 m c), numbers_apply]

/-! ## The rounds of labels -/

section bounded
variable (hb : Pad.Bounded Pad.start (RStep.stateOf (pos m c) (vel m c)))
include hb

theorem self_linked (t : Fin 256) (i : Fin 100) : Linked (flock (pos m c) (vel m c) t).gap i i :=
  linked_self (gap_self (Pad.bounded_steps hb (Nat.succ_le_of_lt t.isLt))) i

theorem rounds_labels (t : Fin 256) : ∀ k, Graph.Labels (Linked (flock (pos m c) (vel m c) t).gap) k
    fun i => (roundAt m k c (Proc.devRef .tc main_v36_3) : IVec S256x100 32) (ix2 t i)
  | 0 => by
    rw [show (fun i => (roundAt m 0 c (Proc.devRef .tc main_v36_3) : IVec S256x100 32) (ix2 t i)) = fun i => BitVec.ofNat 32 i.val from
      funext (mid_labels m c t)]
    exact Graph.labels_start
  | k + 1 => by
    classical
    refine Graph.labels_round (by omega) (self_linked m c hb t) (rounds_labels t k) fun i => ?_
    rw [show roundAt m (k + 1) c (Proc.devRef .tc main_v36_3) = _ from round_round (after RefOps.roundTest (roundAt m k c)),
      show after RefOps.roundTest (roundAt m k c) (Proc.devRef .tc main_v36_3) = roundAt m k c (Proc.devRef .tc main_v36_3) from
        after_of_writes_sub RefOps.roundTest _ RefOps.roundTest_writes (by decide +kernel),
      show after RefOps.roundTest (roundAt m k c) (Proc.devRef .tc main_v36_0) = roundAt m k c (Proc.devRef .tc main_v36_0) from
        after_of_writes_sub RefOps.roundTest _ RefOps.roundTest_writes (by decide +kernel),
      rounds_keep m main_v36_0 (by decide +kernel) (by decide +kernel) c k, round_apply]
    refine congrArg (IntOp.minsi _) (congrArg (fun f => Finset.univ.fold IntOp.minsi 2147483647#32 f) (funext fun j => ?_))
    exact if_congr (mid_links m c t i j) rfl rfl

/-! ## After the loops -/

omit hb in
theorem late (r : Ref sig .tc) (h : r ∉ RefOps.roundTest_W) (h' : r ∉ RefOps.round_W) (h'' : r ∉ RefOps.fragment_W) :
    after RefOps.fragment (V4 m c) (Proc.devRef .tc r) = V3 m c (Proc.devRef .tc r) :=
  (after_of_writes_sub RefOps.fragment _ RefOps.fragment_writes h'').trans <|
    (after_of_writes_sub RefOps.roundTest _ RefOps.roundTest_writes h).trans (rounds_keep m r h h' c 100)

theorem late_fragment (t : Fin 256) :
    (after RefOps.fragment (V4 m c) (Proc.devRef .tc main_v45) : FVec Ideal S256 .f32) (ix1 t) = triple (flock (pos m c) (vel m c) t) 2 := by
  classical
  rw [fragment_fragment, show V4 m c (Proc.devRef .tc main_v36_3) = roundAt m 100 c (Proc.devRef .tc main_v36_3) from
    after_of_writes_sub RefOps.roundTest _ RefOps.roundTest_writes (by decide +kernel)]
  refine (fragment_apply _ t (Least (flock (pos m c) (vel m c) t).gap) fun i =>
    Graph.labels_self (by omega) (self_linked m c hb t) (rounds_labels m c hb t 100) i).trans ?_
  unfold triple fragment
  refine congrArg (Ideal.div · hundred) (Finset.sum_congr rfl fun i _ => ?_)
  exact if_congr Iff.rfl rfl rfl

abbrev Y2 : Valuation τ sig (Elt Ideal) := after RefOps.metrics (after RefOps.fragment (V4 m c))
abbrev Y3 : Valuation τ sig (Elt Ideal) := after RefOps.layers (Y2 m c)
abbrev Y4 : Valuation τ sig (Elt Ideal) := after RefOps.norm (Y3 m c)
abbrev Y5 : Valuation τ sig (Elt Ideal) := after RefOps.encode (Y4 m c)
abbrev Y6 : Valuation τ sig (Elt Ideal) := after RefOps.results (Y5 m c)

omit hb in
theorem post_end : V5 m c = Y6 m c := post_split (V4 m c)

theorem table_at (t : Fin 256) : ∀ k : Fin 3,
    (Y2 m c (Proc.devRef .tc main_v49) : FVec Ideal S256x3 .f32) (ix2 t k) = triple (flock (pos m c) (vel m c) t) k := by
  rw [show Y2 m c (Proc.devRef .tc main_v49) = _ from metrics_table (after RefOps.fragment (V4 m c)),
    late m c main_v23 (by decide +kernel) (by decide +kernel) (by decide +kernel),
    late m c main_v30 (by decide +kernel) (by decide +kernel) (by decide +kernel)]
  obtain ⟨h0, h1, h2⟩ := table_apply (V3 m c (Proc.devRef .tc main_v23)) (V3 m c (Proc.devRef .tc main_v30))
    (after RefOps.fragment (V4 m c) (Proc.devRef .tc main_v45)) t
  intro k
  match k with
  | 0 => exact h0.trans (mid_polar m c t)
  | 1 => exact h1.trans (mid_cluster m c t)
  | 2 => exact h2.trans (late_fragment m c hb t)

omit hb in
theorem table_kept : Y5 m c (Proc.devRef .tc main_v49) = Y2 m c (Proc.devRef .tc main_v49) :=
  keep main_v49 ((postParts.drop 2).take 3) (Y2 m c) rfl (by decide +kernel)

theorem result_0 (t : Fin 256) : (V5 m c (Proc.devRef .tc main_v87) : FVec Ideal S256 .f32) (ix1 t) = triple (flock (pos m c) (vel m c) t) 0 := by
  rw [show V5 m c (Proc.devRef .tc main_v87) = _ from results_0 (Y5 m c), table_kept, column_0, table_at m c hb]
theorem result_1 (t : Fin 256) : (V5 m c (Proc.devRef .tc main_v89) : FVec Ideal S256 .f32) (ix1 t) = triple (flock (pos m c) (vel m c) t) 1 := by
  rw [show V5 m c (Proc.devRef .tc main_v89) = _ from results_1 (Y5 m c), table_kept, column_1, table_at m c hb]
theorem result_2 (t : Fin 256) : (V5 m c (Proc.devRef .tc main_v91) : FVec Ideal S256 .f32) (ix1 t) = triple (flock (pos m c) (vel m c) t) 2 := by
  rw [show V5 m c (Proc.devRef .tc main_v91) = _ from results_2 (Y5 m c), table_kept, column_2, table_at m c hb]

omit hb in
/-- The encoder's parameters are the arguments. -/
theorem weight (r : Ref sig .tc) (hr : r ∈ [main_arg3, main_arg4, main_arg5, main_arg6]) (h : ∀ w ∈ (postParts_W.drop 2), r ∉ w) :
    Y2 m c (Proc.devRef .tc r) = m ((c : Thread nD τ).loc r) :=
  (keep r (postParts.drop 2) (Y2 m c) rfl h).symm.trans ((congrFun (post_end m c) _).symm.trans (args_kept m r (by
    simp only [List.mem_cons, List.not_mem_nil, or_false] at hr ⊢; tauto) c))
omit hb in
theorem scale (r : Ref sig .tc) (hr : r ∈ [main_arg7, main_arg8]) (h : ∀ w ∈ (postParts_W.drop 4), r ∉ w) :
    Y4 m c (Proc.devRef .tc r) = m ((c : Thread nD τ).loc r) :=
  (keep r (postParts.drop 4) (Y4 m c) rfl h).symm.trans ((congrFun (post_end m c) _).symm.trans (args_kept m r (by
    simp only [List.mem_cons, List.not_mem_nil, or_false] at hr ⊢; tauto) c))

theorem result_3 (t : Fin 256) (o : Fin 32) : (V5 m c (Proc.devRef .tc main_v85) : FVec Ideal S256x32 .f32) (ix2 t o)
    = normal (output (triple (flock (pos m c) (vel m c) t)) (fun j k => (m ((c : Thread nD τ).loc main_arg3) : FVec Ideal S64x3 .f32) (ix2 j k))
        (fun j => (m ((c : Thread nD τ).loc main_arg4) : FVec Ideal S64 .f32) (ix1 j)) (fun o j => (m ((c : Thread nD τ).loc main_arg5) : FVec Ideal S32x64 .f32) (ix2 o j))
        (fun o => (m ((c : Thread nD τ).loc main_arg6) : FVec Ideal S32 .f32) (ix1 o)))
      (fun o => (m ((c : Thread nD τ).loc main_arg7) : FVec Ideal S32 .f32) (ix1 o)) (fun o => (m ((c : Thread nD τ).loc main_arg8) : FVec Ideal S32 .f32) (ix1 o)) o := by
  rw [post_end, show Y6 m c (Proc.devRef .tc main_v85) = Y5 m c (Proc.devRef .tc main_v85) from keep main_v85 (postParts.drop 5) (Y5 m c) rfl (by decide +kernel),
    show Y5 m c (Proc.devRef .tc main_v85) = _ from encode_encode (Y4 m c),
    show Y4 m c (Proc.devRef .tc main_v74) = _ from norm_dev (Y3 m c), show Y4 m c (Proc.devRef .tc main_v76) = _ from norm_spread (Y3 m c),
    scale m c main_arg7 (by simp) (by decide +kernel), scale m c main_arg8 (by simp) (by decide +kernel), encode_apply,
    show Y3 m c (Proc.devRef .tc main_v61) = _ from layers_layers (Y2 m c),
    weight m c main_arg3 (by simp) (by decide +kernel), weight m c main_arg4 (by simp) (by decide +kernel),
    weight m c main_arg5 (by simp) (by decide +kernel), weight m c main_arg6 (by simp) (by decide +kernel)]
  simp only [layers_apply, table_at m c hb]

end bounded

end Cert.Proof.RValue

end
-- ==== Proof.KFeat.lean ====
/-
  The kernel's row of metrics for one step, read at its lanes: the plain metrics of the positions before and after the step.
-/
module

public import proofs.«01_k».proof.Proof.Hist
public import proofs.«01_k».proof.Proof.RValue
public import Idealize.ShloMosaic.Lib.Pointwise

@[expose] public section

set_option maxRecDepth 16384

noncomputable section

namespace Cert.Proof.KFeat

open Cert.KernelIdeal Cert.KernelIdeal.Gen
open Idealize.ShloMosaic Cert.Proof.Flock Cert.Proof.Metrics Cert.Proof.Graph

/-- One of the 100 agents, by its number's word. -/
theorem lane_lt : ∀ k : Fin 128, IntOp.cmpi .slt (BitVec.ofNat 32 k.val) 100#32 = 1#1 ↔ k.val < 100 := by decide +kernel

/-- A sum over the lanes of a row, where the lanes past the 100th are masked, is one over the agents. -/
theorem sum_masked {M : Type} [AddCommMonoid M] (g : Fin 128 → M) : (∑ k : Fin 128, if k.val < 100 then g k else 0) = ∑ i, g (Pad.agent i) := by
  rw [Pad.sum_agents _ fun j => if_neg (by simp only [Pad.ghost]; omega)]
  exact Finset.sum_congr rfl fun i _ => if_pos i.isLt

theorem cmpi_eq (a b : BitVec 32) : IntOp.cmpi .eq a b = 1#1 ↔ a = b := by
  refine Iff.trans (b := BitVec.ofBool (a == b) = 1#1) Iff.rfl ?_
  by_cases e : a = b
  · simp [e]
  · exact ⟨fun q => (by rw [show (a == b) = false from beq_eq_false_iff_ne.2 e] at q; exact absurd q (by decide)), fun q => absurd q e⟩

/-- Lanes are told apart by their numbers' words. -/
theorem lane_eq (i j : Fin 128) : IntOp.cmpi .eq (BitVec.ofNat 32 i.val) (BitVec.ofNat 32 j.val) = 1#1 ↔ i = j := by
  rw [cmpi_eq, show BitVec.ofNat 32 i.val = word (label (by omega) i) from rfl, show BitVec.ofNat 32 j.val = word (label (by omega) j) from rfl, word_inj]
  exact ⟨fun h => Fin.ext (congrArg (fun x : Fin (2 ^ 31) => x.val) h), fun h => h ▸ rfl⟩

/-! ## The polarization -/

theorem polar_apply (x y x' y' : FVec Ideal S1x128 .f32) : k0_pay26 (F := Ideal) k0_pay85 x y x' y'
    = Ideal.div (Ideal.sqrt (len2 (Ideal.div (∑ i, (x' (ix2 0 (Pad.agent i)) - x (ix2 0 (Pad.agent i))) * hundred) hundred)
        (Ideal.div (∑ i, (y' (ix2 0 (Pad.agent i)) - y (ix2 0 (Pad.agent i))) * hundred) hundred))) rad := by
  rw [← sum_masked fun k => (x' (ix2 0 k) - x (ix2 0 k)) * hundred, ← sum_masked fun k => (y' (ix2 0 k) - y (ix2 0 k)) * hundred]
  simp only [← lane_lt]
  pointwise [k0_pay26, k0_pay85]
  simp only [Fin.sum_univ_one]
  rfl

/-! ## The distances -/

/-- The squared distance of two lanes. -/
def gap2 (x y : FVec Ideal S1x128 .f32) (i j : Fin 128) : EReal := len2 (x (ix2 0 i) - x (ix2 0 j)) (y (ix2 0 i) - y (ix2 0 j))

theorem dist_apply (x y : FVec Ideal S1x128 .f32) (i j : Fin 128) :
    k0_pay29 (F := Ideal) y (k0_pay27 (F := Ideal) y) (k0_pay28 (F := Ideal) x) (ix2 i j) = root (gap2 x y i j) := by
  pointwise [k0_pay29, k0_pay27, k0_pay28]
  exact KStep.root_eq (gap2 x y i j)

theorem both_lt (i j : Fin 128) : k0_pay87 (ix2 i j) = 1#1 ↔ i.val < 100 ∧ j.val < 100 := by
  rw [← lane_lt, ← lane_lt]
  pointwise [k0_pay87, k0_pay86, k0_pay85]
  generalize IntOp.cmpi .slt (BitVec.ofNat 32 i.val) 100#32 = a
  generalize IntOp.cmpi .slt (BitVec.ofNat 32 j.val) 100#32 = b
  revert a b; decide

theorem cluster_apply (x y : FVec Ideal S1x128 .f32) : k0_pay30 (F := Ideal) k0_pay87 y (k0_pay27 (F := Ideal) y) (k0_pay28 (F := Ideal) x)
    = Metrics.cluster fun i j => gap2 x y (Pad.agent i) (Pad.agent j) := by
  have mask : ∀ i j : Fin 128, Scalar.select (k0_pay87 (ix2 i j)) (k0_pay29 (F := Ideal) y (k0_pay27 (F := Ideal) y) (k0_pay28 (F := Ideal) x) (ix2 i j)) 0
      = if i.val < 100 then (if j.val < 100 then root (gap2 x y i j) else 0) else 0 := fun i j => by
    rw [dist_apply]
    refine Eq.trans (b := if i.val < 100 ∧ j.val < 100 then root (gap2 x y i j) else 0) ?_ ?_
    · unfold Scalar.select
      exact if_congr (both_lt i j) rfl rfl
    · by_cases h : i.val < 100 <;> by_cases h' : j.val < 100 <;> simp [h, h']
  have total : ∑ i : Fin 128, ∑ j : Fin 128, Scalar.select (k0_pay87 (ix2 i j)) (k0_pay29 (F := Ideal) y (k0_pay27 (F := Ideal) y) (k0_pay28 (F := Ideal) x) (ix2 i j)) 0
      = ∑ i, ∑ j, root (gap2 x y (Pad.agent i) (Pad.agent j)) := by
    simp only [mask]
    refine (Finset.sum_congr rfl fun i _ => ?_).trans (sum_masked fun i => ∑ j, root (gap2 x y i (Pad.agent j)))
    split_ifs with h
    · exact sum_masked fun j => root (gap2 x y i j)
    · exact Finset.sum_const_zero
  unfold Metrics.cluster k0_pay30
  rw [← total]
  generalize hD : k0_pay29 (F := Ideal) y (k0_pay27 (F := Ideal) y) (k0_pay28 (F := Ideal) x) = D
  generalize hK : k0_pay87 = K
  pointwise
  rfl

/-! ## The walks -/

def sq (x : FVec Ideal S128x128 .f32) : FVec Ideal S128x128 .f32 :=
  matmul dot_S128x128_S128x128_S128x128_1_0_0_1_n_n none x x (constant S128x128 .f32 0x00000000#32)
def bits (x : FVec Ideal S128x128 .f32) : FVec Ideal S128x128 .f32 :=
  sitofp .f32 (extui 32 (cmpf .ogt x (broadcast S128x128 (Scalar.ofBits .f32 0x00000000#32))) natLt_1_32)
def adj (x y : FVec Ideal S1x128 .f32) : FVec Ideal S128x128 .f32 :=
  sitofp .f32 (extui 32 (ori (andi (cmpf .olt (k0_pay29 (F := Ideal) y (k0_pay27 (F := Ideal) y) (k0_pay28 (F := Ideal) x))
    (broadcast S128x128 (Scalar.ofBits .f32 0x3DCCCCCD#32))) k0_pay87) k0_pay84) natLt_1_32)

theorem reach_eq (x y : FVec Ideal S1x128 .f32) : k0_pay31 (F := Ideal) k0_pay84 k0_pay87 y (k0_pay27 (F := Ideal) y) (k0_pay28 (F := Ideal) x)
    = sq (sq (bits (sq (sq (bits (sq (sq (adj x y)))))))) := rfl

theorem sq_apply (x : FVec Ideal S128x128 .f32) (i j : Fin 128) : sq x (ix2 i j) = ∑ k, x (ix2 i k) * x (ix2 k j) := by
  pointwise [sq]

open Classical in
theorem bits_apply (x : FVec Ideal S128x128 .f32) (i j : Fin 128) : bits x (ix2 i j) = if 0 < x (ix2 i j) then 1 else 0 := by
  pointwise [bits]
  rw [KStep.bit_float]
  exact if_congr (RFeat.bit_iff _) rfl rfl

/-- Two lanes are joined: two agents within the radius, or one lane with itself. -/
def Edge (q : Fin 128 → Fin 128 → EReal) (i j : Fin 128) : Prop := (root (q i j) < rad ∧ i.val < 100 ∧ j.val < 100) ∨ i = j

theorem diag : ∀ i j : Fin 128, k0_pay84 (ix2 i j) = 1#1 ↔ i = j := fun i j => by
  pointwise [k0_pay84]
  exact lane_eq i j

theorem or_and : ∀ a k l : BitVec 1, IntOp.ori (IntOp.andi a k) l = 1#1 ↔ (a = 1#1 ∧ k = 1#1) ∨ l = 1#1 := by decide

open Classical in
theorem adj_apply (x y : FVec Ideal S1x128 .f32) (i j : Fin 128) : adj x y (ix2 i j) = if Edge (gap2 x y) i j then 1 else 0 := by
  unfold adj Edge
  rw [← dist_apply, ← both_lt, ← diag]
  generalize k0_pay29 (F := Ideal) y (k0_pay27 (F := Ideal) y) (k0_pay28 (F := Ideal) x) = D
  generalize k0_pay87 = K
  generalize k0_pay84 = L
  pointwise
  rw [KStep.bit_float]
  have e := (or_and (BitVec.ofBool (decide (D (ix2 i j) < rad))) (K (ix2 i j)) (L (ix2 i j))).trans (or_congr (and_congr (RFeat.bit_iff _) Iff.rfl) Iff.rfl)
  by_cases h : D (ix2 i j) < rad ∧ K (ix2 i j) = 1#1 ∨ L (ix2 i j) = 1#1
  · exact (if_pos (e.2 h)).trans (if_pos h).symm
  · exact (if_neg fun q => h (e.1 q)).trans (if_neg h).symm

theorem marks_adj (x y : FVec Ideal S1x128 .f32) : Marks (fun i j => adj x y (ix2 i j)) (Walk (Edge (gap2 x y)) 1) := fun i j => by
  classical
  show 0 ≤ adj x y (ix2 i j) ∧ (0 < adj x y (ix2 i j) ↔ _)
  rw [adj_apply, walk_one]
  by_cases h : Edge (gap2 x y) i j <;> simp [h]

theorem marks_sq {x : FVec Ideal S128x128 .f32} {A : Fin 128 → Fin 128 → Prop} {a : ℕ} (h : Marks (fun i j => x (ix2 i j)) (Walk A a)) :
    Marks (fun i j => sq x (ix2 i j)) (Walk A (a + a)) := by
  simp only [sq_apply]
  exact marks_mul h

theorem marks_bit {x : FVec Ideal S128x128 .f32} {P : Fin 128 → Fin 128 → Prop} (h : Marks (fun i j => x (ix2 i j)) P) :
    Marks (fun i j => bits x (ix2 i j)) P := by
  classical
  exact marks_bits h _ fun i j => (bits_apply x i j).trans (if_congr Iff.rfl rfl rfl)

/-- The matrix before the last squaring marks the walks of 64 edges. -/
theorem marks_reach (x y : FVec Ideal S1x128 .f32) :
    Marks (fun i j => k0_pay31 (F := Ideal) k0_pay84 k0_pay87 y (k0_pay27 (F := Ideal) y) (k0_pay28 (F := Ideal) x) (ix2 i j)) (Walk (Edge (gap2 x y)) 64) := by
  rw [reach_eq]
  exact marks_sq (marks_sq (marks_bit (marks_sq (marks_sq (marks_bit (marks_sq (marks_sq (marks_adj x y))))))))

/-! ## The walks of the agents -/

section walks
variable {q : Fin 128 → Fin 128 → EReal} (h0 : ∀ i, q i i = 0)
include h0

theorem edge_agent (i : Fin 100) (k : Fin 128) :
    Edge q (Pad.agent i) k ↔ ∃ j, k = Pad.agent j ∧ Linked (fun i j => q (Pad.agent i) (Pad.agent j)) i j := by
  constructor
  · rintro (⟨h, -, hk⟩ | rfl)
    · exact ⟨⟨k.val, hk⟩, rfl, h⟩
    · exact ⟨i, rfl, linked_self (fun i => h0 _) i⟩
  · rintro ⟨j, rfl, h⟩
    exact .inl ⟨h, i.isLt, j.isLt⟩

theorem walk_agent : ∀ (n : ℕ) (i : Fin 100) (k : Fin 128),
    Walk (Edge q) n (Pad.agent i) k ↔ ∃ j, k = Pad.agent j ∧ Walk (Linked fun i j => q (Pad.agent i) (Pad.agent j)) n i j
  | 0, i, k => ⟨fun h => ⟨i, h.symm, rfl⟩, fun ⟨j, e, h⟩ => by rw [e, show i = j from h]; rfl⟩
  | n + 1, i, k => by
    constructor
    · rintro ⟨l, hl, hw⟩
      obtain ⟨a, rfl, ha⟩ := (edge_agent h0 i l).1 hl
      obtain ⟨j, e, hj⟩ := (walk_agent n a k).1 hw
      exact ⟨j, e, a, ha, hj⟩
    · rintro ⟨j, e, a, ha, hj⟩
      exact ⟨Pad.agent a, (edge_agent h0 i _).2 ⟨a, rfl, ha⟩, (walk_agent n a k).2 ⟨j, e, hj⟩⟩

theorem least_agent (i : Fin 100) : (∀ k, Walk (Edge q) 128 (Pad.agent i) k → Pad.agent i ≤ k) ↔ Least (fun i j => q (Pad.agent i) (Pad.agent j)) i := by
  have long : ∀ j, Walk (Linked fun i j => q (Pad.agent i) (Pad.agent j)) 128 i j ↔ Walk (Linked fun i j => q (Pad.agent i) (Pad.agent j)) 100 i j := fun j =>
    walk_long (ι := Fin 100) (linked_self fun i => h0 _) (k := 128) (by rw [Fintype.card_fin]; omega) i j
  constructor
  · exact fun h j hj => Fin.le_def.2 (Fin.le_def.1 (h (Pad.agent j) ((walk_agent h0 128 i _).2 ⟨j, rfl, (long j).2 hj⟩)))
  · intro h k hk
    obtain ⟨j, rfl, hj⟩ := (walk_agent h0 128 i k).1 hk
    exact Fin.le_def.2 (Fin.le_def.1 (h j ((long j).1 hj)))

end walks

/-! ## The row -/

/-- The row from the two metrics before and the matrix of the walks. -/
def rowOf (a b : Ideal .f32) (N : FVec Ideal S128x128 .f32) : FVec Ideal S1x128 .f32 :=
  addf (addf (mulf (broadcast S1x128 a) k0_pay88) (mulf (broadcast S1x128 b) k0_pay89))
    (mulf (broadcast S1x128 (Scalar.divf (extractAt ![0, 0, 0] (shapeCast S1x1x1 (multiReduction .add [1, 2] S1 (shapeCast S1x128x1
      (sitofp .f32 (extui 32 (andi (cmpi .eq (shapeCast S128x1 (multiReductionI .minsi [1] S128
        (select (cmpf .ogt N (broadcast S128x128 (Scalar.ofBits .f32 0x00000000#32)))
          (broadcastTo S128x128 (shapeCast S1x128 (iota .tc S1x128 32 [1] iota_S1x128_d1_w32) shapeCasts_S1x128_S1x128) broadcasts_S1x128_S128x128)
          (broadcast S128x128 128#32)) 2147483647#32 reduces_S128x128_S128 rfl) shapeCasts_S128_S128x1) (iota .tc S128x1 32 [0] iota_S128x1_d0_w32))
        k0_pay86) natLt_1_32)) shapeCasts_S128x1_S1x128x1) 0x00000000#32 reduces_S1x128x1_S1 (.inl rfl) rfl) shapeCasts_S1_S1x1x1) inpos_S1x1x1_p0_0_0)
      (Scalar.ofBits .f32 0x42C80000#32))) k0_pay90)

theorem row_eq (a b : Ideal .f32) (M : FVec Ideal S128x128 .f32) :
    k0_pay32 (F := Ideal) (iota .tc S1x128 32 [1] iota_S1x128_d1_w32) (iota .tc S128x1 32 [0] iota_S128x1_d0_w32) k0_pay86 k0_pay88 k0_pay89 k0_pay90 a b M
      (Scalar.ofBits .f32 0x00000000#32) = rowOf a b (sq (bits M)) := rfl

theorem hot_0 (l : Fin 128) : k0_pay88 (F := Ideal) (ix2 0 l) = if l = 0 then 1 else 0 := by
  pointwise [k0_pay88]
  rw [KStep.bit_float]
  exact if_congr (lane_eq l 0) rfl rfl
theorem hot_1 (l : Fin 128) : k0_pay89 (F := Ideal) (ix2 0 l) = if l = 1 then 1 else 0 := by
  pointwise [k0_pay89]
  rw [KStep.bit_float]
  exact if_congr (lane_eq l 1) rfl rfl
theorem hot_2 (l : Fin 128) : k0_pay90 (F := Ideal) (ix2 0 l) = if l = 2 then 1 else 0 := by
  pointwise [k0_pay90]
  rw [KStep.bit_float]
  exact if_congr (lane_eq l 2) rfl rfl

theorem and_bits : ∀ a b : BitVec 1, IntOp.andi a b = 1#1 ↔ b = 1#1 ∧ a = 1#1 := by decide

open Classical in
/-- A lane counts when it is an agent and its row's least entry is its own number. -/
theorem counts (N : FVec Ideal S128x128 .f32) (hN : ∀ i, 0 < N (ix2 i i)) (w : Fin 128 → BitVec 32)
    (hw : ∀ i, w i = Finset.univ.fold IntOp.minsi 2147483647#32 fun j => if 0 < N (ix2 i j) then BitVec.ofNat 32 j.val else BitVec.ofNat 32 128) (i : Fin 128) :
    FloatOps.sitofp (F := Ideal) .f32 (BitVec.setWidth 32 (IntOp.andi (IntOp.cmpi .eq (w i) (BitVec.ofNat 32 i.val)) (IntOp.cmpi .slt (BitVec.ofNat 32 i.val) 100#32)))
      = if i.val < 100 then (if ∀ k, 0 < N (ix2 i k) → i ≤ k then (1 : EReal) else 0) else 0 := by
  rw [KStep.bit_float]
  have e : IntOp.andi (IntOp.cmpi .eq (w i) (BitVec.ofNat 32 i.val)) (IntOp.cmpi .slt (BitVec.ofNat 32 i.val) 100#32) = 1#1
      ↔ i.val < 100 ∧ ∀ k, 0 < N (ix2 i k) → i ≤ k := by
    rw [and_bits, lane_lt, cmpi_eq]
    refine and_congr_right fun _ => ?_
    rw [← row_self (by omega) (P := fun i j => 0 < N (ix2 i j)) i (hN i)]
    exact iff_of_eq (congrArg (· = _) ((hw i).trans (congrArg (fun f => Finset.univ.fold IntOp.minsi 2147483647#32 f) (funext fun j => by
      by_cases q : 0 < N (ix2 i j) <;> simp [q]))))
  by_cases h : i.val < 100
  · rw [if_pos h]
    exact if_congr (e.trans (and_iff_right h)) rfl rfl
  · rw [if_neg h]
    exact if_neg fun q => h (e.1 q).1

open Classical in
theorem row_apply (a b : Ideal .f32) (N : FVec Ideal S128x128 .f32) (hN : ∀ i, 0 < N (ix2 i i)) (l : Fin 128) : rowOf a b N (ix2 0 l)
    = a * (if l = 0 then 1 else 0) + b * (if l = 1 then 1 else 0)
      + Ideal.div (∑ i, if ∀ k, 0 < N (ix2 (Pad.agent i) k) → Pad.agent i ≤ k then 1 else 0) hundred * (if l = 2 then 1 else 0) := by
  have c := counts N hN (fun i => Finset.univ.fold IntOp.minsi 2147483647#32 fun j => if 0 < N (ix2 i j) then BitVec.ofNat 32 j.val else 128#32)
    fun i => congrArg (fun f => Finset.univ.fold IntOp.minsi 2147483647#32 f) (funext fun j => if_congr Iff.rfl rfl rfl)
  rw [← sum_masked (fun i => if ∀ k, 0 < N (ix2 i k) → i ≤ k then (1 : EReal) else 0), ← Finset.sum_congr rfl fun i _ => c i]
  refine Eq.trans ?_ (congrArg₂ (· + ·) (congrArg₂ (· + ·) (congrArg (a * ·) (hot_0 l)) (congrArg (b * ·) (hot_1 l))) (congrArg (_ * ·) (hot_2 l)))
  unfold rowOf
  generalize k0_pay88 (F := Ideal) = A
  generalize k0_pay89 (F := Ideal) = B
  generalize k0_pay90 (F := Ideal) = C
  pointwise [k0_pay86]
  simp only [Fin.sum_univ_one]
  refine congrArg (fun x => a * A (ix2 0 l) + b * B (ix2 0 l) + Ideal.div x hundred * C (ix2 0 l)) (Finset.sum_congr rfl fun i _ => ?_)
  refine congrArg (fun w => FloatOps.sitofp (F := Ideal) .f32 (BitVec.setWidth 32 (IntOp.andi (IntOp.cmpi .eq w (BitVec.ofNat 32 i.val)) (IntOp.cmpi .slt (BitVec.ofNat 32 i.val) 100#32)))) ?_
  exact congrArg (fun f => Finset.univ.fold IntOp.minsi 2147483647#32 f) (funext fun j => if_congr Iff.rfl rfl rfl)

/-- The kernel's row for positions before and after a step. -/
abbrev row (x y x' y' : FVec Ideal S1x128 .f32) : FVec Ideal S1x128 .f32 :=
  Body.featRow (F := Ideal) k0_pay84 (iota .tc S1x128 32 [1] iota_S1x128_d1_w32) (iota .tc S128x1 32 [0] iota_S128x1_d0_w32) k0_pay85 k0_pay86 k0_pay87
    k0_pay88 k0_pay89 k0_pay90 x y x' y'

theorem row_lane (x y x' y' : FVec Ideal S1x128 .f32) (h0 : ∀ i, gap2 x' y' i i = 0) (l : Fin 128) : row x y x' y' (ix2 0 l)
    = k0_pay26 (F := Ideal) k0_pay85 x y x' y' * (if l = 0 then 1 else 0)
      + Metrics.cluster (fun i j => gap2 x' y' (Pad.agent i) (Pad.agent j)) * (if l = 1 then 1 else 0)
      + Metrics.fragment (fun i j => gap2 x' y' (Pad.agent i) (Pad.agent j)) * (if l = 2 then 1 else 0) := by
  classical
  have hM := marks_sq (marks_bit (marks_reach x' y'))
  refine (congrFun (row_eq _ _ _) (ix2 0 l)).trans ?_
  refine (row_apply _ _ _ (fun i => ((hM i i).2.2 (walk_refl (fun i => .inr rfl) _ i))) l).trans ?_
  rw [cluster_apply]
  refine congrArg₂ (fun a b : EReal => a + b) rfl (congrArg (fun s : EReal => Ideal.div s hundred * (if l = 2 then 1 else 0)) ?_)
  refine Finset.sum_congr rfl fun i _ => if_congr (Iff.trans ?_ (least_agent h0 i)) rfl rfl
  exact forall_congr' fun k => imp_congr (hM _ k).2 Iff.rfl

/-! ## The rows of the run -/

section run
variable (p v : FVec Ideal S100x2 .f32) (hb : Pad.Bounded Pad.start (RStep.stateOf p v))

theorem speed_back {B : ℝ} {a w : EReal} (ha : Pad.Within B a) (hw : Pad.Within 1 w) : (a + w * dt - a) * hundred = w := by
  obtain ⟨r, rfl, -⟩ := ha
  obtain ⟨u, rfl, -⟩ := hw
  rw [show hundred = ((100 : ℝ) : EReal) from RStep.ofBits_hundred]
  unfold dt
  norm_cast
  ring

abbrev histX (k : ℕ) : FVec Ideal S1x128 .f32 :=
  Body.histX (KernelRun.psig (F := Ideal)) (KernelRun.posPad (F := Ideal) p) (KernelRun.velPad (F := Ideal) v) k
abbrev histY (k : ℕ) : FVec Ideal S1x128 .f32 :=
  Body.histY (KernelRun.psig (F := Ideal)) (KernelRun.posPad (F := Ideal) p) (KernelRun.velPad (F := Ideal) v) k

include hb

theorem histX_agent (k : ℕ) (hk : k ≤ 256) (i : Fin 100) : histX p v k (ix2 0 (Pad.agent i)) = ((RStep.stateOf p v).after k).x i :=
  (Hist.histX_at p v hb k hk _).trans ((Pad.padded_after (Hist.padded_start p v) hb k hk).x i)
theorem histY_agent (k : ℕ) (hk : k ≤ 256) (i : Fin 100) : histY p v k (ix2 0 (Pad.agent i)) = ((RStep.stateOf p v).after k).y i :=
  (Hist.histY_at p v hb k hk _).trans ((Pad.padded_after (Hist.padded_start p v) hb k hk).y i)

theorem self_gap (k : ℕ) (hk : k ≤ 256) (i : Fin 128) : gap2 (histX p v k) (histY p v k) i i = 0 := by
  obtain ⟨⟨a, ea⟩, ⟨b, eb⟩⟩ := Hist.finite_after p v hb k hk i
  unfold gap2
  rw [show histX p v k (ix2 0 i) = _ from Hist.histX_at p v hb k hk i, show histY p v k (ix2 0 i) = _ from Hist.histY_at p v hb k hk i, ea, eb, ← EReal.coe_sub, ← EReal.coe_sub, Pad.len2_real]
  simp

theorem gaps_agents (k : ℕ) (hk : k ≤ 256) :
    (fun i j => gap2 (histX p v k) (histY p v k) (Pad.agent i) (Pad.agent j)) = ((RStep.stateOf p v).after k).gap := by
  funext i j
  unfold gap2
  rw [histX_agent p v hb k hk, histX_agent p v hb k hk, histY_agent p v hb k hk, histY_agent p v hb k hk]
  rfl

/-- The difference of an agent's positions gives its velocity back. -/
theorem polar_run (t : Fin 256) : k0_pay26 (F := Ideal) k0_pay85 (histX p v t.val) (histY p v t.val) (histX p v (t.val + 1)) (histY p v (t.val + 1))
    = Metrics.polar ((RStep.stateOf p v).after (t.val + 1)).vx ((RStep.stateOf p v).after (t.val + 1)).vy := by
  have ht := t.isLt
  rw [polar_apply]
  have bd := Pad.bounded_steps hb (k := t.val) (by omega)
  have ex : ∀ i, (histX p v (t.val + 1) (ix2 0 (Pad.agent i)) - histX p v t.val (ix2 0 (Pad.agent i))) * hundred = ((RStep.stateOf p v).after (t.val + 1)).vx i := fun i => by
    rw [histX_agent p v hb _ (by omega), histX_agent p v hb _ (by omega)]
    exact speed_back (bd i).1 (Pad.cap_within _ _)
  have ey : ∀ i, (histY p v (t.val + 1) (ix2 0 (Pad.agent i)) - histY p v t.val (ix2 0 (Pad.agent i))) * hundred = ((RStep.stateOf p v).after (t.val + 1)).vy i := fun i => by
    rw [histY_agent p v hb _ (by omega), histY_agent p v hb _ (by omega)]
    refine speed_back (bd i).2 ?_
    show Pad.Within 1 (cap (len2 _ _) _)
    rw [Pad.len2_comm]
    exact Pad.cap_within _ _
  simp only [ex, ey]
  rfl

omit hb in
theorem colIdx_eq (j : Fin 128) : Body.colIdx j = ix2 0 j := by
  funext a
  match a with
  | ⟨0, _⟩ => rfl
  | ⟨1, _⟩ => rfl

abbrev feats : FVec Ideal S256x128 .f32 :=
  Body.kfeats (F := Ideal) (KernelRun.psig (F := Ideal)) (KernelRun.posPad (F := Ideal) p) (KernelRun.velPad (F := Ideal) v)

theorem feats_apply (t : Fin 256) (l : Fin 128) : feats p v (ix2 t l)
    = triple (RValue.flock p v t) 0 * (if l = 0 then 1 else 0) + triple (RValue.flock p v t) 1 * (if l = 1 then 1 else 0)
      + triple (RValue.flock p v t) 2 * (if l = 2 then 1 else 0) := by
  have ht := t.isLt
  show row (histX p v t.val) (histY p v t.val) (histX p v (t.val + 1)) (histY p v (t.val + 1)) (Body.colIdx l) = _
  rw [colIdx_eq, row_lane _ _ _ _ (self_gap p v hb (t.val + 1) (by omega)), polar_run p v hb t, gaps_agents p v hb (t.val + 1) (by omega)]
  rfl

/-- The three lanes, and the rest. -/
def lane (k : Fin 3) : Fin 128 := ⟨k.val, by omega⟩

theorem feats_lane (t : Fin 256) (k : Fin 3) : feats p v (ix2 t (lane k)) = triple (RValue.flock p v t) k := by
  rw [feats_apply p v hb]
  match k with
  | 0 => simp [lane]
  | 1 => simp [lane]
  | 2 => simp [lane]

theorem feats_rest (t : Fin 256) (l : Fin 128) (h : 3 ≤ l.val) : feats p v (ix2 t l) = 0 := by
  rw [feats_apply p v hb, if_neg (by rintro rfl; simp at h), if_neg (by rintro rfl; simp at h), if_neg (by rintro rfl; simp at h)]
  simp

end run

end Cert.Proof.KFeat

end
-- ==== Proof.KEnc.lean ====
/-
  The kernel's encoder, read at an index: the plain encoding of the three metrics, where the lanes past them are zero.
-/
module

public import proofs.«01_k».proof.Proof.KFeat

@[expose] public section

set_option maxRecDepth 16384

noncomputable section

namespace Cert.Proof.KEnc

open Cert.KernelIdeal Cert.KernelIdeal.Gen
open Idealize.ShloMosaic Cert.Proof.Flock Cert.Proof.Metrics Cert.Proof.KFeat

/-- A sum over the lanes that is zero past the third. -/
theorem sum_lanes {M : Type} [AddCommMonoid M] (g : Fin 128 → M) (h : ∀ k, 3 ≤ k.val → g k = 0) : ∑ k, g k = ∑ k, g (lane k) := by
  refine (Fin.sum_univ_add (a := 3) (b := 125) g).trans ?_
  have rest : ∑ k : Fin 125, g (Fin.natAdd 3 k) = 0 := Finset.sum_eq_zero fun k _ => h _ (Nat.le_add_right 3 k.val)
  rw [rest, add_zero]
  rfl

variable (f : FVec Ideal S256x128 .f32) (w1 : FVec Ideal S128x64 .f32) (b1 : FVec Ideal S1x64 .f32) (w2 : FVec Ideal S64x32 .f32) (b2 g b : FVec Ideal S1x32 .f32)

theorem layers_apply (t : Fin 256) (o : Fin 32) : k0_pay114 (F := Ideal) f w1 b1 w2 b2 (ix2 t o)
    = ∑ j, max (∑ k, f (ix2 t k) * w1 (ix2 k j) + b1 (ix2 0 j)) 0 * w2 (ix2 j o) + b2 (ix2 0 o) := by
  pointwise [k0_pay114]

theorem mean_apply (t : Fin 256) : k0_pay115 (F := Ideal) f w1 b1 w2 b2 (ix2 t 0) = mean fun o => k0_pay114 (F := Ideal) f w1 b1 w2 b2 (ix2 t o) := by
  unfold k0_pay115
  generalize k0_pay114 (F := Ideal) f w1 b1 w2 b2 = H
  pointwise
  rfl

theorem dev_apply (t : Fin 256) (o : Fin 32) : k0_pay117 (F := Ideal) f w1 b1 w2 b2 (ix2 t o)
    = deviation (fun o => k0_pay114 (F := Ideal) f w1 b1 w2 b2 (ix2 t o)) o := by
  unfold deviation k0_pay117
  rw [← mean_apply]
  generalize k0_pay114 (F := Ideal) f w1 b1 w2 b2 = H
  generalize k0_pay115 (F := Ideal) f w1 b1 w2 b2 = A
  pointwise

theorem spread_apply (t : Fin 256) : k0_pay116 (F := Ideal) f w1 b1 w2 b2 (ix2 t 0)
    = spread fun o => k0_pay114 (F := Ideal) f w1 b1 w2 b2 (ix2 t o) := by
  have e : ∀ o, deviation (fun o => k0_pay114 (F := Ideal) f w1 b1 w2 b2 (ix2 t o)) o = k0_pay117 (F := Ideal) f w1 b1 w2 b2 (ix2 t o) :=
    fun o => (dev_apply f w1 b1 w2 b2 t o).symm
  unfold spread
  simp only [e]
  unfold k0_pay116 k0_pay117
  generalize k0_pay114 (F := Ideal) f w1 b1 w2 b2 = H
  generalize k0_pay115 (F := Ideal) f w1 b1 w2 b2 = A
  pointwise
  rfl

theorem enc_apply (t : Fin 256) (o : Fin 32) : Body.kenc (F := Ideal) f w1 b1 w2 b2 g b (ix2 t o)
    = normal (fun o => k0_pay114 (F := Ideal) f w1 b1 w2 b2 (ix2 t o)) (fun o => g (ix2 0 o)) (fun o => b (ix2 0 o)) o := by
  unfold normal Body.kenc
  rw [← dev_apply, ← spread_apply]
  generalize k0_pay116 (F := Ideal) f w1 b1 w2 b2 = S
  generalize k0_pay117 (F := Ideal) f w1 b1 w2 b2 = D
  pointwise [k0_pay1]

/-- The layers at the metrics' array and the padded weights. -/
theorem layers_run (p v : FVec Ideal S100x2 .f32) (hb : Pad.Bounded Pad.start (RStep.stateOf p v)) (w : FVec Ideal S64x3 .f32) (c1 : FVec Ideal S64 .f32)
    (u : FVec Ideal S32x64 .f32) (c2 : FVec Ideal S32 .f32) (t : Fin 256) (o : Fin 32) :
    k0_pay114 (F := Ideal) (feats p v) (KernelRun.w1Pad (F := Ideal) w) (shapeCast S1x64 c1 shapeCasts_S64_S1x64)
        (transpose S64x32 [1, 0] u transposes_S32x64_S64x32_1_0) (shapeCast S1x32 c2 shapeCasts_S32_S1x32) (ix2 t o)
      = output (triple (RValue.flock p v t)) (fun j k => w (ix2 j k)) (fun j => c1 (ix1 j)) (fun o j => u (ix2 o j)) (fun o => c2 (ix1 o)) o := by
  rw [layers_apply]
  have hs : ∀ j : Fin 64, ∑ k, feats p v (ix2 t k) * KernelRun.w1Pad (F := Ideal) w (ix2 k j) = ∑ k : Fin 3, triple (RValue.flock p v t) k * w (ix2 j k) := fun j => by
    rw [sum_lanes _ fun k hk => by rw [feats_rest p v hb t k hk, zero_mul]]
    exact Finset.sum_congr rfl fun k _ => by rw [feats_lane p v hb, Start.w1Pad_in w (lane k) k j rfl]
  have h1 : ∀ j : Fin 64, shapeCast S1x64 c1 shapeCasts_S64_S1x64 (ix2 0 j) = c1 (ix1 j) := fun j => by pointwise
  have h2 : ∀ (j : Fin 64) (o : Fin 32), transpose S64x32 [1, 0] u transposes_S32x64_S64x32_1_0 (ix2 j o) = u (ix2 o j) := fun j o => by pointwise
  have h3 : ∀ o : Fin 32, shapeCast S1x32 c2 shapeCasts_S32_S1x32 (ix2 0 o) = c2 (ix1 o) := fun o => by pointwise
  simp only [hs, h1, h2, h3]
  rfl

theorem enc_run (p v : FVec Ideal S100x2 .f32) (hb : Pad.Bounded Pad.start (RStep.stateOf p v)) (w : FVec Ideal S64x3 .f32) (c1 : FVec Ideal S64 .f32)
    (u : FVec Ideal S32x64 .f32) (c2 s d : FVec Ideal S32 .f32) (t : Fin 256) (o : Fin 32) :
    Body.kenc (F := Ideal) (feats p v) (KernelRun.w1Pad (F := Ideal) w) (shapeCast S1x64 c1 shapeCasts_S64_S1x64)
        (transpose S64x32 [1, 0] u transposes_S32x64_S64x32_1_0) (shapeCast S1x32 c2 shapeCasts_S32_S1x32)
        (shapeCast S1x32 s shapeCasts_S32_S1x32) (shapeCast S1x32 d shapeCasts_S32_S1x32) (ix2 t o)
      = normal (output (triple (RValue.flock p v t)) (fun j k => w (ix2 j k)) (fun j => c1 (ix1 j)) (fun o j => u (ix2 o j)) (fun o => c2 (ix1 o)))
          (fun o => s (ix1 o)) (fun o => d (ix1 o)) o := by
  have h3 : ∀ (c : FVec Ideal S32 .f32) (o : Fin 32), shapeCast S1x32 c shapeCasts_S32_S1x32 (ix2 0 o) = c (ix1 o) := fun c o => by pointwise
  rw [enc_apply]
  simp only [layers_run p v hb, h3]

end Cert.Proof.KEnc

end
-- ==== Proof.Value.lean ====
/-
  The claim on the values: from the same arguments, with the positions bounded, the kernel and the reference end with the same
  four results.
-/
module

public import proofs.«01_k».proof.Defs
public import proofs.«01_k».proof.Proof.KEnc

@[expose] public section

set_option maxRecDepth 16384

noncomputable section

namespace Cert.Proof.Value

open Idealize.ShloMosaic Idealize.ShloMosaic.TcCoe Idealize.SL.Sem
open Cert.Proof.Flock Cert.Proof.Metrics

instance facts : Cert.Pre_positions_bounded.Facts := Start.facts

/-- An index of a row or of a matrix, by its coordinates. -/
theorem idx_one {A : ℕ} (y : (⟨1, ![A]⟩ : Shape).Idx) : ∃ t : Fin A, y = ix1 t :=
  ⟨y 0, funext fun a => match a with | ⟨0, _⟩ => rfl⟩
theorem idx_two {A B : ℕ} (y : (⟨2, ![A, B]⟩ : Shape).Idx) : ∃ (t : Fin A) (o : Fin B), y = ix2 t o :=
  ⟨y 0, y 1, funext fun a => match a with | ⟨0, _⟩ => rfl | ⟨1, _⟩ => rfl⟩

section kernel
open Cert.KernelIdeal Cert.KernelIdeal.Gen

/-- The kernel's first three results: the lanes of its metrics. -/
theorem column_0 (f : FVec Ideal S256x128 .f32) (t : Fin 256) :
    shapeCast S256 (extractStridedSlice S256x1 ![0, 0] f slices_S256x128_S256x1_0_0) shapeCasts_S256x1_S256 (ix1 t) = f (ix2 t 0) := by
  pointwise
theorem column_1 (f : FVec Ideal S256x128 .f32) (t : Fin 256) :
    shapeCast S256 (extractStridedSlice S256x1 ![0, 1] f slices_S256x128_S256x1_0_1) shapeCasts_S256x1_S256 (ix1 t) = f (ix2 t 1) := by
  pointwise
theorem column_2 (f : FVec Ideal S256x128 .f32) (t : Fin 256) :
    shapeCast S256 (extractStridedSlice S256x1 ![0, 2] f slices_S256x128_S256x1_0_2) shapeCasts_S256x1_S256 (ix1 t) = f (ix2 t 2) := by
  pointwise
end kernel

theorem algebraic : Cert.algebraic_KernelIdeal_ReferenceIdeal_pre_positions_bounded (hKernelIdeal := Cert.KernelIdeal.Gen.facts)
    (hReferenceIdeal := Cert.ReferenceIdeal.Gen.facts) (hPre_positions_bounded := facts) := by
  intro m g m' g' hpre hargs
  have hb : ∀ c : Dev Cert.KernelIdeal.nD, Pad.Bounded Pad.start (RStep.stateOf (RValue.pos m' c) (RValue.vel m' c)) := fun c => by
    have h := Start.bounded _ _ _ _ _ _ _ _ _ (hpre c)
    obtain ⟨-, h1, h2, -⟩ := hargs c
    rw [show RValue.pos m' c = _ from h1, show RValue.vel m' c = _ from h2]
    exact h
  refine ⟨fun c => RefRun.V5 m' c (Proc.devRef .tc Cert.ReferenceIdeal.main_v87), fun c => RefRun.V5 m' c (Proc.devRef .tc Cert.ReferenceIdeal.main_v89),
    fun c => RefRun.V5 m' c (Proc.devRef .tc Cert.ReferenceIdeal.main_v91), fun c => RefRun.V5 m' c (Proc.devRef .tc Cert.ReferenceIdeal.main_v85), ?_, ?_⟩
  · refine θ_run_mono (θ_run_and (KernelRun.run (F := Ideal) m g) (KernelRun.frame (F := Ideal) m g)) fun r hr c => ?_
    obtain ⟨k0, k1, k2, k3⟩ := hr.1 c
    obtain ⟨-, h1, h2, h3, h4, h5, h6, h7, h8⟩ := hargs c
    have hf : KernelRun.featsOf m c = KFeat.feats (RValue.pos m' c) (RValue.vel m' c) := by
      rw [show RValue.pos m' c = _ from h1, show RValue.vel m' c = _ from h2]; rfl
    refine ⟨k0.trans (funext fun y => ?_), k1.trans (funext fun y => ?_), k2.trans (funext fun y => ?_), k3.trans (funext fun y => ?_), hr.2.1 c⟩
    · obtain ⟨t, rfl⟩ := idx_one y
      rw [column_0, hf]
      exact (KFeat.feats_lane _ _ (hb c) t 0).trans (RValue.result_0 m' c (hb c) t).symm
    · obtain ⟨t, rfl⟩ := idx_one y
      rw [column_1, hf]
      exact (KFeat.feats_lane _ _ (hb c) t 1).trans (RValue.result_1 m' c (hb c) t).symm
    · obtain ⟨t, rfl⟩ := idx_one y
      rw [column_2, hf]
      exact (KFeat.feats_lane _ _ (hb c) t 2).trans (RValue.result_2 m' c (hb c) t).symm
    · obtain ⟨t, o, rfl⟩ := idx_two y
      refine Eq.trans ?_ (RValue.result_3 m' c (hb c) t o).symm
      unfold KernelRun.encOf
      rw [hf]
      refine (KEnc.enc_run _ _ (hb c) _ _ _ _ _ _ t o).trans ?_
      rw [show m' (((c : Dev Cert.ReferenceIdeal.nD) : Thread Cert.ReferenceIdeal.nD Cert.ReferenceIdeal.τ).loc Cert.ReferenceIdeal.main_arg3) = _ from h3,
        show m' (((c : Dev Cert.ReferenceIdeal.nD) : Thread Cert.ReferenceIdeal.nD Cert.ReferenceIdeal.τ).loc Cert.ReferenceIdeal.main_arg4) = _ from h4,
        show m' (((c : Dev Cert.ReferenceIdeal.nD) : Thread Cert.ReferenceIdeal.nD Cert.ReferenceIdeal.τ).loc Cert.ReferenceIdeal.main_arg5) = _ from h5,
        show m' (((c : Dev Cert.ReferenceIdeal.nD) : Thread Cert.ReferenceIdeal.nD Cert.ReferenceIdeal.τ).loc Cert.ReferenceIdeal.main_arg6) = _ from h6,
        show m' (((c : Dev Cert.ReferenceIdeal.nD) : Thread Cert.ReferenceIdeal.nD Cert.ReferenceIdeal.τ).loc Cert.ReferenceIdeal.main_arg7) = _ from h7,
        show m' (((c : Dev Cert.ReferenceIdeal.nD) : Thread Cert.ReferenceIdeal.nD Cert.ReferenceIdeal.τ).loc Cert.ReferenceIdeal.main_arg8) = _ from h8]
  · refine θ_run_mono (RefRun.ends (F := Ideal) m' g') fun r hr c => ?_
    obtain ⟨r0, r1, r2, r3⟩ := hr.2.2 c
    exact ⟨r0, r1, r2, r3, hr.1 c⟩

end Cert.Proof.Value

end
-- ==== Proof.lean ====
module

public import proofs.«01_k».proof.Defs
public import proofs.«01_k».proof.Proof.KernelFrame
public import proofs.«01_k».proof.Proof.KernelEntry
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's step of time is the float word of the rational that names it. -/
theorem preserves : Cert.preserves_Kernel_KernelIdeal :=
  IdealRules.named_const.statement Cert.KernelIdeal.κ "dt" .f32 0x3C23D70A#32 ((1 / 100 : ℝ) : EReal) rfl

/-- The reference runs, keeps its arguments, and leaves every counter at zero. -/
theorem frame_reference : Cert.quiescent_ReferenceIdeal (hReferenceIdeal := Cert.ReferenceIdeal.Gen.facts) :=
  fun m ρ _ => θ_run_mono (RefRun.ends (F := Ideal) m ρ) (fun _ h => And.intro h.1 h.2.1)

theorem claim : Cert.Claim :=
  ⟨Cert.Kernel.Gen.facts, Cert.KernelIdeal.Gen.facts, Cert.ReferenceIdeal.Gen.facts, Value.facts,
    fun m ρ _ => KernelFrame.frame m ρ, fun m ρ _ => KernelRun.frame m ρ, fun m ρ _ => KernelRun.frame m ρ,
    frame_reference, fun m ρ _ => frame_reference m ρ trivial, preserves, Value.algebraic⟩

end Cert.Proof

end
